-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_values [hPre_finite_values : Cert.Pre_finite_values.Facts] (m : (ℓ : Loc Cert.AttnIdeal.nD Cert.AttnIdeal.τ Cert.AttnIdeal.sig) → Buf (Elt Ideal) ℓ) : Prop :=
  ∀ c : Dev Cert.AttnIdeal.nD,
    (Cert.Pre_finite_values.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_values [hPre_finite_values : Cert.Pre_finite_values.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_values.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def Pre_Moe [hPre_experts : Cert.Pre_experts.Facts] (m : (ℓ : Loc Cert.Moe.nD Cert.Moe.τ Cert.Moe.sig) → Buf (Elt Bits) ℓ) : Prop :=
  ∀ c : Dev Cert.Moe.nD,
    (Cert.Pre_experts.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))) = (fun _ => 1#1)

def Pre_MoeIdeal [hPre_experts : Cert.Pre_experts.Facts] (m : (ℓ : Loc Cert.MoeIdeal.nD Cert.MoeIdeal.τ Cert.MoeIdeal.sig) → Buf (Elt Ideal) ℓ) : Prop :=
  ∀ c : Dev Cert.MoeIdeal.nD,
    (Cert.Pre_experts.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal [hPre_experts : Cert.Pre_experts.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite_values [hAttnIdeal : Cert.AttnIdeal.Facts] [hPre_finite_values : Cert.Pre_finite_values.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_values m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite_values [hAttnRefIdeal : Cert.AttnRefIdeal.Facts] [hPre_finite_values : Cert.Pre_finite_values.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_values m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Moe [hMoe : Cert.Moe.Facts] [hPre_experts : Cert.Pre_experts.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_experts : Cert.Pre_experts.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] [hPre_experts : Cert.Pre_experts.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_values [hAttnIdeal : Cert.AttnIdeal.Facts] [hAttnRefIdeal : Cert.AttnRefIdeal.Facts] [hPre_finite_values : Cert.Pre_finite_values.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_values m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v11)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v11) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v69) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Moe_MoeIdeal : Prop :=
  True

def algebraic_MoeIdeal_MoeRefIdeal [hMoeIdeal : Cert.MoeIdeal.Facts] [hMoeRefIdeal : Cert.MoeRefIdeal.Facts] [hPre_experts : Cert.Pre_experts.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v4)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v4) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v61) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v130_3)) (v1 : (c : Dev Cert.ProjIdeal.nD) → Buf (Elt Ideal) ((c.tc : Thread Cert.ProjIdeal.nD Cert.ProjIdeal.τ).loc Cert.ProjIdeal.main_v130_8)) (v2 : (c : Dev Cert.ProjIdeal.nD) → Buf (Elt Ideal) ((c.tc : Thread Cert.ProjIdeal.nD Cert.ProjIdeal.τ).loc Cert.ProjIdeal.main_v130_13)) (v3 : (c : Dev Cert.ProjIdeal.nD) → Buf (Elt Ideal) ((c.tc : Thread Cert.ProjIdeal.nD Cert.ProjIdeal.τ).loc Cert.ProjIdeal.main_v130_14)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v130_3) = v0 c
          ∧ r.2.mem ((c.tc : Thread Cert.ProjIdeal.nD Cert.ProjIdeal.τ).loc Cert.ProjIdeal.main_v130_8) = v1 c
          ∧ r.2.mem ((c.tc : Thread Cert.ProjIdeal.nD Cert.ProjIdeal.τ).loc Cert.ProjIdeal.main_v130_13) = v2 c
          ∧ r.2.mem ((c.tc : Thread Cert.ProjIdeal.nD Cert.ProjIdeal.τ).loc Cert.ProjIdeal.main_v130_14) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v16) = v0 c
          ∧ r.2.mem ((c.tc : Thread Cert.ProjRefIdeal.nD Cert.ProjRefIdeal.τ).loc Cert.ProjRefIdeal.main_v19) = v1 c
          ∧ r.2.mem ((c.tc : Thread Cert.ProjRefIdeal.nD Cert.ProjRefIdeal.τ).loc Cert.ProjRefIdeal.main_v30) = v2 c
          ∧ r.2.mem ((c.tc : Thread Cert.ProjRefIdeal.nD Cert.ProjRefIdeal.τ).loc Cert.ProjRefIdeal.main_v36) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)) →
    ∃ (v0 : (c : Dev Cert.PostIdeal.nD) → Buf (Elt Ideal) ((c.tc : Thread Cert.PostIdeal.nD Cert.PostIdeal.τ).loc Cert.PostIdeal.main_v20_0)) (v1 : (c : Dev Cert.PostIdeal.nD) → Buf (Elt Ideal) ((c.tc : Thread Cert.PostIdeal.nD Cert.PostIdeal.τ).loc Cert.PostIdeal.main_v20_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v20_0) = v0 c
          ∧ r.2.mem ((c.tc : Thread Cert.PostIdeal.nD Cert.PostIdeal.τ).loc Cert.PostIdeal.main_v20_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v19) = v0 c
          ∧ r.2.mem ((c.tc : Thread Cert.PostRefIdeal.nD Cert.PostRefIdeal.τ).loc Cert.PostRefIdeal.main_v33) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10))

def Claim : Prop :=
  ∃ (hAttn : Cert.Attn.Facts) (hAttnIdeal : Cert.AttnIdeal.Facts) (hAttnRefIdeal : Cert.AttnRefIdeal.Facts) (hMoe : Cert.Moe.Facts) (hMoeIdeal : Cert.MoeIdeal.Facts) (hMoeRefIdeal : Cert.MoeRefIdeal.Facts) (hProj : Cert.Proj.Facts) (hProjIdeal : Cert.ProjIdeal.Facts) (hProjRefIdeal : Cert.ProjRefIdeal.Facts) (hPost : Cert.Post.Facts) (hPostIdeal : Cert.PostIdeal.Facts) (hPostRefIdeal : Cert.PostRefIdeal.Facts) (hPre_finite_values : Cert.Pre_finite_values.Facts) (hPre_experts : Cert.Pre_experts.Facts),
    quiescent_Attn (hAttn := hAttn)
    ∧ quiescent_AttnIdeal (hAttnIdeal := hAttnIdeal)
    ∧ quiescent_AttnIdeal_pre_finite_values (hAttnIdeal := hAttnIdeal) (hPre_finite_values := hPre_finite_values)
    ∧ quiescent_AttnRefIdeal (hAttnRefIdeal := hAttnRefIdeal)
    ∧ quiescent_AttnRefIdeal_pre_finite_values (hAttnRefIdeal := hAttnRefIdeal) (hPre_finite_values := hPre_finite_values)
    ∧ quiescent_Moe (hMoe := hMoe) (hPre_experts := hPre_experts)
    ∧ quiescent_MoeIdeal (hMoeIdeal := hMoeIdeal) (hPre_experts := hPre_experts)
    ∧ quiescent_MoeRefIdeal (hMoeRefIdeal := hMoeRefIdeal) (hPre_experts := hPre_experts)
    ∧ quiescent_Proj (hProj := hProj)
    ∧ quiescent_ProjIdeal (hProjIdeal := hProjIdeal)
    ∧ quiescent_ProjRefIdeal (hProjRefIdeal := hProjRefIdeal)
    ∧ quiescent_Post (hPost := hPost)
    ∧ quiescent_PostIdeal (hPostIdeal := hPostIdeal)
    ∧ quiescent_PostRefIdeal (hPostRefIdeal := hPostRefIdeal)
    ∧ preserves_Attn_AttnIdeal
    ∧ algebraic_AttnIdeal_AttnRefIdeal_pre_finite_values (hAttnIdeal := hAttnIdeal) (hAttnRefIdeal := hAttnRefIdeal) (hPre_finite_values := hPre_finite_values)
    ∧ preserves_Moe_MoeIdeal
    ∧ algebraic_MoeIdeal_MoeRefIdeal (hMoeIdeal := hMoeIdeal) (hMoeRefIdeal := hMoeRefIdeal) (hPre_experts := hPre_experts)
    ∧ preserves_Proj_ProjIdeal
    ∧ algebraic_ProjIdeal_ProjRefIdeal (hProjIdeal := hProjIdeal) (hProjRefIdeal := hProjRefIdeal)
    ∧ preserves_Post_PostIdeal
    ∧ algebraic_PostIdeal_PostRefIdeal (hPostIdeal := hPostIdeal) (hPostRefIdeal := hPostRefIdeal)
-- ==== Pre_experts.lean ====
abbrev S1056 : Shape := ⟨1, ![1056]⟩
abbrev S1 : Shape := ⟨1, ![1]⟩
abbrev S270336x1024 : Shape := ⟨2, ![270336, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S1056 : S_.BroadcastsInDim S1056 (![] : Fin 0 → Fin S1056.rank)
  reducesTo_S1056_S_d0 : S1056.ReducesTo [0] S_
  h_S_ : 0 < S_.numel

variable [Facts]

def fn {F : FTy → Type} [FloatOps F] (main_arg0 : IVec S1056 32) (main_arg1 : IVec S1 32) (main_arg2 : FVec F S270336x1024 .bf16) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S1056 32 := broadcastInDim S1056 ![] bcast_S_S1056 main_c
  let main_v1 : IVec S1056 1 := cmpi .sge main_arg0 main_v0
  let main_c_0 : IVec S_ 32 := constantI S_ 32 32#32
  let main_v2 : IVec S1056 32 := broadcastInDim S1056 ![] bcast_S_S1056 main_c_0
  let main_v3 : IVec S1056 1 := cmpi .slt main_arg0 main_v2
  let main_v4 : IVec S1056 1 := andi main_v1 main_v3
  let main_c_1 : IVec S_ 1 := constantI S_ 1 1#1
  let main_v5 : IVec S_ 1 := (fun x v => Host.reduce IntOp.andi x v reducesTo_S1056_S_d0 h_S_) main_v4 main_c_1
  main_v5
-- ==== Pre_finite_values.lean ====
abbrev S8x8320x512 : Shape := ⟨3, ![8, 8320, 512]⟩
abbrev S1x64 : Shape := ⟨2, ![1, 64]⟩
abbrev S1x128 : Shape := ⟨2, ![1, 128]⟩
abbrev S8x8208x512 : Shape := ⟨3, ![8, 8208, 512]⟩
abbrev S_ : Shape := ⟨0, ![]⟩

class Facts : Prop where
  slices_S8x8320x512_S8x8208x512_0_0_0 : S8x8320x512.Slices ![0, 0, 0] S8x8208x512
  bitsLt_bf16_f32 : FTy.bits .bf16 < FTy.bits .f32
  bcast_S_S8x8208x512 : S_.BroadcastsInDim S8x8208x512 (![] : Fin 0 → Fin S8x8208x512.rank)
  reducesTo_S8x8208x512_S_d0_1_2 : S8x8208x512.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg6 : FVec F S1x64 .f32) (main_v15 : IVec S_ 1) (main_v16 : FVec F S1x64 .f32) (main_cst_4 : FVec F S_ .f32) : IVec S_ 1 :=
  let main_v17 : FVec F S1x64 .f32 := broadcastInDim S1x64 ![] bcast_S_S1x64 main_cst_4
  let main_v18 : IVec S1x64 1 := cmpf .olt main_v16 main_v17
  let main_c_5 : IVec S_ 1 := constantI S_ 1 1#1
  let main_v19 : IVec S_ 1 := (fun x v => Host.reduce IntOp.andi x v reducesTo_S1x64_S_d0_1 h_S_) main_v18 main_c_5
  let main_v20 : IVec S_ 1 := andi main_v15 main_v19
  let main_v21 : FVec F S1x64 .f32 := Host.absf main_arg6
  let main_cst_6 : FVec F S_ .f32 := constant S_ .f32 0x7F800000#32
  let main_v22 : FVec F S1x64 .f32 := broadcastInDim S1x64 ![] bcast_S_S1x64 main_cst_6
  let main_v23 : IVec S1x64 1 := cmpf .olt main_v21 main_v22
  let main_c_7 : IVec S_ 1 := constantI S_ 1 1#1
  let main_v24 : IVec S_ 1 := (fun x v => Host.reduce IntOp.andi x v reducesTo_S1x64_S_d0_1 h_S_) main_v23 main_c_7
  let main_v25 : IVec S_ 1 := andi main_v20 main_v24
  main_v25

def fn {F : FTy → Type} [FloatOps F] (main_arg0 : FVec F S8x8320x512 .bf16) (main_arg1 : FVec F S8x8320x512 .bf16) (main_arg2 : FVec F S8x8320x512 .bf16) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S8x8208x512 .bf16 := (extractStridedSlice S8x8208x512 ![0, 0, 0] · slices_S8x8320x512_S8x8208x512_0_0_0) main_arg2
  let main_v1 : FVec F S8x8208x512 .f32 := (extf .f32 · bitsLt_bf16_f32) main_v0
  let main_v2 : FVec F S8x8208x512 .f32 := Host.absf main_v1
  let main_cst : FVec F S_ .f32 := constant S_ .f32 0x7F800000#32
  let main_v3 : FVec F S8x8208x512 .f32 := broadcastInDim S8x8208x512 ![] bcast_S_S8x8208x512 main_cst
  let main_v4 : IVec S8x8208x512 1 := cmpf .olt main_v2 main_v3
  let main_c : IVec S_ 1 := constantI S_ 1 1#1
  let main_v5 : IVec S_ 1 := (fun x v => Host.reduce IntOp.andi x v reducesTo_S8x8208x512_S_d0_1_2 h_S_) main_v4 main_c
  let main_v6 : FVec F S1x64 .f32 := Host.absf main_arg3
  let main_cst_0 : FVec F S_ .f32 := constant S_ .f32 0x7F800000#32
  let main_v7 : FVec F S1x64 .f32 := broadcastInDim S1x64 ![] bcast_S_S1x64 main_cst_0
  let main_v8 : IVec S1x64 1 := cmpf .olt main_v6 main_v7
  let main_c_1 : IVec S_ 1 := constantI S_ 1 1#1
  let main_v9 : IVec S_ 1 := (fun x v => Host.reduce IntOp.andi x v reducesTo_S1x64_S_d0_1 h_S_) main_v8 main_c_1
  let main_v10 : IVec S_ 1 := andi main_v5 main_v9
  let main_v11 : FVec F S1x64 .f32 := Host.absf main_arg4
  let main_cst_2 : FVec F S_ .f32 := constant S_ .f32 0x7F800000#32
  let main_v12 : FVec F S1x64 .f32 := broadcastInDim S1x64 ![] bcast_S_S1x64 main_cst_2
  let main_v13 : IVec S1x64 1 := cmpf .olt main_v11 main_v12
  let main_c_3 : IVec S_ 1 := constantI S_ 1 1#1
  let main_v14 : IVec S_ 1 := (fun x v => Host.reduce IntOp.andi x v reducesTo_S1x64_S_d0_1 h_S_) main_v13 main_c_3
  let main_v15 : IVec S_ 1 := andi main_v10 main_v14
  let main_v16 : FVec F S1x64 .f32 := Host.absf main_arg5
  let main_cst_4 : FVec F S_ .f32 := constant S_ .f32 0x7F800000#32
  fn_part1 (F := F) main_arg6 main_v15 main_v16 main_cst_4
-- ==== Attn.lean ====
abbrev S8x8320x512 : Shape := ⟨3, ![8, 8320, 512]⟩
abbrev S1x64 : Shape := ⟨2, ![1, 64]⟩
abbrev S1x128 : Shape := ⟨2, ![1, 128]⟩
abbrev S32 : Shape := ⟨1, ![32]⟩
abbrev S8192x1 : Shape := ⟨2, ![8192, 1]⟩
abbrev S16x1x512 : Shape := ⟨3, ![16, 1, 512]⟩
abbrev S64 : Shape := ⟨1, ![64]⟩
abbrev S4x64 : Shape := ⟨2, ![4, 64]⟩
abbrev S128 : Shape := ⟨1, ![128]⟩
abbrev S8x8192x512 : Shape := ⟨3, ![8, 8192, 512]⟩
abbrev S1x256x128 : Shape := ⟨3, ![1, 256, 128]⟩
abbrev S1x8320x128 : Shape := ⟨3, ![1, 8320, 128]⟩
abbrev S256x1 : Shape := ⟨2, ![256, 1]⟩
abbrev S512x128 : Shape := ⟨2, ![512, 128]⟩
abbrev S256x128 : Shape := ⟨2, ![256, 128]⟩
abbrev S512x1 : Shape := ⟨2, ![512, 1]⟩
abbrev S1 : Shape := ⟨1, ![1]⟩
abbrev S1x512x128 : Shape := ⟨3, ![1, 512, 128]⟩
abbrev S1x1x512 : Shape := ⟨3, ![1, 1, 512]⟩
abbrev S1x512 : Shape := ⟨2, ![1, 512]⟩
abbrev S512x512 : Shape := ⟨2, ![512, 512]⟩
abbrev S512 : Shape := ⟨1, ![512]⟩
abbrev S1x128x128 : Shape := ⟨3, ![1, 128, 128]⟩
abbrev S128x128 : Shape := ⟨2, ![128, 128]⟩
abbrev S1x1 : Shape := ⟨2, ![1, 1]⟩
abbrev S256 : Shape := ⟨1, ![256]⟩

abbrev nBuf : Space → Nat
  | .hbm => 23
  | .vmem => 17
  | .smem => 1
  | _ => 0

abbrev bufTy : (tb : Table) → Fin (tcTables nBuf tb) → BufTy
  | .hbm, ⟨0, _⟩ => ⟨S8x8320x512, .bf16⟩
  | .hbm, ⟨1, _⟩ => ⟨S8x8320x512, .bf16⟩
  | .hbm, ⟨2, _⟩ => ⟨S8x8320x512, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S8192x1, .i32⟩
  | .hbm, ⟨9, _⟩ => ⟨S16x1x512, .i32⟩
  | .hbm, ⟨10, _⟩ => ⟨S1x128, .i32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S4x64, .f32⟩
  | .hbm, ⟨20, _⟩ => ⟨S128, .f32⟩
  | .hbm, ⟨21, _⟩ => ⟨S1x128, .f32⟩
  | .hbm, ⟨22, _⟩ => ⟨S8x8192x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x8320x128, .bf16⟩
  | .local _ .vmem, ⟨3, _⟩ => ⟨S1x8320x128, .bf16⟩
  | .local _ .vmem, ⟨4, _⟩ => ⟨S1x8320x128, .bf16⟩
  | .local _ .vmem, ⟨5, _⟩ => ⟨S1x8320x128, .bf16⟩
  | .local _ .vmem, ⟨6, _⟩ => ⟨S256x1, .i32⟩
  | .local _ .vmem, ⟨7, _⟩ => ⟨S256x1, .i32⟩
  | .local _ .vmem, ⟨8, _⟩ => ⟨S16x1x512, .i32⟩
  | .local _ .vmem, ⟨9, _⟩ => ⟨S1x128, .i32⟩
  | .local _ .vmem, ⟨10, _⟩ => ⟨S4x64, .f32⟩
  | .local _ .vmem, ⟨11, _⟩ => ⟨S1x128, .f32⟩
  | .local _ .vmem, ⟨12, _⟩ => ⟨S1x256x128, .bf16⟩
  | .local _ .vmem, ⟨13, _⟩ => ⟨S1x256x128, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .smem, ⟨0, _⟩ => ⟨S32, .i32⟩
  | _, _ => ⟨S8x8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![8, 4, 32], ![false, false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg2 : BitVec 32 := BitVec.ofNat 32 (i 2).val
  let v25 : Index := Scalar.indexCast arg2
  ![v25.toNat]
@[reducible] def k0_t1_loop (v26 : BitVec 32) : Scf.Loop 32 :=
  let c0_i32_14 : BitVec 32 := 0#32
  let v27 : BitVec 32 := Scalar.subi v26 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_15 : BitVec 32 := 1#32
  ⟨c0_i32_14, v31, c1_i32_15⟩

def k0_mult1 (v26 : BitVec 32) (k0_t1 : Fin (k0_t1_loop v26).trips) : BitVec 32 :=
  let c0_i32_14 : BitVec 32 := 0#32
  let c1_i32_15 : BitVec 32 := 1#32
  let arg16 : BitVec 32 := Scf.iv c0_i32_14 c1_i32_15 k0_t1
  let c512_i32 : BitVec 32 := 512#32
  let v119 : BitVec 32 := Scalar.muli arg16 c512_i32
  v119
def k0_off2 (v26 : BitVec 32) (k0_t1 : Fin (k0_t1_loop v26).trips) : Fin 3 → Nat :=
  let c0_62 : Index := 0#32
  let c0_i32_14 : BitVec 32 := 0#32
  let c1_i32_15 : BitVec 32 := 1#32
  let arg16 : BitVec 32 := Scf.iv c0_i32_14 c1_i32_15 k0_t1
  let c512_i32 : BitVec 32 := 512#32
  let v119 : BitVec 32 := Scalar.muli arg16 c512_i32
  let v120 : BitVec 32 := v119
  let v121 : Index := Scalar.indexCast v120
  let c0_63 : Index := 0#32
  ![0, v121.toNat, 0]
def k0_off3 (v26 : BitVec 32) (k0_t1 : Fin (k0_t1_loop v26).trips) : Fin 3 → Nat :=
  let c0_i32_14 : BitVec 32 := 0#32
  let c1_i32_15 : BitVec 32 := 1#32
  let arg16 : BitVec 32 := Scf.iv c0_i32_14 c1_i32_15 k0_t1
  let v127 : Index := Scalar.indexCast arg16
  let c0_66 : Index := 0#32
  let c0_67 : Index := 0#32
  ![v127.toNat, 0, 0]
@[reducible] def k0_t2_loop (v26 : BitVec 32) : Scf.Loop 32 :=
  let c0_i32_14 : BitVec 32 := 0#32
  let v27 : BitVec 32 := Scalar.subi v26 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let v28 : BitVec 32 := Scalar.addi c0_i32_14 v27
  let c1_i32_16 : BitVec 32 := 1#32
  ⟨v31, v28, c1_i32_16⟩
def k0_mult2 (v26 : BitVec 32) (k0_t2 : Fin (k0_t2_loop v26).trips) : BitVec 32 :=
  let c0_i32_14 : BitVec 32 := 0#32
  let v27 : BitVec 32 := Scalar.subi v26 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg16 : BitVec 32 := Scf.iv v31 c1_i32_16 k0_t2
  let c512_i32 : BitVec 32 := 512#32
  let v119 : BitVec 32 := Scalar.muli arg16 c512_i32
  v119
def k0_off4 (v26 : BitVec 32) (k0_t2 : Fin (k0_t2_loop v26).trips) : Fin 3 → Nat :=
  let c0_62 : Index := 0#32
  let c0_i32_14 : BitVec 32 := 0#32
  let v27 : BitVec 32 := Scalar.subi v26 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg16 : BitVec 32 := Scf.iv v31 c1_i32_16 k0_t2
  let c512_i32 : BitVec 32 := 512#32
  let v119 : BitVec 32 := Scalar.muli arg16 c512_i32
  let v120 : BitVec 32 := v119
  let v121 : Index := Scalar.indexCast v120
  let c0_63 : Index := 0#32
  ![0, v121.toNat, 0]
def k0_off5 (v26 : BitVec 32) (k0_t2 : Fin (k0_t2_loop v26).trips) : Fin 3 → Nat :=
  let c0_i32_14 : BitVec 32 := 0#32
  let v27 : BitVec 32 := Scalar.subi v26 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg16 : BitVec 32 := Scf.iv v31 c1_i32_16 k0_t2
  let v127 : Index := Scalar.indexCast arg16
  let c0_66 : Index := 0#32
  let c0_67 : Index := 0#32
  ![v127.toNat, 0, 0]

def k0_chk1 (v26 : BitVec 32) : Prop :=
  ((k0_t1_loop v26).OK) ∧
  (∀ k0_t1 : Fin (k0_t1_loop v26).trips, 512 ∣ (k0_mult1 v26 k0_t1).toNat) ∧
  (∀ k0_t1 : Fin (k0_t1_loop v26).trips, ∀ a, (k0_off2 v26 k0_t1) a + S1x512x128.size a ≤ S1x8320x128.size a) ∧
  (∀ k0_t1 : Fin (k0_t1_loop v26).trips, ∀ a, (k0_off3 v26 k0_t1) a + S1x1x512.size a ≤ S16x1x512.size a) ∧
  ((k0_t2_loop v26).OK) ∧
  (∀ k0_t2 : Fin (k0_t2_loop v26).trips, 512 ∣ (k0_mult2 v26 k0_t2).toNat) ∧
  (∀ k0_t2 : Fin (k0_t2_loop v26).trips, ∀ a, (k0_off4 v26 k0_t2) a + S1x512x128.size a ≤ S1x8320x128.size a) ∧
  (∀ k0_t2 : Fin (k0_t2_loop v26).trips, ∀ a, (k0_off5 v26 k0_t2) a + S1x1x512.size a ≤ S16x1x512.size a)
theorem k0_t1_ok : ∀ (v26 : BitVec 32) (k0_hw1 : k0_chk1 v26), (k0_t1_loop v26).OK := fun v26 k0_hw1 => k0_hw1.1
theorem k0_mult1_dvd : ∀ (v26 : BitVec 32) (k0_hw1 : k0_chk1 v26) (k0_t1 : Fin (k0_t1_loop v26).trips), 512 ∣ (k0_mult1 v26 k0_t1).toNat := fun v26 k0_hw1 k0_t1 => k0_hw1.2.1 k0_t1
theorem k0_off2_inb : ∀ (v26 : BitVec 32) (k0_hw1 : k0_chk1 v26) (k0_t1 : Fin (k0_t1_loop v26).trips), ∀ a, (k0_off2 v26 k0_t1) a + S1x512x128.size a ≤ S1x8320x128.size a := fun v26 k0_hw1 k0_t1 => k0_hw1.2.2.1 k0_t1
theorem k0_off3_inb : ∀ (v26 : BitVec 32) (k0_hw1 : k0_chk1 v26) (k0_t1 : Fin (k0_t1_loop v26).trips), ∀ a, (k0_off3 v26 k0_t1) a + S1x1x512.size a ≤ S16x1x512.size a := fun v26 k0_hw1 k0_t1 => k0_hw1.2.2.2.1 k0_t1
theorem k0_t2_ok : ∀ (v26 : BitVec 32) (k0_hw1 : k0_chk1 v26), (k0_t2_loop v26).OK := fun v26 k0_hw1 => k0_hw1.2.2.2.2.1
theorem k0_mult2_dvd : ∀ (v26 : BitVec 32) (k0_hw1 : k0_chk1 v26) (k0_t2 : Fin (k0_t2_loop v26).trips), 512 ∣ (k0_mult2 v26 k0_t2).toNat := fun v26 k0_hw1 k0_t2 => k0_hw1.2.2.2.2.2.1 k0_t2
theorem k0_off4_inb : ∀ (v26 : BitVec 32) (k0_hw1 : k0_chk1 v26) (k0_t2 : Fin (k0_t2_loop v26).trips), ∀ a, (k0_off4 v26 k0_t2) a + S1x512x128.size a ≤ S1x8320x128.size a := fun v26 k0_hw1 k0_t2 => k0_hw1.2.2.2.2.2.2.1 k0_t2
theorem k0_off5_inb : ∀ (v26 : BitVec 32) (k0_hw1 : k0_chk1 v26) (k0_t2 : Fin (k0_t2_loop v26).trips), ∀ a, (k0_off5 v26 k0_t2) a + S1x1x512.size a ≤ S16x1x512.size a := fun v26 k0_hw1 k0_t2 => k0_hw1.2.2.2.2.2.2.2 k0_t2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8320x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8320x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S16x1x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S8x8320x512 : Shape := ⟨3, ![8, 8320, 512]⟩
abbrev S1x64 : Shape := ⟨2, ![1, 64]⟩
abbrev S1x128 : Shape := ⟨2, ![1, 128]⟩
abbrev S64 : Shape := ⟨1, ![64]⟩
abbrev S_ : Shape := ⟨0, ![]⟩
abbrev S8192 : Shape := ⟨1, ![8192]⟩
abbrev S16 : Shape := ⟨1, ![16]⟩
abbrev S8208 : Shape := ⟨1, ![8208]⟩
abbrev S8x8192x512 : Shape := ⟨3, ![8, 8192, 512]⟩
abbrev S8x8192x4x2x64 : Shape := ⟨5, ![8, 8192, 4, 2, 64]⟩
abbrev S8x8208x512 : Shape := ⟨3, ![8, 8208, 512]⟩
abbrev S8x8208x4x2x64 : Shape := ⟨5, ![8, 8208, 4, 2, 64]⟩
abbrev S8x8208x4x128 : Shape := ⟨4, ![8, 8208, 4, 128]⟩
abbrev S8x4x2x8192x8208 : Shape := ⟨5, ![8, 4, 2, 8192, 8208]⟩
abbrev S1x8208 : Shape := ⟨2, ![1, 8208]⟩
abbrev S8192x1 : Shape := ⟨2, ![8192, 1]⟩
abbrev S8192x8208 : Shape := ⟨2, ![8192, 8208]⟩
abbrev S8x4x2x8192 : Shape := ⟨4, ![8, 4, 2, 8192]⟩
abbrev S8x4x2x8192x1 : Shape := ⟨5, ![8, 4, 2, 8192, 1]⟩
abbrev S8x4x1x8192x8208 : Shape := ⟨5, ![8, 4, 1, 8192, 8208]⟩
abbrev S8x4x8192x8208 : Shape := ⟨4, ![8, 4, 8192, 8208]⟩
abbrev S8x4x128x8192 : Shape := ⟨4, ![8, 4, 128, 8192]⟩
abbrev S8x8192x4x128 : Shape := ⟨4, ![8, 8192, 4, 128]⟩
abbrev S8x8192x4 : Shape := ⟨3, ![8, 8192, 4]⟩
abbrev S8x8192x4x1 : Shape := ⟨4, ![8, 8192, 4, 1]⟩
abbrev S128 : Shape := ⟨1, ![128]⟩
abbrev S1x1x1x128 : Shape := ⟨4, ![1, 1, 1, 128]⟩

abbrev nBuf : Space → Nat
  | .hbm => 110
  | .vmem => 0
  | .smem => 0
  | _ => 0

abbrev bufTy : (tb : Table) → Fin (tcTables nBuf tb) → BufTy
  | .hbm, ⟨0, _⟩ => ⟨S8x8320x512, .bf16⟩
  | .hbm, ⟨1, _⟩ => ⟨S8x8320x512, .bf16⟩
  | .hbm, ⟨2, _⟩ => ⟨S8x8320x512, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .i32⟩
  | .hbm, ⟨24, _⟩ => ⟨S_, .i32⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S8192, .i32⟩
  | .hbm, ⟨33, _⟩ => ⟨S8192, .i32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S_, .i32⟩
  | .hbm, ⟨43, _⟩ => ⟨S16, .i32⟩
  | .hbm, ⟨44, _⟩ => ⟨S8208, .i32⟩
  | .hbm, ⟨45, _⟩ => ⟨S8x8192x512, .bf16⟩
  | .hbm, ⟨46, _⟩ => ⟨S8x8192x512, .f32⟩
  | .hbm, ⟨47, _⟩ => ⟨S8x8192x4x2x64, .f32⟩
  | .hbm, ⟨48, _⟩ => ⟨S8x8208x512, .bf16⟩
  | .hbm, ⟨49, _⟩ => ⟨S8x8208x512, .f32⟩
  | .hbm, ⟨50, _⟩ => ⟨S8x8208x4x2x64, .f32⟩
  | .hbm, ⟨51, _⟩ => ⟨S8x8208x512, .bf16⟩
  | .hbm, ⟨52, _⟩ => ⟨S8x8208x512, .f32⟩
  | .hbm, ⟨53, _⟩ => ⟨S8x8208x4x128, .f32⟩
  | .hbm, ⟨54, _⟩ => ⟨S8x4x2x8192x8208, .f32⟩
  | .hbm, ⟨55, _⟩ => ⟨S1x8208, .i32⟩
  | .hbm, ⟨56, _⟩ => ⟨S8192x1, .i32⟩
  | .hbm, ⟨57, _⟩ => ⟨S8192x8208, .i32⟩
  | .hbm, ⟨58, _⟩ => ⟨S8192x8208, .i32⟩
  | .hbm, ⟨59, _⟩ => ⟨S8192x8208, .i1⟩
  | .hbm, ⟨60, _⟩ => ⟨S_, .f32⟩
  | .hbm, ⟨61, _⟩ => ⟨S_, .f32⟩
  | .hbm, ⟨62, _⟩ => ⟨S8x4x2x8192x8208, .i1⟩
  | .hbm, ⟨63, _⟩ => ⟨S8x4x2x8192x8208, .f32⟩
  | .hbm, ⟨64, _⟩ => ⟨S8x4x2x8192x8208, .f32⟩
  | .hbm, ⟨65, _⟩ => ⟨S_, .f32⟩
  | .hbm, ⟨66, _⟩ => ⟨S8x4x2x8192, .f32⟩
  | .hbm, ⟨67, _⟩ => ⟨S_, .f32⟩
  | .hbm, ⟨68, _⟩ => ⟨S8x4x2x8192, .f32⟩
  | .hbm, ⟨69, _⟩ => ⟨S8x4x2x8192, .f32⟩
  | .hbm, ⟨70, _⟩ => ⟨S8x4x2x8192x1, .f32⟩
  | .hbm, ⟨71, _⟩ => ⟨S8x4x2x8192x8208, .f32⟩
  | .hbm, ⟨72, _⟩ => ⟨S8x4x2x8192x8208, .f32⟩
  | .hbm, ⟨73, _⟩ => ⟨S8x4x2x8192x8208, .f32⟩
  | .hbm, ⟨74, _⟩ => ⟨S_, .f32⟩
  | .hbm, ⟨75, _⟩ => ⟨S8x4x2x8192, .f32⟩
  | .hbm, ⟨76, _⟩ => ⟨S8x4x2x8192x1, .f32⟩
  | .hbm, ⟨77, _⟩ => ⟨S8x4x2x8192x8208, .f32⟩
  | .hbm, ⟨78, _⟩ => ⟨S8x4x2x8192x8208, .f32⟩
  | .hbm, ⟨79, _⟩ => ⟨S8x4x1x8192x8208, .f32⟩
  | .hbm, ⟨80, _⟩ => ⟨S8x4x8192x8208, .f32⟩
  | .hbm, ⟨81, _⟩ => ⟨S8x4x1x8192x8208, .f32⟩
  | .hbm, ⟨82, _⟩ => ⟨S8x4x8192x8208, .f32⟩
  | .hbm, ⟨83, _⟩ => ⟨S8x4x8192x8208, .f32⟩
  | .hbm, ⟨84, _⟩ => ⟨S8x4x8192x8208, .f32⟩
  | .hbm, ⟨85, _⟩ => ⟨S8x4x8192x8208, .f32⟩
  | .hbm, ⟨86, _⟩ => ⟨S8x4x128x8192, .f32⟩
  | .hbm, ⟨87, _⟩ => ⟨S8x8192x4x128, .f32⟩
  | .hbm, ⟨88, _⟩ => ⟨S8x8192x4x128, .f32⟩
  | .hbm, ⟨89, _⟩ => ⟨S_, .f32⟩
  | .hbm, ⟨90, _⟩ => ⟨S8x8192x4, .f32⟩
  | .hbm, ⟨91, _⟩ => ⟨S8x8192x4x1, .f32⟩
  | .hbm, ⟨92, _⟩ => ⟨S_, .f32⟩
  | .hbm, ⟨93, _⟩ => ⟨S8x8192x4x1, .f32⟩
  | .hbm, ⟨94, _⟩ => ⟨S8x8192x4x1, .f32⟩
  | .hbm, ⟨95, _⟩ => ⟨S_, .f32⟩
  | .hbm, ⟨96, _⟩ => ⟨S8x8192x4x1, .f32⟩
  | .hbm, ⟨97, _⟩ => ⟨S8x8192x4x1, .f32⟩
  | .hbm, ⟨98, _⟩ => ⟨S8x8192x4x1, .f32⟩
  | .hbm, ⟨99, _⟩ => ⟨S8x8192x4x128, .f32⟩
  | .hbm, ⟨100, _⟩ => ⟨S8x8192x4x128, .f32⟩
  | .hbm, ⟨101, _⟩ => ⟨S128, .f32⟩
  | .hbm, ⟨102, _⟩ => ⟨S1x1x1x128, .f32⟩
  | .hbm, ⟨103, _⟩ => ⟨S8x8192x4x128, .f32⟩
  | .hbm, ⟨104, _⟩ => ⟨S8x8192x4x128, .f32⟩
  | .hbm, ⟨105, _⟩ => ⟨S_, .f32⟩
  | .hbm, ⟨106, _⟩ => ⟨S8x8192x4x128, .f32⟩
  | .hbm, ⟨107, _⟩ => ⟨S8x8192x4x128, .f32⟩
  | .hbm, ⟨108, _⟩ => ⟨S8x8192x512, .f32⟩
  | .hbm, ⟨109, _⟩ => ⟨S8x8192x512, .bf16⟩
  | _, _ => ⟨S8x8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v13 : Ref sig .tc := ⟨.hbm, 41, rfl⟩
abbrev main_c_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_3 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v31 : Ref sig .tc := ⟨.hbm, 64, rfl⟩
abbrev main_cst_4 : Ref sig .tc := ⟨.hbm, 65, rfl⟩
abbrev main_v32 : Ref sig .tc := ⟨.hbm, 66, rfl⟩
abbrev main_cst_5 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_6 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_7 : Ref sig .tc := ⟨.hbm, 89, rfl⟩
abbrev main_v53 : Ref sig .tc := ⟨.hbm, 90, rfl⟩
abbrev main_v54 : Ref sig .tc := ⟨.hbm, 91, rfl⟩
abbrev main_cst_8 : Ref sig .tc := ⟨.hbm, 92, rfl⟩
abbrev main_v55 : Ref sig .tc := ⟨.hbm, 93, rfl⟩
abbrev main_v56 : Ref sig .tc := ⟨.hbm, 94, rfl⟩
abbrev main_cst_9 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_10 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩

abbrev nD : Nat := 1
abbrev τ : Topo := Topo.v7x

variable {F : FTy → Type} [FloatOps F]
-- ==== Moe.lean ====
abbrev S1056 : Shape := ⟨1, ![1056]⟩
abbrev S1 : Shape := ⟨1, ![1]⟩
abbrev S270336x1024 : Shape := ⟨2, ![270336, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 10
  | .vmem => 12
  | .smem => 2
  | _ => 0

abbrev bufTy : (tb : Table) → Fin (tcTables nBuf tb) → BufTy
  | .hbm, ⟨0, _⟩ => ⟨S270336x1024, .bf16⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x2048, .bf16⟩
  | .hbm, ⟨6, _⟩ => ⟨S32x1x2048, .f32⟩
  | .hbm, ⟨7, _⟩ => ⟨S32x1024x1024, .bf16⟩
  | .hbm, ⟨8, _⟩ => ⟨S32x1x1024, .f32⟩
  | .hbm, ⟨9, _⟩ => ⟨S270336x1024, .f32⟩
  | .local _ .vmem, ⟨0, _⟩ => ⟨S256x1024, .bf16⟩
  | .local _ .vmem, ⟨1, _⟩ => ⟨S256x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .smem, ⟨0, _⟩ => ⟨S1056, .i32⟩
  | .local _ .smem, ⟨1, _⟩ => ⟨S1, .i32⟩
  | _, _ => ⟨S270336x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![1056], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S1056.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1056) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S1056.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1056) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S1056.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1056) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S1056.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1056) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MoeRefIdeal.lean ====
abbrev S1056 : Shape := ⟨1, ![1056]⟩
abbrev S1 : Shape := ⟨1, ![1]⟩
abbrev S270336x1024 : Shape := ⟨2, ![270336, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S1056x256x1024 : Shape := ⟨3, ![1056, 256, 1024]⟩
abbrev S_ : Shape := ⟨0, ![]⟩
abbrev S1056x1 : Shape := ⟨2, ![1056, 1]⟩
abbrev S1056x1024x2048 : Shape := ⟨3, ![1056, 1024, 2048]⟩
abbrev S1056x256x2048 : Shape := ⟨3, ![1056, 256, 2048]⟩
abbrev S1056x2048 : Shape := ⟨2, ![1056, 2048]⟩
abbrev S1056x1x2048 : Shape := ⟨3, ![1056, 1, 2048]⟩
abbrev S1056x1024x1024 : Shape := ⟨3, ![1056, 1024, 1024]⟩
abbrev S1056x1024 : Shape := ⟨2, ![1056, 1024]⟩
abbrev S1056x1x1024 : Shape := ⟨3, ![1056, 1, 1024]⟩
abbrev S1056x1x1 : Shape := ⟨3, ![1056, 1, 1]⟩

abbrev nBuf : Space → Nat
  | .hbm => 93
  | .vmem => 0
  | .smem => 0
  | _ => 0

abbrev bufTy : (tb : Table) → Fin (tcTables nBuf tb) → BufTy
  | .hbm, ⟨0, _⟩ => ⟨S1056, .i32⟩
  | .hbm, ⟨1, _⟩ => ⟨S1, .i32⟩
  | .hbm, ⟨2, _⟩ => ⟨S270336x1024, .bf16⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S270336x1024, .f32⟩
  | .hbm, ⟨8, _⟩ => ⟨S1056x256x1024, .f32⟩
  | .hbm, ⟨9, _⟩ => ⟨S_, .i32⟩
  | .hbm, ⟨10, _⟩ => ⟨S1056, .i32⟩
  | .hbm, ⟨11, _⟩ => ⟨S1056, .i1⟩
  | .hbm, ⟨12, _⟩ => ⟨S_, .i32⟩
  | .hbm, ⟨13, _⟩ => ⟨S1056, .i32⟩
  | .hbm, ⟨14, _⟩ => ⟨S1056, .i32⟩
  | .hbm, ⟨15, _⟩ => ⟨S1056, .i32⟩
  | .hbm, ⟨16, _⟩ => ⟨S1056x1, .i32⟩
  | .hbm, ⟨17, _⟩ => ⟨S1056x1024x2048, .f32⟩
  | .hbm, ⟨18, _⟩ => ⟨S1056x256x2048, .f32⟩
  | .hbm, ⟨19, _⟩ => ⟨S_, .i32⟩
  | .hbm, ⟨20, _⟩ => ⟨S1056, .i32⟩
  | .hbm, ⟨21, _⟩ => ⟨S1056, .i1⟩
  | .hbm, ⟨22, _⟩ => ⟨S_, .i32⟩
  | .hbm, ⟨23, _⟩ => ⟨S1056, .i32⟩
  | .hbm, ⟨24, _⟩ => ⟨S1056, .i32⟩
  | .hbm, ⟨25, _⟩ => ⟨S1056, .i32⟩
  | .hbm, ⟨26, _⟩ => ⟨S1056x1, .i32⟩
  | .hbm, ⟨27, _⟩ => ⟨S1056x2048, .f32⟩
  | .hbm, ⟨28, _⟩ => ⟨S1056x1x2048, .f32⟩
  | .hbm, ⟨29, _⟩ => ⟨S1056x256x2048, .f32⟩
  | .hbm, ⟨30, _⟩ => ⟨S1056x256x2048, .f32⟩
  | .hbm, ⟨31, _⟩ => ⟨S1056x256x1024, .f32⟩
  | .hbm, ⟨32, _⟩ => ⟨S_, .f32⟩
  | .hbm, ⟨33, _⟩ => ⟨S1056x256x1024, .f32⟩
  | .hbm, ⟨34, _⟩ => ⟨S1056x256x1024, .f32⟩
  | .hbm, ⟨35, _⟩ => ⟨S1056x256x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1056x256x1024, .f32⟩
  | .hbm, ⟨40, _⟩ => ⟨S1056x256x1024, .f32⟩
  | .hbm, ⟨41, _⟩ => ⟨S_, .f32⟩
  | .hbm, ⟨42, _⟩ => ⟨S1056x256x1024, .f32⟩
  | .hbm, ⟨43, _⟩ => ⟨S1056x256x1024, .f32⟩
  | .hbm, ⟨44, _⟩ => ⟨S_, .f32⟩
  | .hbm, ⟨45, _⟩ => ⟨S1056x256x1024, .f32⟩
  | .hbm, ⟨46, _⟩ => ⟨S1056x256x1024, .f32⟩
  | .hbm, ⟨47, _⟩ => ⟨S1056x256x1024, .f32⟩
  | .hbm, ⟨48, _⟩ => ⟨S1056x256x1024, .f32⟩
  | .hbm, ⟨49, _⟩ => ⟨S_, .f32⟩
  | .hbm, ⟨50, _⟩ => ⟨S1056x256x1024, .f32⟩
  | .hbm, ⟨51, _⟩ => ⟨S1056x256x1024, .f32⟩
  | .hbm, ⟨52, _⟩ => ⟨S_, .f32⟩
  | .hbm, ⟨53, _⟩ => ⟨S1056x256x1024, .f32⟩
  | .hbm, ⟨54, _⟩ => ⟨S1056x256x1024, .f32⟩
  | .hbm, ⟨55, _⟩ => ⟨S1056x256x1024, .f32⟩
  | .hbm, ⟨56, _⟩ => ⟨S_, .f32⟩
  | .hbm, ⟨57, _⟩ => ⟨S1056x256x1024, .f32⟩
  | .hbm, ⟨58, _⟩ => ⟨S1056x256x1024, .f32⟩
  | .hbm, ⟨59, _⟩ => ⟨S1056x256x1024, .f32⟩
  | .hbm, ⟨60, _⟩ => ⟨S_, .i32⟩
  | .hbm, ⟨61, _⟩ => ⟨S1056, .i32⟩
  | .hbm, ⟨62, _⟩ => ⟨S1056, .i1⟩
  | .hbm, ⟨63, _⟩ => ⟨S_, .i32⟩
  | .hbm, ⟨64, _⟩ => ⟨S1056, .i32⟩
  | .hbm, ⟨65, _⟩ => ⟨S1056, .i32⟩
  | .hbm, ⟨66, _⟩ => ⟨S1056, .i32⟩
  | .hbm, ⟨67, _⟩ => ⟨S1056x1, .i32⟩
  | .hbm, ⟨68, _⟩ => ⟨S1056x1024x1024, .f32⟩
  | .hbm, ⟨69, _⟩ => ⟨S1056x256x1024, .f32⟩
  | .hbm, ⟨70, _⟩ => ⟨S_, .i32⟩
  | .hbm, ⟨71, _⟩ => ⟨S1056, .i32⟩
  | .hbm, ⟨72, _⟩ => ⟨S1056, .i1⟩
  | .hbm, ⟨73, _⟩ => ⟨S_, .i32⟩
  | .hbm, ⟨74, _⟩ => ⟨S1056, .i32⟩
  | .hbm, ⟨75, _⟩ => ⟨S1056, .i32⟩
  | .hbm, ⟨76, _⟩ => ⟨S1056, .i32⟩
  | .hbm, ⟨77, _⟩ => ⟨S1056x1, .i32⟩
  | .hbm, ⟨78, _⟩ => ⟨S1056x1024, .f32⟩
  | .hbm, ⟨79, _⟩ => ⟨S1056x1x1024, .f32⟩
  | .hbm, ⟨80, _⟩ => ⟨S1056x256x1024, .f32⟩
  | .hbm, ⟨81, _⟩ => ⟨S1056x256x1024, .f32⟩
  | .hbm, ⟨82, _⟩ => ⟨S1056, .i32⟩
  | .hbm, ⟨83, _⟩ => ⟨S_, .i32⟩
  | .hbm, ⟨84, _⟩ => ⟨S1056, .i32⟩
  | .hbm, ⟨85, _⟩ => ⟨S1056, .i1⟩
  | .hbm, ⟨86, _⟩ => ⟨S1056x1x1, .i1⟩
  | .hbm, ⟨87, _⟩ => ⟨S_, .f32⟩
  | .hbm, ⟨88, _⟩ => ⟨S_, .f32⟩
  | .hbm, ⟨89, _⟩ => ⟨S1056x256x1024, .i1⟩
  | .hbm, ⟨90, _⟩ => ⟨S1056x256x1024, .f32⟩
  | .hbm, ⟨91, _⟩ => ⟨S1056x256x1024, .f32⟩
  | .hbm, ⟨92, _⟩ => ⟨S270336x1024, .f32⟩
  | _, _ => ⟨S1056, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== Proj.lean ====
abbrev S8x8320x1024 : Shape := ⟨3, ![8, 8320, 1024]⟩
abbrev S8320 : Shape := ⟨1, ![8320]⟩
abbrev S1024 : Shape := ⟨1, ![1024]⟩
abbrev S1024x4648 : Shape := ⟨2, ![1024, 4648]⟩
abbrev S1024x512 : Shape := ⟨2, ![1024, 512]⟩
abbrev S1024x128 : Shape := ⟨2, ![1024, 128]⟩
abbrev S1024x256 : Shape := ⟨2, ![1024, 256]⟩
abbrev S1024x32 : Shape := ⟨2, ![1024, 32]⟩
abbrev S1024x8 : Shape := ⟨2, ![1024, 8]⟩
abbrev S1024x1024 : Shape := ⟨2, ![1024, 1024]⟩
abbrev S_ : Shape := ⟨0, ![]⟩
abbrev S1024x64 : Shape := ⟨2, ![1024, 64]⟩
abbrev S1024x88 : Shape := ⟨2, ![1024, 88]⟩
abbrev S1x1024x1x32 : Shape := ⟨4, ![1, 1024, 1, 32]⟩
abbrev S1x1024x8x32 : Shape := ⟨4, ![1, 1024, 8, 32]⟩
abbrev S1024x2368 : Shape := ⟨2, ![1024, 2368]⟩
abbrev S1024x3136 : Shape := ⟨2, ![1024, 3136]⟩
abbrev S1024x5504 : Shape := ⟨2, ![1024, 5504]⟩
abbrev S8 : Shape := ⟨1, ![8]⟩
abbrev S8320x1 : Shape := ⟨2, ![8320, 1]⟩
abbrev S1x8 : Shape := ⟨2, ![1, 8]⟩
abbrev S8320x8 : Shape := ⟨2, ![8320, 8]⟩
abbrev S8320x48 : Shape := ⟨2, ![8320, 48]⟩
abbrev S8320x64 : Shape := ⟨2, ![8320, 64]⟩
abbrev S8320x56 : Shape := ⟨2, ![8320, 56]⟩
abbrev S1x8320x1x64 : Shape := ⟨4, ![1, 8320, 1, 64]⟩
abbrev S1x8320x2x64 : Shape := ⟨4, ![1, 8320, 2, 64]⟩
abbrev S8320x128 : Shape := ⟨2, ![8320, 128]⟩
abbrev S4 : Shape := ⟨1, ![4]⟩
abbrev S1x4 : Shape := ⟨2, ![1, 4]⟩
abbrev S8320x4 : Shape := ⟨2, ![8320, 4]⟩
abbrev S8320x24 : Shape := ⟨2, ![8320, 24]⟩
abbrev S8320x32 : Shape := ⟨2, ![8320, 32]⟩
abbrev S8320x28 : Shape := ⟨2, ![8320, 28]⟩
abbrev S1x8320x1x32 : Shape := ⟨4, ![1, 8320, 1, 32]⟩
abbrev S1x8320x4x32 : Shape := ⟨4, ![1, 8320, 4, 32]⟩
abbrev S8320x120 : Shape := ⟨2, ![8320, 120]⟩
abbrev S8320x124 : Shape := ⟨2, ![8320, 124]⟩
abbrev S1x8320x1x128 : Shape := ⟨4, ![1, 8320, 1, 128]⟩
abbrev S8320x1152 : Shape := ⟨2, ![8320, 1152]⟩
abbrev S1x1024 : Shape := ⟨2, ![1, 1024]⟩
abbrev S8x8320x512 : Shape := ⟨3, ![8, 8320, 512]⟩
abbrev S8x8320x128 : Shape := ⟨3, ![8, 8320, 128]⟩
abbrev S8x8320x256 : Shape := ⟨3, ![8, 8320, 256]⟩
abbrev S1x320x1024 : Shape := ⟨3, ![1, 320, 1024]⟩
abbrev S320x1152 : Shape := ⟨2, ![320, 1152]⟩
abbrev S1x320x512 : Shape := ⟨3, ![1, 320, 512]⟩
abbrev S1x320x128 : Shape := ⟨3, ![1, 320, 128]⟩
abbrev S1x320x256 : Shape := ⟨3, ![1, 320, 256]⟩
abbrev S320x1024 : Shape := ⟨2, ![320, 1024]⟩
abbrev S320 : Shape := ⟨1, ![320]⟩
abbrev S320x1 : Shape := ⟨2, ![320, 1]⟩
abbrev S320x128 : Shape := ⟨2, ![320, 128]⟩
abbrev S320x512 : Shape := ⟨2, ![320, 512]⟩
abbrev S320x256 : Shape := ⟨2, ![320, 256]⟩

abbrev nBuf : Space → Nat
  | .hbm => 172
  | .vmem => 36
  | .smem => 0
  | _ => 0

abbrev hbmTy0_0 (i : Nat) : BufTy := match i % 128 with
  | 0 => ⟨S8x8320x1024, .f32⟩
  | 1 => ⟨S8320, .i32⟩
  | 2 => ⟨S1024, .f32⟩
  | 3 => ⟨S1024x4648, .f32⟩
  | 4 => ⟨S1024x512, .f32⟩
  | 5 => ⟨S1024x512, .f32⟩
  | 6 => ⟨S1024x512, .f32⟩
  | 7 => ⟨S1024x512, .f32⟩
  | 8 => ⟨S1024x128, .f32⟩
  | 9 => ⟨S1024x128, .f32⟩
  | 10 => ⟨S1024x256, .f32⟩
  | 11 => ⟨S1024x32, .f32⟩
  | 12 => ⟨S1024x8, .f32⟩
  | 13 => ⟨S1024x1024, .f32⟩
  | 14 => ⟨S1024x1024, .f32⟩
  | 15 => ⟨S_, .f32⟩
  | 16 => ⟨S1024x64, .f32⟩
  | 17 => ⟨S1024x64, .f32⟩
  | 18 => ⟨S1024x64, .f32⟩
  | 19 => ⟨S1024x64, .f32⟩
  | 20 => ⟨S1024x64, .f32⟩
  | 21 => ⟨S1024x64, .f32⟩
  | 22 => ⟨S1024x64, .f32⟩
  | 23 => ⟨S1024x64, .f32⟩
  | 24 => ⟨S1024x64, .f32⟩
  | 25 => ⟨S_, .f32⟩
  | 26 => ⟨S1024x88, .f32⟩
  | 27 => ⟨S1024x128, .f32⟩
  | 28 => ⟨S1x1024x1x32, .f32⟩
  | 29 => ⟨S1x1024x8x32, .f32⟩
  | 30 => ⟨S1024x256, .f32⟩
  | 31 => ⟨S1024x2368, .f32⟩
  | 32 => ⟨S1024x3136, .f32⟩
  | 33 => ⟨S1024x5504, .f32⟩
  | 34 => ⟨S1024x5504, .bf16⟩
  | 35 => ⟨S8, .f32⟩
  | 36 => ⟨S8, .f32⟩
  | 37 => ⟨S_, .f32⟩
  | 38 => ⟨S8, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S8320, .f32⟩
  | 47 => ⟨S8320x1, .f32⟩
  | 48 => ⟨S1x8, .f32⟩
  | 49 => ⟨S8320x8, .f32⟩
  | 50 => ⟨S8320x8, .f32⟩
  | 51 => ⟨S8320x8, .f32⟩
  | 52 => ⟨S8320x8, .f32⟩
  | 53 => ⟨S8320x8, .f32⟩
  | 54 => ⟨S_, .f32⟩
  | 55 => ⟨S8320x48, .f32⟩
  | 56 => ⟨S8320x64, .f32⟩
  | 57 => ⟨S8320x8, .f32⟩
  | 58 => ⟨S_, .f32⟩
  | 59 => ⟨S8320x56, .f32⟩
  | 60 => ⟨S8320x64, .f32⟩
  | 61 => ⟨S_, .f32⟩
  | 62 => ⟨S8320x8, .f32⟩
  | 63 => ⟨S_, .f32⟩
  | 64 => ⟨S8320x48, .f32⟩
  | 65 => ⟨S8320x64, .f32⟩
  | 66 => ⟨S1x8320x1x64, .f32⟩
  | 67 => ⟨S1x8320x2x64, .f32⟩
  | 68 => ⟨S8320x128, .f32⟩
  | 69 => ⟨S1x8320x1x64, .f32⟩
  | 70 => ⟨S1x8320x2x64, .f32⟩
  | 71 => ⟨S8320x128, .f32⟩
  | 72 => ⟨S1x8320x1x64, .f32⟩
  | 73 => ⟨S1x8320x2x64, .f32⟩
  | 74 => ⟨S8320x128, .f32⟩
  | 75 => ⟨S4, .f32⟩
  | 76 => ⟨S4, .f32⟩
  | 77 => ⟨S_, .f32⟩
  | 78 => ⟨S4, .f32⟩
  | 79 => ⟨S4, .f32⟩
  | 80 => ⟨S_, .f32⟩
  | 81 => ⟨S4, .f32⟩
  | 82 => ⟨S4, .f32⟩
  | 83 => ⟨S_, .f32⟩
  | 84 => ⟨S4, .f32⟩
  | 85 => ⟨S4, .f32⟩
  | 86 => ⟨S8320, .f32⟩
  | 87 => ⟨S8320x1, .f32⟩
  | 88 => ⟨S1x4, .f32⟩
  | 89 => ⟨S8320x4, .f32⟩
  | 90 => ⟨S8320x4, .f32⟩
  | 91 => ⟨S8320x4, .f32⟩
  | 92 => ⟨S8320x4, .f32⟩
  | 93 => ⟨S8320x4, .f32⟩
  | 94 => ⟨S_, .f32⟩
  | 95 => ⟨S8320x24, .f32⟩
  | 96 => ⟨S8320x32, .f32⟩
  | 97 => ⟨S8320x4, .f32⟩
  | 98 => ⟨S_, .f32⟩
  | 99 => ⟨S8320x28, .f32⟩
  | 100 => ⟨S8320x32, .f32⟩
  | 101 => ⟨S_, .f32⟩
  | 102 => ⟨S8320x4, .f32⟩
  | 103 => ⟨S_, .f32⟩
  | 104 => ⟨S8320x24, .f32⟩
  | 105 => ⟨S8320x32, .f32⟩
  | 106 => ⟨S1x8320x1x32, .f32⟩
  | 107 => ⟨S1x8320x4x32, .f32⟩
  | 108 => ⟨S8320x128, .f32⟩
  | 109 => ⟨S1x8320x1x32, .f32⟩
  | 110 => ⟨S1x8320x4x32, .f32⟩
  | 111 => ⟨S8320x128, .f32⟩
  | 112 => ⟨S1x8320x1x32, .f32⟩
  | 113 => ⟨S1x8320x4x32, .f32⟩
  | 114 => ⟨S8320x128, .f32⟩
  | 115 => ⟨S4, .f32⟩
  | 116 => ⟨S4, .f32⟩
  | 117 => ⟨S_, .f32⟩
  | 118 => ⟨S4, .f32⟩
  | 119 => ⟨S4, .f32⟩
  | 120 => ⟨S_, .f32⟩
  | 121 => ⟨S4, .f32⟩
  | 122 => ⟨S4, .f32⟩
  | 123 => ⟨S_, .f32⟩
  | 124 => ⟨S4, .f32⟩
  | 125 => ⟨S4, .f32⟩
  | 126 => ⟨S8320, .f32⟩
  | 127 => ⟨S8320x1, .f32⟩
  | _ => ⟨S8x8320x1024, .f32⟩

abbrev hbmTy0_1 (i : Nat) : BufTy := match i % 128 with
  | 0 => ⟨S1x4, .f32⟩
  | 1 => ⟨S8320x4, .f32⟩
  | 2 => ⟨S8320x4, .f32⟩
  | 3 => ⟨S8320x4, .f32⟩
  | 4 => ⟨S8320x4, .f32⟩
  | 5 => ⟨S8320x4, .f32⟩
  | 6 => ⟨S_, .f32⟩
  | 7 => ⟨S8320x120, .f32⟩
  | 8 => ⟨S8320x128, .f32⟩
  | 9 => ⟨S8320x4, .f32⟩
  | 10 => ⟨S_, .f32⟩
  | 11 => ⟨S8320x124, .f32⟩
  | 12 => ⟨S8320x128, .f32⟩
  | 13 => ⟨S_, .f32⟩
  | 14 => ⟨S8320x4, .f32⟩
  | 15 => ⟨S_, .f32⟩
  | 16 => ⟨S8320x120, .f32⟩
  | 17 => ⟨S8320x128, .f32⟩
  | 18 => ⟨S1x8320x1x128, .f32⟩
  | 19 => ⟨S1x8320x1x128, .f32⟩
  | 20 => ⟨S8320x128, .f32⟩
  | 21 => ⟨S1x8320x1x128, .f32⟩
  | 22 => ⟨S1x8320x1x128, .f32⟩
  | 23 => ⟨S8320x128, .f32⟩
  | 24 => ⟨S1x8320x1x128, .f32⟩
  | 25 => ⟨S1x8320x1x128, .f32⟩
  | 26 => ⟨S8320x128, .f32⟩
  | 27 => ⟨S8320x1152, .f32⟩
  | 28 => ⟨S1x1024, .f32⟩
  | 29 => ⟨S8x8320x512, .bf16⟩
  | 30 => ⟨S8x8320x512, .f32⟩
  | 31 => ⟨S8x8320x512, .bf16⟩
  | 32 => ⟨S8x8320x512, .f32⟩
  | 33 => ⟨S8x8320x512, .bf16⟩
  | 34 => ⟨S8x8320x1024, .bf16⟩
  | 35 => ⟨S8x8320x128, .f32⟩
  | 36 => ⟨S8x8320x128, .bf16⟩
  | 37 => ⟨S8x8320x128, .f32⟩
  | 38 => ⟨S8x8320x128, .bf16⟩
  | 39 => ⟨S8x8320x256, .bf16⟩
  | 40 => ⟨S8x8320x128, .f32⟩
  | 41 => ⟨S8x8320x256, .bf16⟩
  | 42 => ⟨S8x8320x1024, .f32⟩
  | 43 => ⟨S8x8320x1024, .f32⟩
  | _ => ⟨S8x8320x1024, .f32⟩

abbrev hbmTy (i : Nat) : BufTy := match i / 128 with
  | 0 => hbmTy0_0 i
  | 1 => hbmTy0_1 i
  | _ => ⟨S8x8320x1024, .f32⟩

abbrev bufTy : (tb : Table) → Fin (tcTables nBuf tb) → BufTy
  | .hbm, ⟨i, _⟩ => hbmTy i
  | .local _ .vmem, ⟨0, _⟩ => ⟨S1x320x1024, .f32⟩
  | .local _ .vmem, ⟨1, _⟩ => ⟨S1x320x1024, .f32⟩
  | .local _ .vmem, ⟨2, _⟩ => ⟨S1x1024, .f32⟩
  | .local _ .vmem, ⟨3, _⟩ => ⟨S1024x5504, .bf16⟩
  | .local _ .vmem, ⟨4, _⟩ => ⟨S320x1152, .f32⟩
  | .local _ .vmem, ⟨5, _⟩ => ⟨S320x1152, .f32⟩
  | .local _ .vmem, ⟨6, _⟩ => ⟨S1x320x512, .bf16⟩
  | .local _ .vmem, ⟨7, _⟩ => ⟨S1x320x512, .bf16⟩
  | .local _ .vmem, ⟨8, _⟩ => ⟨S1x320x512, .f32⟩
  | .local _ .vmem, ⟨9, _⟩ => ⟨S1x320x512, .f32⟩
  | .local _ .vmem, ⟨10, _⟩ => ⟨S1x320x512, .bf16⟩
  | .local _ .vmem, ⟨11, _⟩ => ⟨S1x320x512, .bf16⟩
  | .local _ .vmem, ⟨12, _⟩ => ⟨S1x320x512, .f32⟩
  | .local _ .vmem, ⟨13, _⟩ => ⟨S1x320x512, .f32⟩
  | .local _ .vmem, ⟨14, _⟩ => ⟨S1x320x512, .bf16⟩
  | .local _ .vmem, ⟨15, _⟩ => ⟨S1x320x512, .bf16⟩
  | .local _ .vmem, ⟨16, _⟩ => ⟨S1x320x1024, .bf16⟩
  | .local _ .vmem, ⟨17, _⟩ => ⟨S1x320x1024, .bf16⟩
  | .local _ .vmem, ⟨18, _⟩ => ⟨S1x320x128, .f32⟩
  | .local _ .vmem, ⟨19, _⟩ => ⟨S1x320x128, .f32⟩
  | .local _ .vmem, ⟨20, _⟩ => ⟨S1x320x128, .bf16⟩
  | .local _ .vmem, ⟨21, _⟩ => ⟨S1x320x128, .bf16⟩
  | .local _ .vmem, ⟨22, _⟩ => ⟨S1x320x128, .f32⟩
  | .local _ .vmem, ⟨23, _⟩ => ⟨S1x320x128, .f32⟩
  | .local _ .vmem, ⟨24, _⟩ => ⟨S1x320x128, .bf16⟩
  | .local _ .vmem, ⟨25, _⟩ => ⟨S1x320x128, .bf16⟩
  | .local _ .vmem, ⟨26, _⟩ => ⟨S1x320x256, .bf16⟩
  | .local _ .vmem, ⟨27, _⟩ => ⟨S1x320x256, .bf16⟩
  | .local _ .vmem, ⟨28, _⟩ => ⟨S1x320x128, .f32⟩
  | .local _ .vmem, ⟨29, _⟩ => ⟨S1x320x128, .f32⟩
  | .local _ .vmem, ⟨30, _⟩ => ⟨S1x320x256, .bf16⟩
  | .local _ .vmem, ⟨31, _⟩ => ⟨S1x320x256, .bf16⟩
  | .local _ .vmem, ⟨32, _⟩ => ⟨S1x320x1024, .f32⟩
  | .local _ .vmem, ⟨33, _⟩ => ⟨S1x320x1024, .f32⟩
  | .local _ .vmem, ⟨34, _⟩ => ⟨S1x320x1024, .f32⟩
  | .local _ .vmem, ⟨35, _⟩ => ⟨S1x320x1024, .f32⟩
  | _, _ => ⟨S8x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_8 : Ref sig .tc := ⟨.hbm, 77, rfl⟩
abbrev main_v64 : Ref sig .tc := ⟨.hbm, 78, rfl⟩
abbrev main_v65 : Ref sig .tc := ⟨.hbm, 79, rfl⟩
abbrev main_cst_9 : Ref sig .tc := ⟨.hbm, 80, rfl⟩
abbrev main_v66 : Ref sig .tc := ⟨.hbm, 81, rfl⟩
abbrev main_v67 : Ref sig .tc := ⟨.hbm, 82, rfl⟩
abbrev main_cst_10 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_11 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_12 : Ref sig .tc := ⟨.hbm, 98, rfl⟩
abbrev main_v81 : Ref sig .tc := ⟨.hbm, 99, rfl⟩
abbrev main_v82 : Ref sig .tc := ⟨.hbm, 100, rfl⟩
abbrev main_cst_13 : Ref sig .tc := ⟨.hbm, 101, rfl⟩
abbrev main_v83 : Ref sig .tc := ⟨.hbm, 102, rfl⟩
abbrev main_cst_14 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_15 : Ref sig .tc := ⟨.hbm, 117, rfl⟩
abbrev main_v97 : Ref sig .tc := ⟨.hbm, 118, rfl⟩
abbrev main_v98 : Ref sig .tc := ⟨.hbm, 119, rfl⟩
abbrev main_cst_16 : Ref sig .tc := ⟨.hbm, 120, rfl⟩
abbrev main_v99 : Ref sig .tc := ⟨.hbm, 121, rfl⟩
abbrev main_v100 : Ref sig .tc := ⟨.hbm, 122, rfl⟩
abbrev main_cst_17 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_18 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_19 : Ref sig .tc := ⟨.hbm, 138, rfl⟩
abbrev main_v114 : Ref sig .tc := ⟨.hbm, 139, rfl⟩
abbrev main_v115 : Ref sig .tc := ⟨.hbm, 140, rfl⟩
abbrev main_cst_20 : Ref sig .tc := ⟨.hbm, 141, rfl⟩
abbrev main_v116 : Ref sig .tc := ⟨.hbm, 142, rfl⟩
abbrev main_cst_21 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130_0 : Ref sig .tc := ⟨.hbm, 157, rfl⟩
abbrev main_v130_1 : Ref sig .tc := ⟨.hbm, 158, rfl⟩
abbrev main_v130_2 : Ref sig .tc := ⟨.hbm, 159, rfl⟩
abbrev main_v130_3 : Ref sig .tc := ⟨.hbm, 160, rfl⟩
abbrev main_v130_4 : Ref sig .tc := ⟨.hbm, 161, rfl⟩
abbrev main_v130_5 : Ref sig .tc := ⟨.hbm, 162, rfl⟩
abbrev main_v130_6 : Ref sig .tc := ⟨.hbm, 163, rfl⟩
abbrev main_v130_7 : Ref sig .tc := ⟨.hbm, 164, rfl⟩
abbrev main_v130_8 : Ref sig .tc := ⟨.hbm, 165, rfl⟩
abbrev main_v130_9 : Ref sig .tc := ⟨.hbm, 166, rfl⟩
abbrev main_v130_10 : Ref sig .tc := ⟨.hbm, 167, rfl⟩
abbrev main_v130_11 : Ref sig .tc := ⟨.hbm, 168, rfl⟩
abbrev main_v130_12 : Ref sig .tc := ⟨.hbm, 169, rfl⟩
abbrev main_v130_13 : Ref sig .tc := ⟨.hbm, 170, rfl⟩
abbrev main_v130_14 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35

abbrev nD : Nat := 1
abbrev τ : Topo := Topo.v7x

variable {F : FTy → Type} [FloatOps F]

abbrev grid0 : Pipeline.Grid := ⟨2, ![8, 26], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5504 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S320x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x320x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x320x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x320x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x320x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x320x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x320x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x320x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x320x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x320x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x320x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x320x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x320x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x320x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x320x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x320x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ProjRefIdeal.lean ====
abbrev S8x8320x1024 : Shape := ⟨3, ![8, 8320, 1024]⟩
abbrev S8320 : Shape := ⟨1, ![8320]⟩
abbrev S1024 : Shape := ⟨1, ![1024]⟩
abbrev S1024x4648 : Shape := ⟨2, ![1024, 4648]⟩
abbrev S_ : Shape := ⟨0, ![]⟩
abbrev S8x8320 : Shape := ⟨2, ![8, 8320]⟩
abbrev S8x8320x1 : Shape := ⟨3, ![8, 8320, 1]⟩
abbrev S1x1x1024 : Shape := ⟨3, ![1, 1, 1024]⟩
abbrev S8x8320x4648 : Shape := ⟨3, ![8, 8320, 4648]⟩
abbrev S8x8320x512 : Shape := ⟨3, ![8, 8320, 512]⟩
abbrev S8x8320x128 : Shape := ⟨3, ![8, 8320, 128]⟩
abbrev S8x8320x256 : Shape := ⟨3, ![8, 8320, 256]⟩
abbrev S8x8320x32 : Shape := ⟨3, ![8, 8320, 32]⟩
abbrev S8x8320x8 : Shape := ⟨3, ![8, 8320, 8]⟩

abbrev nBuf : Space → Nat
  | .hbm => 48
  | .vmem => 0
  | .smem => 0
  | _ => 0

abbrev bufTy : (tb : Table) → Fin (tcTables nBuf tb) → BufTy
  | .hbm, ⟨0, _⟩ => ⟨S8x8320x1024, .f32⟩
  | .hbm, ⟨1, _⟩ => ⟨S8320, .i32⟩
  | .hbm, ⟨2, _⟩ => ⟨S1024, .f32⟩
  | .hbm, ⟨3, _⟩ => ⟨S1024x4648, .f32⟩
  | .hbm, ⟨4, _⟩ => ⟨S8x8320x1024, .f32⟩
  | .hbm, ⟨5, _⟩ => ⟨S_, .f32⟩
  | .hbm, ⟨6, _⟩ => ⟨S8x8320, .f32⟩
  | .hbm, ⟨7, _⟩ => ⟨S8x8320x1, .f32⟩
  | .hbm, ⟨8, _⟩ => ⟨S_, .f32⟩
  | .hbm, ⟨9, _⟩ => ⟨S8x8320x1, .f32⟩
  | .hbm, ⟨10, _⟩ => ⟨S8x8320x1, .f32⟩
  | .hbm, ⟨11, _⟩ => ⟨S_, .f32⟩
  | .hbm, ⟨12, _⟩ => ⟨S8x8320x1, .f32⟩
  | .hbm, ⟨13, _⟩ => ⟨S8x8320x1, .f32⟩
  | .hbm, ⟨14, _⟩ => ⟨S8x8320x1, .f32⟩
  | .hbm, ⟨15, _⟩ => ⟨S8x8320x1024, .f32⟩
  | .hbm, ⟨16, _⟩ => ⟨S8x8320x1024, .f32⟩
  | .hbm, ⟨17, _⟩ => ⟨S1x1x1024, .f32⟩
  | .hbm, ⟨18, _⟩ => ⟨S8x8320x1024, .f32⟩
  | .hbm, ⟨19, _⟩ => ⟨S8x8320x1024, .f32⟩
  | .hbm, ⟨20, _⟩ => ⟨S8x8320x4648, .f32⟩
  | .hbm, ⟨21, _⟩ => ⟨S8x8320x512, .f32⟩
  | .hbm, ⟨22, _⟩ => ⟨S8x8320x512, .f32⟩
  | .hbm, ⟨23, _⟩ => ⟨S8x8320x512, .f32⟩
  | .hbm, ⟨24, _⟩ => ⟨S8x8320x512, .f32⟩
  | .hbm, ⟨25, _⟩ => ⟨S8x8320x128, .f32⟩
  | .hbm, ⟨26, _⟩ => ⟨S8x8320x128, .f32⟩
  | .hbm, ⟨27, _⟩ => ⟨S8x8320x256, .f32⟩
  | .hbm, ⟨28, _⟩ => ⟨S8x8320x32, .f32⟩
  | .hbm, ⟨29, _⟩ => ⟨S8x8320x8, .f32⟩
  | .hbm, ⟨30, _⟩ => ⟨S8x8320x1024, .f32⟩
  | .hbm, ⟨31, _⟩ => ⟨S8x8320x1024, .f32⟩
  | .hbm, ⟨32, _⟩ => ⟨S8x8320x1024, .f32⟩
  | .hbm, ⟨33, _⟩ => ⟨S8x8320x1024, .f32⟩
  | .hbm, ⟨34, _⟩ => ⟨S_, .f32⟩
  | .hbm, ⟨35, _⟩ => ⟨S8x8320x1024, .f32⟩
  | .hbm, ⟨36, _⟩ => ⟨S8x8320x1024, .f32⟩
  | .hbm, ⟨37, _⟩ => ⟨S_, .f32⟩
  | .hbm, ⟨38, _⟩ => ⟨S8x8320x1024, .f32⟩
  | .hbm, ⟨39, _⟩ => ⟨S8x8320x1024, .f32⟩
  | .hbm, ⟨40, _⟩ => ⟨S8x8320x1024, .f32⟩
  | .hbm, ⟨41, _⟩ => ⟨S8x8320x1024, .f32⟩
  | .hbm, ⟨42, _⟩ => ⟨S_, .f32⟩
  | .hbm, ⟨43, _⟩ => ⟨S8x8320x1024, .f32⟩
  | .hbm, ⟨44, _⟩ => ⟨S8x8320x1024, .f32⟩
  | .hbm, ⟨45, _⟩ => ⟨S_, .f32⟩
  | .hbm, ⟨46, _⟩ => ⟨S8x8320x1024, .f32⟩
  | .hbm, ⟨47, _⟩ => ⟨S8x8320x1024, .f32⟩
  | _, _ => ⟨S8x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Post.lean ====
abbrev S8x8192x1024 : Shape := ⟨3, ![8, 8192, 1024]⟩
abbrev S8x8192x512 : Shape := ⟨3, ![8, 8192, 512]⟩
abbrev S8x8320x1024 : Shape := ⟨3, ![8, 8320, 1024]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S64x1024 : Shape := ⟨2, ![64, 1024]⟩
abbrev S1024x96 : Shape := ⟨2, ![1024, 96]⟩
abbrev S1024x128 : Shape := ⟨2, ![1024, 128]⟩
abbrev S96 : Shape := ⟨1, ![96]⟩
abbrev S128 : Shape := ⟨1, ![128]⟩
abbrev S1x128 : Shape := ⟨2, ![1, 128]⟩
abbrev S1x1024 : Shape := ⟨2, ![1, 1024]⟩
abbrev S8x8192x128 : Shape := ⟨3, ![8, 8192, 128]⟩
abbrev S1x512x1024 : Shape := ⟨3, ![1, 512, 1024]⟩
abbrev S1x512x512 : Shape := ⟨3, ![1, 512, 512]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S512x128 : Shape := ⟨2, ![512, 128]⟩

abbrev nBuf : Space → Nat
  | .hbm => 37
  | .vmem => 22
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x1024, .bf16⟩
  | .hbm, ⟨3, _⟩ => ⟨S8x8320x1024, .f32⟩
  | .hbm, ⟨4, _⟩ => ⟨S8x8320x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S_, .f32⟩
  | .hbm, ⟨12, _⟩ => ⟨S64x1024, .f32⟩
  | .hbm, ⟨13, _⟩ => ⟨S64x1024, .f32⟩
  | .hbm, ⟨14, _⟩ => ⟨S64x1024, .f32⟩
  | .hbm, ⟨15, _⟩ => ⟨S64x1024, .f32⟩
  | .hbm, ⟨16, _⟩ => ⟨S64x1024, .f32⟩
  | .hbm, ⟨17, _⟩ => ⟨S64x1024, .f32⟩
  | .hbm, ⟨18, _⟩ => ⟨S64x1024, .f32⟩
  | .hbm, ⟨19, _⟩ => ⟨S64x1024, .f32⟩
  | .hbm, ⟨20, _⟩ => ⟨S64x1024, .f32⟩
  | .hbm, ⟨21, _⟩ => ⟨S1024x1024, .f32⟩
  | .hbm, ⟨22, _⟩ => ⟨S1024x1024, .bf16⟩
  | .hbm, ⟨23, _⟩ => ⟨S_, .f32⟩
  | .hbm, ⟨24, _⟩ => ⟨S1024x96, .f32⟩
  | .hbm, ⟨25, _⟩ => ⟨S1024x128, .f32⟩
  | .hbm, ⟨26, _⟩ => ⟨S1024x128, .bf16⟩
  | .hbm, ⟨27, _⟩ => ⟨S_, .f32⟩
  | .hbm, ⟨28, _⟩ => ⟨S96, .f32⟩
  | .hbm, ⟨29, _⟩ => ⟨S128, .f32⟩
  | .hbm, ⟨30, _⟩ => ⟨S1x128, .f32⟩
  | .hbm, ⟨31, _⟩ => ⟨S512x1024, .bf16⟩
  | .hbm, ⟨32, _⟩ => ⟨S1024x1024, .bf16⟩
  | .hbm, ⟨33, _⟩ => ⟨S1x1024, .f32⟩
  | .hbm, ⟨34, _⟩ => ⟨S8x8192x1024, .f32⟩
  | .hbm, ⟨35, _⟩ => ⟨S8x8192x1024, .bf16⟩
  | .hbm, ⟨36, _⟩ => ⟨S8x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .bf16⟩
  | .local _ .vmem, ⟨15, _⟩ => ⟨S1x128, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .bf16⟩
  | .local _ .vmem, ⟨19, _⟩ => ⟨S1x512x1024, .bf16⟩
  | .local _ .vmem, ⟨20, _⟩ => ⟨S1x512x128, .f32⟩
  | .local _ .vmem, ⟨21, _⟩ => ⟨S1x512x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== PostRefIdeal.lean ====
abbrev S8x8192x1024 : Shape := ⟨3, ![8, 8192, 1024]⟩
abbrev S8x8192x512 : Shape := ⟨3, ![8, 8192, 512]⟩
abbrev S8x8320x1024 : Shape := ⟨3, ![8, 8320, 1024]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S8x8192x64 : Shape := ⟨3, ![8, 8192, 64]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x1024, .bf16⟩
  | .hbm, ⟨3, _⟩ => ⟨S8x8320x1024, .f32⟩
  | .hbm, ⟨4, _⟩ => ⟨S8x8320x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S8x8192x1024, .f32⟩
  | .hbm, ⟨12, _⟩ => ⟨S8x8192x64, .f32⟩
  | .hbm, ⟨13, _⟩ => ⟨S8x8192x64, .f32⟩
  | .hbm, ⟨14, _⟩ => ⟨S8x8192x64, .f32⟩
  | .hbm, ⟨15, _⟩ => ⟨S8x8192x64, .f32⟩
  | .hbm, ⟨16, _⟩ => ⟨S8x8192x64, .f32⟩
  | .hbm, ⟨17, _⟩ => ⟨S8x8192x64, .f32⟩
  | .hbm, ⟨18, _⟩ => ⟨S8x8192x64, .f32⟩
  | .hbm, ⟨19, _⟩ => ⟨S8x8192x64, .f32⟩
  | .hbm, ⟨20, _⟩ => ⟨S8x8192x512, .f32⟩
  | .hbm, ⟨21, _⟩ => ⟨S8x8192x1024, .f32⟩
  | .hbm, ⟨22, _⟩ => ⟨S8x8192x512, .f32⟩
  | .hbm, ⟨23, _⟩ => ⟨S8x8192x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S_, .f32⟩
  | .hbm, ⟨36, _⟩ => ⟨S8x8192x1, .f32⟩
  | .hbm, ⟨37, _⟩ => ⟨S8x8192x1, .f32⟩
  | .hbm, ⟨38, _⟩ => ⟨S_, .f32⟩
  | .hbm, ⟨39, _⟩ => ⟨S8x8192x1, .f32⟩
  | .hbm, ⟨40, _⟩ => ⟨S8x8192x1, .f32⟩
  | .hbm, ⟨41, _⟩ => ⟨S8x8192x1, .f32⟩
  | .hbm, ⟨42, _⟩ => ⟨S8x8192x1024, .f32⟩
  | .hbm, ⟨43, _⟩ => ⟨S8x8192x1024, .f32⟩
  | .hbm, ⟨44, _⟩ => ⟨S1x1x1024, .f32⟩
  | .hbm, ⟨45, _⟩ => ⟨S8x8192x1024, .f32⟩
  | .hbm, ⟨46, _⟩ => ⟨S8x8192x1024, .f32⟩
  | .hbm, ⟨47, _⟩ => ⟨S8x8192x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Proof.AttnIdeal.Body.lean ====
/- One grid point of the attention call: the state the loop over key tiles carries, and the triple of the body. -/
module

public import proofs.«01_k».proof.Proof.Gen.AttnIdeal.Skeleton
public import proofs.«01_k».proof.Proof.Gen.AttnIdeal.Loops
public import Idealize.ShloMosaic.Lib.VecWindow
public import Idealize.ShloMosaic.Lib.Pipeline.FrameBody
public import Idealize.ShloMosaic.Lib.Ring
public import Idealize.ShloMosaic.Lib.Tactic
public import Idealize.ShloMosaic.Lib.LoopRemainder
public import Idealize.ShloMosaic.Lib.WordCmp

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the loop over the key tiles carries: the running maximum, the running sum and the running product, each
    over 512 query rows (256 rows of each of the two components). -/
structure St (F : FTy → Type) where
  m : Vec F S512x128 .f32
  l : Vec F S512x128 .f32
  a : Vec F S512x128 .f32

/-- Key rows `[512 k, 512 k + 512)` of a key or value block. -/
abbrev tileAt {e : EltTy} (v26 : BitVec 32) (hw : k0_chk1 v26) (k : Fin (k0_t1_loop v26).trips) (x : Vec F S1x8320x128 e) :
    Vec F S1x512x128 e := fun j => x ((Rect.unit (s := S1x8320x128) (k0_off2 v26 k) S1x512x128.size (k0_off2_inb v26 hw k)).toLoadRect.idx j)
/-- The chunk numbers of the same key rows. -/
abbrev chunkAt (v26 : BitVec 32) (hw : k0_chk1 v26) (k : Fin (k0_t1_loop v26).trips) (x : Vec F S16x1x512 .i32) :
    Vec F S1x1x512 .i32 := fun j => x ((Rect.unit (s := S16x1x512) (k0_off3 v26 k) S1x1x512.size (k0_off3_inb v26 hw k)).toLoadRect.idx j)

/-- One key tile's update of the carried state. -/
def step (v10 : FVec F S512x128 .bf16) (v12 : IVec S512x1 32) (kb vb : Vec F S1x512x128 .bf16) (kc : Vec F S1x1x512 .i32)
    (s : St F) : St F where
  l := k0_pay7 v10 v12 kb kc s.m s.l
  a := k0_pay23 (k0_pay2 vb) (k0_pay8 v10 v12 kb kc s.m s.a) (k0_pay9 v10 v12 kb kc s.m)
  m := k0_pay24 (k0_pay4 v10 v12 kb kc s.m)

/-- The carried state before trip `k`. -/
def st (v10 : FVec F S512x128 .bf16) (v12 : IVec S512x1 32) (v26 : BitVec 32) (hw : k0_chk1 v26)
    (xk xv : Vec F S1x8320x128 .bf16) (xc : Vec F S16x1x512 .i32) : ℕ → St F
  | 0 => ⟨k0_pay20, k0_pay21, k0_pay22⟩
  | k + 1 => if h : k < (k0_t1_loop v26).trips then
      step v10 v12 (tileAt v26 hw ⟨k, h⟩ xk) (tileAt v26 hw ⟨k, h⟩ xv) (chunkAt v26 hw ⟨k, h⟩ xc) (st v10 v12 v26 hw xk xv xc k)
    else st v10 v12 v26 hw xk xv xc k

/-- A whole 512 by 128 buffer holding exactly the vector `x`. -/
abbrev holds {sp : Space} (c : Dev nD) (g : Memref sig .tc sp S512x128 .f32) (x : Vec F S512x128 .f32) : sProp 𝕄 :=
  iprop(g.view.loc (c : Thread nD τ) ↦[g.view.set]{fullShare}
    g.view.writes (Elt F) g.view.junk [⟨Rect.unit ![0, 0] S512x128.size inb_S512x128_S512x128_0_0, x⟩])

/-- A whole buffer that reads `x` holds exactly `x`. -/
theorem holds_of_read {sp : Space} (c : Dev nD) (g : Memref sig .tc sp S512x128 .f32) (hg : g.IsWhole) (x : Vec F S512x128 .f32)
    (f : Buf (Elt F) (g.view.loc (c : Thread nD τ))) (h : g.view.read (Elt F) f = x) :
    iprop(g.view.loc (c : Thread nD τ) ↦[g.view.set]{fullShare} f) ⊢ holds (F := F) c g x := by
  have e : f = g.view.writes (Elt F) g.view.junk [⟨Rect.unit ![0, 0] S512x128.size inb_S512x128_S512x128_0_0, x⟩] :=
    hg.read_bijective.1 (h.trans (View.read_writes_full ..).symm)
  rw [e]

variable (c : Dev nD) (i : grid0.Coords)
  (arg3 : Memref sig .tc .smem S32 .i32) (harg3 : arg3.IsWhole)
  (arg4 : Memref sig .tc .vmem S1x256x128 .bf16) (harg4 : arg4.IsWhole)
  (arg5 : Memref sig .tc .vmem S1x8320x128 .bf16) (harg5 : arg5.IsWhole)
  (arg6 : Memref sig .tc .vmem S1x8320x128 .bf16) (harg6 : arg6.IsWhole)
  (arg7 : Memref sig .tc .vmem S256x1 .i32) (harg7 : arg7.IsWhole)
  (arg8 : Memref sig .tc .vmem S16x1x512 .i32) (harg8 : arg8.IsWhole)
  (arg9 : Memref sig .tc .vmem S1x128 .i32) (harg9 : arg9.IsWhole)
  (arg10 : Memref sig .tc .vmem S4x64 .f32) (harg10 : arg10.IsWhole)
  (arg11 : Memref sig .tc .vmem S1x128 .f32) (harg11 : arg11.IsWhole)
  (arg12 : Memref sig .tc .vmem S1x256x128 .bf16) (harg12 : arg12.IsWhole)
  (arg13 : Memref sig .tc .vmem S512x128 .f32) (harg13 : arg13.IsWhole)
  (arg14 : Memref sig .tc .vmem S512x128 .f32) (harg14 : arg14.IsWhole)
  (arg15 : Memref sig .tc .vmem S512x128 .f32) (harg15 : arg15.IsWhole)

/-- What one trip reads and writes: the key, value and chunk blocks, and three buffers that read the state. -/
abbrev invEx (X5 : Buf (Elt F) (arg5.view.loc (c : Thread nD τ))) (X6 : Buf (Elt F) (arg6.view.loc (c : Thread nD τ)))
    (X8 : Buf (Elt F) (arg8.view.loc (c : Thread nD τ))) (s : St F) : sProp 𝕄 :=
  iprop((arg5.view.loc (c : Thread nD τ) ↦[arg5.view.set]{fullShare} X5) ∗ (arg6.view.loc (c : Thread nD τ) ↦[arg6.view.set]{fullShare} X6)
    ∗ (arg8.view.loc (c : Thread nD τ) ↦[arg8.view.set]{fullShare} X8)
    ∗ (∃ f13, (arg13.view.loc (c : Thread nD τ) ↦[arg13.view.set]{fullShare} f13) ∗ ⌜arg13.view.read (Elt F) f13 = s.m⌝)
    ∗ (∃ f14, (arg14.view.loc (c : Thread nD τ) ↦[arg14.view.set]{fullShare} f14) ∗ ⌜arg14.view.read (Elt F) f14 = s.l⌝)
    ∗ (∃ f15, (arg15.view.loc (c : Thread nD τ) ↦[arg15.view.set]{fullShare} f15) ∗ ⌜arg15.view.read (Elt F) f15 = s.a⌝))

/-- What the loop's region holds: the key, value and chunk blocks, and the three scratch buffers at the state. -/
abbrev invAt (X5 : Buf (Elt F) (arg5.view.loc (c : Thread nD τ))) (X6 : Buf (Elt F) (arg6.view.loc (c : Thread nD τ)))
    (X8 : Buf (Elt F) (arg8.view.loc (c : Thread nD τ))) (s : St F) : sProp 𝕄 :=
  iprop((arg5.view.loc (c : Thread nD τ) ↦[arg5.view.set]{fullShare} X5) ∗ (arg6.view.loc (c : Thread nD τ) ↦[arg6.view.set]{fullShare} X6)
    ∗ (arg8.view.loc (c : Thread nD τ) ↦[arg8.view.set]{fullShare} X8)
    ∗ holds (F := F) c arg13 s.m
    ∗ holds (F := F) c arg14 s.l
    ∗ holds (F := F) c arg15 s.a)

set_option maxHeartbeats 1000000 in
/-- One trip of the loop takes the state one step on. -/
theorem tripEx (v10 : FVec F S512x128 .bf16) (v12 : IVec S512x1 32) (v26 : Elt F .i32) (hw : k0_chk1 v26)
    (c0_i32_14 v31 c1_i32_15 : BitVec 32) (X5 X6 X8) (s : St F) (k : Fin (k0_t1_loop v26).trips) :
    invEx (F := F) c arg5 arg6 arg8 arg13 arg14 arg15 X5 X6 X8 s
      ⊢ wp frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 arg15 harg15 v10 v12 v26 hw c0_i32_14 v31 c1_i32_15 k ())
          (fun _ => invEx (F := F) c arg5 arg6 arg8 arg13 arg14 arg15 X5 X6 X8
            (step v10 v12 (tileAt v26 hw k (arg5.view.read (Elt F) X5)) (tileAt v26 hw k (arg6.view.read (Elt F) X6))
              (chunkAt v26 hw k (arg8.view.read (Elt F) X8)) s)) := by
  unfold k0_t1_body invEx
  iintro ⟨H5, H6, H8, ⟨%f13, H13, %h13⟩, ⟨%f14, H14, %h14⟩, ⟨%f15, H15, %h15⟩⟩
  sl_exec
  sl_step
  isplitl [H5]; · iexact H5
  isplitl [H6]; · iexact H6
  isplitl [H8]; · iexact H8
  obtain ⟨sm, sl, sa⟩ := s
  have e13 : sm = arg13.view.readAt (Elt F) (Rect.unit ![0, 0] S512x128.size inb_S512x128_S512x128_0_0).toLoadRect f13 :=
    h13.symm.trans (View.readAt_full ..).symm
  have e14 : sl = arg14.view.readAt (Elt F) (Rect.unit ![0, 0] S512x128.size inb_S512x128_S512x128_0_0).toLoadRect f14 :=
    h14.symm.trans (View.readAt_full ..).symm
  have e15 : sa = arg15.view.readAt (Elt F) (Rect.unit ![0, 0] S512x128.size inb_S512x128_S512x128_0_0).toLoadRect f15 :=
    h15.symm.trans (View.readAt_full ..).symm
  isplitl [H13]
  · iexists _; isplitl; · iexact H13
    ipureintro; subst e13
    exact View.read_writes_full ..
  isplitl [H14]
  · iexists _; isplitl; · iexact H14
    ipureintro; subst e13 e14
    exact View.read_writes_full ..
  iexists _; isplitl; · iexact H15
  ipureintro; subst e13 e15
  exact View.read_writes_full ..

/-- The same trip, over buffers that hold exactly the state. -/
theorem trip (v10 : FVec F S512x128 .bf16) (v12 : IVec S512x1 32) (v26 : Elt F .i32) (hw : k0_chk1 v26)
    (c0_i32_14 v31 c1_i32_15 : BitVec 32) (X5 X6 X8) (s : St F) (k : Fin (k0_t1_loop v26).trips) :
    invAt (F := F) c arg5 arg6 arg8 arg13 arg14 arg15 X5 X6 X8 s
      ⊢ wp frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 arg15 harg15 v10 v12 v26 hw c0_i32_14 v31 c1_i32_15 k ())
          (fun _ => invAt (F := F) c arg5 arg6 arg8 arg13 arg14 arg15 X5 X6 X8
            (step v10 v12 (tileAt v26 hw k (arg5.view.read (Elt F) X5)) (tileAt v26 hw k (arg6.view.read (Elt F) X6))
              (chunkAt v26 hw k (arg8.view.read (Elt F) X8)) s)) := by
  refine BIBase.Entails.trans ?_ ((tripEx (F := F) c i arg3 harg3 arg4 harg4 arg5 harg5 arg6 harg6 arg7 harg7 arg8 harg8 arg9 harg9 arg10 harg10 arg11 harg11 arg12 harg12 arg13 harg13 arg14 harg14 arg15 harg15 v10 v12 v26 hw c0_i32_14 v31 c1_i32_15 X5 X6 X8 s k).trans (wp_mono _ _ _ fun _ => ?_))
  · iintro ⟨H5, H6, H8, H13, H14, H15⟩
    isplitl [H5]; · iexact H5
    isplitl [H6]; · iexact H6
    isplitl [H8]; · iexact H8
    isplitl [H13]
    · iexists _; isplitl; · iexact H13
      ipureintro; exact View.read_writes_full ..
    isplitl [H14]
    · iexists _; isplitl; · iexact H14
      ipureintro; exact View.read_writes_full ..
    iexists _; isplitl; · iexact H15
    ipureintro; exact View.read_writes_full ..
  · iintro ⟨H5, H6, H8, ⟨%f13, H13, %h13⟩, ⟨%f14, H14, %h14⟩, ⟨%f15, H15, %h15⟩⟩
    isplitl [H5]; · iexact H5
    isplitl [H6]; · iexact H6
    isplitl [H8]; · iexact H8
    isplitl [H13]; · iapply (holds_of_read (F := F) c arg13 harg13 _ f13 h13) $$ H13
    isplitl [H14]; · iapply (holds_of_read (F := F) c arg14 harg14 _ f14 h14) $$ H14
    iapply (holds_of_read (F := F) c arg15 harg15 _ f15 h15) $$ H15

/-- The state before trip `k + 1` is the state before trip `k`, one tile on. -/
theorem st_succ (v10 : FVec F S512x128 .bf16) (v12 : IVec S512x1 32) (v26 : BitVec 32) (hw : k0_chk1 v26)
    (xk xv : Vec F S1x8320x128 .bf16) (xc : Vec F S16x1x512 .i32) (k : Fin (k0_t1_loop v26).trips) :
    st v10 v12 v26 hw xk xv xc (k.val + 1)
      = step v10 v12 (tileAt v26 hw k xk) (tileAt v26 hw k xv) (chunkAt v26 hw k xc) (st v10 v12 v26 hw xk xv xc k.val) := by
  rw [st, dif_pos k.isLt]

set_option warn.classDefReducibility false in
/-- The loop's invariant: before trip `k` the scratch buffers hold the state `st k`. -/
@[sl_loop] def tilesInv (v10 : FVec F S512x128 .bf16) (v12 : IVec S512x1 32) (v26 : Elt F .i32) (hw : k0_chk1 v26)
    (c0_i32_14 v31 c1_i32_15 : BitVec 32) (X5 : Buf (Elt F) (arg5.view.loc (c : Thread nD τ)))
    (X6 : Buf (Elt F) (arg6.view.loc (c : Thread nD τ))) (X8 : Buf (Elt F) (arg8.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 v10 v12 v26 hw c0_i32_14 v31 c1_i32_15 where
  inv k _ := invAt (F := F) c arg5 arg6 arg8 arg13 arg14 arg15 X5 X6 X8
    (st v10 v12 v26 hw (arg5.view.read (Elt F) X5) (arg6.view.read (Elt F) X6) (arg8.view.read (Elt F) X8) k)
  step k _ := by
    rw [st_succ]
    exact trip (F := F) c i arg3 harg3 arg4 harg4 arg5 harg5 arg6 harg6 arg7 harg7 arg8 harg8 arg9 harg9 arg10 harg10 arg11 harg11 arg12 harg12 arg13 harg13 arg14 harg14 arg15 harg15 v10 v12 v26 hw c0_i32_14 v31 c1_i32_15 X5 X6 X8 _ k

end Cert.AttnIdeal.Hand
-- ==== Proof.AttnIdeal.Point.lean ====
/- One grid point of the attention call: the block the body leaves in the output window. -/
module

public import proofs.«01_k».proof.Proof.AttnIdeal.Body

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The tail tile: the last 128 rows of a key or value block. -/
abbrev tailAt {e : EltTy} (x : Vec F S1x8320x128 e) : Vec F S1x128x128 e :=
  fun j => x ((Rect.unit (s := S1x8320x128) ![0, 8192, 0] S1x128x128.size inb_S1x8320x128_S1x128x128_0_8192_0).toLoadRect.idx j)
/-- One of the four vectors the subtraction weight is computed from. -/
abbrev lamAt (r : ℕ) (h : ∀ a, (![r, 0] : Fin 2 → ℕ) a + S1x64.size a ≤ S4x64.size a) (x : Vec F S4x64 .f32) : Vec F S1x64 .f32 :=
  fun j => x ((Rect.unit (s := S4x64) ![r, 0] S1x64.size h).toLoadRect.idx j)

/-- The running sum and product after the loop's tiles and the tail tile. -/
def fin (v10 : FVec F S512x128 .bf16) (v12 : IVec S512x1 32) (xk xv : Vec F S1x8320x128 .bf16) (kct : Vec F S1x128 .i32)
    (s : St F) : Vec F S512x128 .f32 × Vec F S512x128 .f32 :=
  (k0_pay31 v10 v12 (tailAt xk) kct s.m s.l, k0_pay33 (k0_pay32 v10 v12 (tailAt xk) (tailAt xv) kct s.m s.a))

/-- The block the body writes, from the blocks it reads and the number of whole key tiles it visits. -/
def outBlk (xq : Vec F S1x256x128 .bf16) (xk xv : Vec F S1x8320x128 .bf16) (qc : Vec F S256x1 .i32) (kcm : Vec F S16x1x512 .i32)
    (kct : Vec F S1x128 .i32) (lam : Vec F S4x64 .f32) (w : Vec F S1x128 .f32) (v26 : BitVec 32) (hw : k0_chk1 v26) :
    Vec F S1x256x128 .bf16 :=
  let f := fin (k0_pay18 xq) (k0_pay19 (F := F) qc) xk xv kct (st (k0_pay18 xq) (k0_pay19 (F := F) qc) v26 hw xk xv kcm (k0_t1_loop v26).trips)
  k0_pay1 (k0_pay35 (lamAt 0 inb_S4x64_S1x64_0_0 lam) (lamAt 1 inb_S4x64_S1x64_1_0 lam) (lamAt 2 inb_S4x64_S1x64_2_0 lam) (lamAt 3 inb_S4x64_S1x64_3_0 lam) f.2 f.1)
    (k0_pay36 (lamAt 0 inb_S4x64_S1x64_0_0 lam) (lamAt 1 inb_S4x64_S1x64_1_0 lam) (lamAt 2 inb_S4x64_S1x64_2_0 lam) (lamAt 3 inb_S4x64_S1x64_3_0 lam) f.2 f.1) w

/-- A covered load of a whole 512 by 128 buffer after a whole store reads what was stored last. -/
theorem cov_read (g : Memref sig .tc .vmem S512x128 .f32) (w : Vec F S512x128 .f32) (L : List (View.Piece (Elt F) S512x128 .f32)) :
    g.view.readCov (Val := Elt F) (⟨Rect.unit ![0, 0] S512x128.size inb_S512x128_S512x128_0_0, w⟩ :: L)
      (Rect.unit ![0, 0] S512x128.size inb_S512x128_S512x128_0_0).toLoadRect = w := View.readCov_full ..

/-- What the run stores, read back through the buffers, is the block named above. -/
theorem stored_eq
    (arg4 : Memref sig .tc .vmem S1x256x128 .bf16) (arg5 arg6 : Memref sig .tc .vmem S1x8320x128 .bf16)
    (arg7 : Memref sig .tc .vmem S256x1 .i32) (arg8 : Memref sig .tc .vmem S16x1x512 .i32) (arg9 : Memref sig .tc .vmem S1x128 .i32)
    (arg10 : Memref sig .tc .vmem S4x64 .f32) (arg11 : Memref sig .tc .vmem S1x128 .f32)
    (arg13 arg14 arg15 : Memref sig .tc .vmem S512x128 .f32)
    (f4 : arg4.view.ty.Contents (Elt F)) (f5 : arg5.view.ty.Contents (Elt F)) (f6 : arg6.view.ty.Contents (Elt F))
    (f7 : arg7.view.ty.Contents (Elt F)) (f8 : arg8.view.ty.Contents (Elt F)) (f9 : arg9.view.ty.Contents (Elt F))
    (f10 : arg10.view.ty.Contents (Elt F)) (f11 : arg11.view.ty.Contents (Elt F)) (v26 : BitVec 32) (hw : k0_chk1 v26) :
    k0_pay1 (k0_pay35 (arg10.view.readAt (Elt F) (Rect.unit (s := S4x64) ![0, 0] S1x64.size inb_S4x64_S1x64_0_0).toLoadRect
      f10) (arg10.view.readAt (Elt F) (Rect.unit (s := S4x64) ![1, 0] S1x64.size inb_S4x64_S1x64_1_0).toLoadRect f10)
      (arg10.view.readAt (Elt F) (Rect.unit (s := S4x64) ![2, 0] S1x64.size inb_S4x64_S1x64_2_0).toLoadRect f10)
      (arg10.view.readAt (Elt F) (Rect.unit (s := S4x64) ![3, 0] S1x64.size inb_S4x64_S1x64_3_0).toLoadRect f10)
      (arg15.view.readCov (Val := Elt F) [⟨(Rect.unit ![0, 0] S512x128.size inb_S512x128_S512x128_0_0),
      k0_pay33 (k0_pay32 (k0_pay18 (arg4.view.readAt (Elt F) (Rect.unit (s := S1x256x128) ![0, 0, 0] S1x256x128.size
      inb_S1x256x128_S1x256x128_0_0_0).toLoadRect f4)) (k0_pay19 (F := F) (arg7.view.readAt (Elt F) (Rect.unit (s := S256x1) ![0, 0] S256x1.size inb_S256x1_S256x1_0_0).toLoadRect f7)) (arg5.view.readAt (Elt F) (Rect.unit (s := S1x8320x128) ![0,
      8192, 0] S1x128x128.size inb_S1x8320x128_S1x128x128_0_8192_0).toLoadRect f5) (arg6.view.readAt (Elt F) (Rect.unit (s := S1x8320x128) ![0, 8192, 0] S1x128x128.size inb_S1x8320x128_S1x128x128_0_8192_0).toLoadRect f6)
      (arg9.view.readAt (Elt F) (Rect.unit (s := S1x128) ![0, 0] S1x128.size inb_S1x128_S1x128_0_0).toLoadRect f9)
      (arg13.view.readCov (Val := Elt F) [⟨(Rect.unit ![0, 0] S512x128.size inb_S512x128_S512x128_0_0), (st
      (k0_pay18 (arg4.view.readAt (Elt F) (Rect.unit (s := S1x256x128) ![0, 0, 0] S1x256x128.size
      inb_S1x256x128_S1x256x128_0_0_0).toLoadRect f4)) (k0_pay19 (F := F) (arg7.view.readAt (Elt F) (Rect.unit (s := S256x1) ![0, 0] S256x1.size inb_S256x1_S256x1_0_0).toLoadRect f7)) v26 hw (arg5.view.read (Elt F) f5)
      (arg6.view.read (Elt F) f6) (arg8.view.read (Elt F) f8) (k0_t1_loop v26).trips).m⟩] (Rect.unit ![0, 0]
      S512x128.size inb_S512x128_S512x128_0_0).toLoadRect) (arg15.view.readCov (Val := Elt F) [⟨(Rect.unit
      ![0, 0] S512x128.size inb_S512x128_S512x128_0_0), (st (k0_pay18 (arg4.view.readAt (Elt F) (Rect.unit (s := S1x256x128) ![0, 0, 0] S1x256x128.size inb_S1x256x128_S1x256x128_0_0_0).toLoadRect f4)) (k0_pay19 (F := F)
      (arg7.view.readAt (Elt F) (Rect.unit (s := S256x1) ![0, 0] S256x1.size inb_S256x1_S256x1_0_0).toLoadRect f7)) v26 hw
      (arg5.view.read (Elt F) f5) (arg6.view.read (Elt F) f6) (arg8.view.read (Elt F) f8) (k0_t1_loop
      v26).trips).a⟩] (Rect.unit ![0, 0] S512x128.size inb_S512x128_S512x128_0_0).toLoadRect))⟩, ⟨(Rect.unit
      ![0, 0] S512x128.size inb_S512x128_S512x128_0_0), (st (k0_pay18 (arg4.view.readAt (Elt F) (Rect.unit (s := S1x256x128) ![0, 0, 0] S1x256x128.size inb_S1x256x128_S1x256x128_0_0_0).toLoadRect f4)) (k0_pay19 (F := F)
      (arg7.view.readAt (Elt F) (Rect.unit (s := S256x1) ![0, 0] S256x1.size inb_S256x1_S256x1_0_0).toLoadRect f7)) v26 hw
      (arg5.view.read (Elt F) f5) (arg6.view.read (Elt F) f6) (arg8.view.read (Elt F) f8) (k0_t1_loop
      v26).trips).a⟩] (Rect.unit ![0, 0] S512x128.size inb_S512x128_S512x128_0_0).toLoadRect)
      (arg14.view.readCov (Val := Elt F) [⟨(Rect.unit ![0, 0] S512x128.size inb_S512x128_S512x128_0_0),
      k0_pay31 (k0_pay18 (arg4.view.readAt (Elt F) (Rect.unit (s := S1x256x128) ![0, 0, 0] S1x256x128.size
      inb_S1x256x128_S1x256x128_0_0_0).toLoadRect f4)) (k0_pay19 (F := F) (arg7.view.readAt (Elt F) (Rect.unit (s := S256x1) ![0, 0] S256x1.size inb_S256x1_S256x1_0_0).toLoadRect f7)) (arg5.view.readAt (Elt F) (Rect.unit (s := S1x8320x128) ![0,
      8192, 0] S1x128x128.size inb_S1x8320x128_S1x128x128_0_8192_0).toLoadRect f5) (arg9.view.readAt (Elt F) (Rect.unit (s := S1x128) ![0, 0] S1x128.size inb_S1x128_S1x128_0_0).toLoadRect f9) (arg13.view.readCov (Val := Elt F)
      [⟨(Rect.unit ![0, 0] S512x128.size inb_S512x128_S512x128_0_0), (st (k0_pay18 (arg4.view.readAt (Elt F) (Rect.unit (s := S1x256x128) ![0, 0, 0] S1x256x128.size inb_S1x256x128_S1x256x128_0_0_0).toLoadRect f4)) (k0_pay19 (F :=
      F) (arg7.view.readAt (Elt F) (Rect.unit (s := S256x1) ![0, 0] S256x1.size inb_S256x1_S256x1_0_0).toLoadRect f7)) v26
      hw (arg5.view.read (Elt F) f5) (arg6.view.read (Elt F) f6) (arg8.view.read (Elt F) f8) (k0_t1_loop
      v26).trips).m⟩] (Rect.unit ![0, 0] S512x128.size inb_S512x128_S512x128_0_0).toLoadRect)
      (arg14.view.readCov (Val := Elt F) [⟨(Rect.unit ![0, 0] S512x128.size inb_S512x128_S512x128_0_0), (st
      (k0_pay18 (arg4.view.readAt (Elt F) (Rect.unit (s := S1x256x128) ![0, 0, 0] S1x256x128.size
      inb_S1x256x128_S1x256x128_0_0_0).toLoadRect f4)) (k0_pay19 (F := F) (arg7.view.readAt (Elt F) (Rect.unit (s := S256x1) ![0, 0] S256x1.size inb_S256x1_S256x1_0_0).toLoadRect f7)) v26 hw (arg5.view.read (Elt F) f5)
      (arg6.view.read (Elt F) f6) (arg8.view.read (Elt F) f8) (k0_t1_loop v26).trips).l⟩] (Rect.unit ![0, 0]
      S512x128.size inb_S512x128_S512x128_0_0).toLoadRect)⟩, ⟨(Rect.unit ![0, 0] S512x128.size
      inb_S512x128_S512x128_0_0), (st (k0_pay18 (arg4.view.readAt (Elt F) (Rect.unit (s := S1x256x128) ![0, 0, 0]
      S1x256x128.size inb_S1x256x128_S1x256x128_0_0_0).toLoadRect f4)) (k0_pay19 (F := F) (arg7.view.readAt (Elt F) (Rect.unit (s := S256x1) ![0, 0] S256x1.size inb_S256x1_S256x1_0_0).toLoadRect f7)) v26 hw (arg5.view.read
      (Elt F) f5) (arg6.view.read (Elt F) f6) (arg8.view.read (Elt F) f8) (k0_t1_loop v26).trips).l⟩]
      (Rect.unit ![0, 0] S512x128.size inb_S512x128_S512x128_0_0).toLoadRect)) (k0_pay36 (arg10.view.readAt (Elt F) (Rect.unit (s := S4x64) ![0, 0] S1x64.size inb_S4x64_S1x64_0_0).toLoadRect f10) (arg10.view.readAt (Elt F) (Rect.unit (s := S4x64) ![1, 0] S1x64.size inb_S4x64_S1x64_1_0).toLoadRect f10) (arg10.view.readAt (Elt F) (Rect.unit (s := S4x64) ![2, 0] S1x64.size inb_S4x64_S1x64_2_0).toLoadRect f10) (arg10.view.readAt (Elt F) (Rect.unit (s := S4x64) ![3, 0]
      S1x64.size inb_S4x64_S1x64_3_0).toLoadRect f10) (arg15.view.readCov (Val := Elt F) [⟨(Rect.unit ![0, 0]
      S512x128.size inb_S512x128_S512x128_0_0), k0_pay33 (k0_pay32 (k0_pay18 (arg4.view.readAt (Elt F) (Rect.unit (s := S1x256x128) ![0, 0, 0] S1x256x128.size inb_S1x256x128_S1x256x128_0_0_0).toLoadRect f4)) (k0_pay19 (F :=
      F) (arg7.view.readAt (Elt F) (Rect.unit (s := S256x1) ![0, 0] S256x1.size inb_S256x1_S256x1_0_0).toLoadRect f7))
      (arg5.view.readAt (Elt F) (Rect.unit (s := S1x8320x128) ![0, 8192, 0] S1x128x128.size
      inb_S1x8320x128_S1x128x128_0_8192_0).toLoadRect f5) (arg6.view.readAt (Elt F) (Rect.unit (s := S1x8320x128) ![0, 8192, 0]
      S1x128x128.size inb_S1x8320x128_S1x128x128_0_8192_0).toLoadRect f6) (arg9.view.readAt (Elt F) (Rect.unit (s := S1x128) ![0, 0] S1x128.size inb_S1x128_S1x128_0_0).toLoadRect f9) (arg13.view.readCov (Val := Elt F)
      [⟨(Rect.unit ![0, 0] S512x128.size inb_S512x128_S512x128_0_0), (st (k0_pay18 (arg4.view.readAt (Elt F) (Rect.unit (s := S1x256x128) ![0, 0, 0] S1x256x128.size inb_S1x256x128_S1x256x128_0_0_0).toLoadRect f4)) (k0_pay19 (F :=
      F) (arg7.view.readAt (Elt F) (Rect.unit (s := S256x1) ![0, 0] S256x1.size inb_S256x1_S256x1_0_0).toLoadRect f7)) v26
      hw (arg5.view.read (Elt F) f5) (arg6.view.read (Elt F) f6) (arg8.view.read (Elt F) f8) (k0_t1_loop
      v26).trips).m⟩] (Rect.unit ![0, 0] S512x128.size inb_S512x128_S512x128_0_0).toLoadRect)
      (arg15.view.readCov (Val := Elt F) [⟨(Rect.unit ![0, 0] S512x128.size inb_S512x128_S512x128_0_0), (st
      (k0_pay18 (arg4.view.readAt (Elt F) (Rect.unit (s := S1x256x128) ![0, 0, 0] S1x256x128.size
      inb_S1x256x128_S1x256x128_0_0_0).toLoadRect f4)) (k0_pay19 (F := F) (arg7.view.readAt (Elt F) (Rect.unit (s := S256x1) ![0, 0] S256x1.size inb_S256x1_S256x1_0_0).toLoadRect f7)) v26 hw (arg5.view.read (Elt F) f5)
      (arg6.view.read (Elt F) f6) (arg8.view.read (Elt F) f8) (k0_t1_loop v26).trips).a⟩] (Rect.unit ![0, 0]
      S512x128.size inb_S512x128_S512x128_0_0).toLoadRect))⟩, ⟨(Rect.unit ![0, 0] S512x128.size
      inb_S512x128_S512x128_0_0), (st (k0_pay18 (arg4.view.readAt (Elt F) (Rect.unit (s := S1x256x128) ![0, 0, 0]
      S1x256x128.size inb_S1x256x128_S1x256x128_0_0_0).toLoadRect f4)) (k0_pay19 (F := F) (arg7.view.readAt (Elt F) (Rect.unit (s := S256x1) ![0, 0] S256x1.size inb_S256x1_S256x1_0_0).toLoadRect f7)) v26 hw (arg5.view.read
      (Elt F) f5) (arg6.view.read (Elt F) f6) (arg8.view.read (Elt F) f8) (k0_t1_loop v26).trips).a⟩]
      (Rect.unit ![0, 0] S512x128.size inb_S512x128_S512x128_0_0).toLoadRect) (arg14.view.readCov (Val := Elt
      F) [⟨(Rect.unit ![0, 0] S512x128.size inb_S512x128_S512x128_0_0), k0_pay31 (k0_pay18 (arg4.view.readAt (Elt F) (Rect.unit (s := S1x256x128) ![0, 0, 0] S1x256x128.size inb_S1x256x128_S1x256x128_0_0_0).toLoadRect f4)) (k0_pay19
      (F := F) (arg7.view.readAt (Elt F) (Rect.unit (s := S256x1) ![0, 0] S256x1.size inb_S256x1_S256x1_0_0).toLoadRect f7))
      (arg5.view.readAt (Elt F) (Rect.unit (s := S1x8320x128) ![0, 8192, 0] S1x128x128.size
      inb_S1x8320x128_S1x128x128_0_8192_0).toLoadRect f5) (arg9.view.readAt (Elt F) (Rect.unit (s := S1x128) ![0, 0]
      S1x128.size inb_S1x128_S1x128_0_0).toLoadRect f9) (arg13.view.readCov (Val := Elt F) [⟨(Rect.unit ![0,
      0] S512x128.size inb_S512x128_S512x128_0_0), (st (k0_pay18 (arg4.view.readAt (Elt F) (Rect.unit (s := S1x256x128) ![0, 0,
      0] S1x256x128.size inb_S1x256x128_S1x256x128_0_0_0).toLoadRect f4)) (k0_pay19 (F := F) (arg7.view.readAt (Elt F) (Rect.unit (s := S256x1) ![0, 0] S256x1.size inb_S256x1_S256x1_0_0).toLoadRect f7)) v26 hw (arg5.view.read
      (Elt F) f5) (arg6.view.read (Elt F) f6) (arg8.view.read (Elt F) f8) (k0_t1_loop v26).trips).m⟩]
      (Rect.unit ![0, 0] S512x128.size inb_S512x128_S512x128_0_0).toLoadRect) (arg14.view.readCov (Val := Elt
      F) [⟨(Rect.unit ![0, 0] S512x128.size inb_S512x128_S512x128_0_0), (st (k0_pay18 (arg4.view.readAt (Elt F) (Rect.unit (s := S1x256x128) ![0, 0, 0] S1x256x128.size inb_S1x256x128_S1x256x128_0_0_0).toLoadRect f4)) (k0_pay19 (F
      := F) (arg7.view.readAt (Elt F) (Rect.unit (s := S256x1) ![0, 0] S256x1.size inb_S256x1_S256x1_0_0).toLoadRect f7))
      v26 hw (arg5.view.read (Elt F) f5) (arg6.view.read (Elt F) f6) (arg8.view.read (Elt F) f8) (k0_t1_loop
      v26).trips).l⟩] (Rect.unit ![0, 0] S512x128.size inb_S512x128_S512x128_0_0).toLoadRect)⟩, ⟨(Rect.unit
      ![0, 0] S512x128.size inb_S512x128_S512x128_0_0), (st (k0_pay18 (arg4.view.readAt (Elt F) (Rect.unit (s := S1x256x128) ![0, 0, 0] S1x256x128.size inb_S1x256x128_S1x256x128_0_0_0).toLoadRect f4)) (k0_pay19 (F := F)
      (arg7.view.readAt (Elt F) (Rect.unit (s := S256x1) ![0, 0] S256x1.size inb_S256x1_S256x1_0_0).toLoadRect f7)) v26 hw
      (arg5.view.read (Elt F) f5) (arg6.view.read (Elt F) f6) (arg8.view.read (Elt F) f8) (k0_t1_loop
      v26).trips).l⟩] (Rect.unit ![0, 0] S512x128.size inb_S512x128_S512x128_0_0).toLoadRect))
      (arg11.view.readAt (Elt F) (Rect.unit (s := S1x128) ![0, 0] S1x128.size inb_S1x128_S1x128_0_0).toLoadRect f11)
      = outBlk (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) v26 hw := by
  have e4 := View.readAt_full arg4.view f4 inb_S1x256x128_S1x256x128_0_0_0
  have e7 := View.readAt_full arg7.view f7 inb_S256x1_S256x1_0_0
  have e9 := View.readAt_full arg9.view f9 inb_S1x128_S1x128_0_0
  have e11 := View.readAt_full arg11.view f11 inb_S1x128_S1x128_0_0
  have t5 : arg5.view.readAt (Elt F) (Rect.unit (s := S1x8320x128) ![0, 8192, 0] S1x128x128.size inb_S1x8320x128_S1x128x128_0_8192_0).toLoadRect f5
    = tailAt (arg5.view.read (Elt F) f5) := rfl
  have t6 : arg6.view.readAt (Elt F) (Rect.unit (s := S1x8320x128) ![0, 8192, 0] S1x128x128.size inb_S1x8320x128_S1x128x128_0_8192_0).toLoadRect f6
    = tailAt (arg6.view.read (Elt F) f6) := rfl
  have l0 : arg10.view.readAt (Elt F) (Rect.unit (s := S4x64) ![0, 0] S1x64.size inb_S4x64_S1x64_0_0).toLoadRect f10
    = lamAt 0 inb_S4x64_S1x64_0_0 (arg10.view.read (Elt F) f10) := rfl
  have l1 : arg10.view.readAt (Elt F) (Rect.unit (s := S4x64) ![1, 0] S1x64.size inb_S4x64_S1x64_1_0).toLoadRect f10
    = lamAt 1 inb_S4x64_S1x64_1_0 (arg10.view.read (Elt F) f10) := rfl
  have l2 : arg10.view.readAt (Elt F) (Rect.unit (s := S4x64) ![2, 0] S1x64.size inb_S4x64_S1x64_2_0).toLoadRect f10
    = lamAt 2 inb_S4x64_S1x64_2_0 (arg10.view.read (Elt F) f10) := rfl
  have l3 : arg10.view.readAt (Elt F) (Rect.unit (s := S4x64) ![3, 0] S1x64.size inb_S4x64_S1x64_3_0).toLoadRect f10
    = lamAt 3 inb_S4x64_S1x64_3_0 (arg10.view.read (Elt F) f10) := rfl
  rw [e4, e7, e9, e11, t5, t6, l0, l1, l2, l3]
  repeat rw [cov_read]
  rw [outBlk]
  rfl

/-- A held buffer is owned at whatever it reads. -/
theorem some_owns {sp : Space} {sh : Shape} {e : EltTy} (c : Dev nD) (g : Memref sig .tc sp sh e) (f : Buf (Elt F) (g.view.loc (c : Thread nD τ))) :
    iprop(g.view.loc (c : Thread nD τ) ↦[g.view.set]{fullShare} f)
      ⊢@{sProp 𝕄} iprop(∃ d f, ⌜g.view.read (Elt F) f = d⌝ ∗ (g.view.loc (c : Thread nD τ) ↦[g.view.set]{fullShare} f)) := by
  iintro H
  iexists (g.view.read (Elt F) f), f
  isplitr
  · ipureintro; rfl
  · iexact H

variable (c : Dev nD) (i : grid0.Coords)
  (arg3 : Memref sig .tc .smem S32 .i32) (harg3 : arg3.IsWhole)
  (arg4 : Memref sig .tc .vmem S1x256x128 .bf16) (harg4 : arg4.IsWhole)
  (arg5 : Memref sig .tc .vmem S1x8320x128 .bf16) (harg5 : arg5.IsWhole)
  (arg6 : Memref sig .tc .vmem S1x8320x128 .bf16) (harg6 : arg6.IsWhole)
  (arg7 : Memref sig .tc .vmem S256x1 .i32) (harg7 : arg7.IsWhole)
  (arg8 : Memref sig .tc .vmem S16x1x512 .i32) (harg8 : arg8.IsWhole)
  (arg9 : Memref sig .tc .vmem S1x128 .i32) (harg9 : arg9.IsWhole)
  (arg10 : Memref sig .tc .vmem S4x64 .f32) (harg10 : arg10.IsWhole)
  (arg11 : Memref sig .tc .vmem S1x128 .f32) (harg11 : arg11.IsWhole)
  (arg12 : Memref sig .tc .vmem S1x256x128 .bf16) (harg12 : arg12.IsWhole)
  (arg13 : Memref sig .tc .vmem S512x128 .f32) (harg13 : arg13.IsWhole)
  (arg14 : Memref sig .tc .vmem S512x128 .f32) (harg14 : arg14.IsWhole)
  (arg15 : Memref sig .tc .vmem S512x128 .f32) (harg15 : arg15.IsWhole)

set_option maxHeartbeats 1000000 in
/-- The body at a grid point: from the windows' blocks and the table of tile counts, whatever the scratch buffers and
    the output block hold, it leaves `outBlk` in the output block and everything it reads as it was. -/
theorem sound_kernel (q3 : PosShare TreeShare) (f3 : Buf (Elt F) (arg3.view.loc (c : Thread nD τ)))
    (v26 : BitVec 32) (hw : k0_chk1 v26)
    (hT : arg3.view.readAt (Elt F) (Rect.unit (s := S32) (k0_off1 i) S1.size (k0_off1_inb i)).toLoadRect f3 = fun _ => v26)
    (x4 : Vec F S1x256x128 .bf16) (x5 x6 : Vec F S1x8320x128 .bf16) (x7 : Vec F S256x1 .i32) (x8 : Vec F S16x1x512 .i32)
    (x9 : Vec F S1x128 .i32) (x10 : Vec F S4x64 .f32) (x11 : Vec F S1x128 .f32) (K : PUnit → sProp 𝕄) :
    iprop((arg3.view.loc (c : Thread nD τ) ↦[arg3.view.set]{q3} f3)
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg10 fullShare x10 ∗ owns (c : Thread nD τ) arg11 fullShare x11
        ∗ (∃ d, owns (c : Thread nD τ) arg12 fullShare d) ∗ (∃ d, owns (c : Thread nD τ) arg13 fullShare d)
        ∗ (∃ d, owns (c : Thread nD τ) arg14 fullShare d) ∗ (∃ d, owns (c : Thread nD τ) arg15 fullShare d)
        ∗ (iprop((arg3.view.loc (c : Thread nD τ) ↦[arg3.view.set]{q3} f3)
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg10 fullShare x10 ∗ owns (c : Thread nD τ) arg11 fullShare x11
        ∗ owns (c : Thread nD τ) arg12 fullShare (outBlk x4 x5 x6 x7 x8 x9 x10 x11 v26 hw)
        ∗ (∃ d, owns (c : Thread nD τ) arg13 fullShare d)
        ∗ (∃ d, owns (c : Thread nD τ) arg14 fullShare d) ∗ (∃ d, owns (c : Thread nD τ) arg15 fullShare d)) -∗ K ⟨⟩))
      ⊢ wp frame (wpE (defs₀ (F := F)) Variants.none (c : Thread nD τ) none) Set.univ (cc0_diff_attn i arg3 harg3 arg4 harg4 arg5 harg5 arg6 harg6 arg7 harg7 arg8 harg8 arg9 harg9 arg10 harg10 arg11 harg11 arg12 harg12 arg13 harg13 arg14 harg14 arg15 harg15) K := by
  simp only [cc0_diff_attn_eq_skeleton]; unfold cc0_diff_attn_skel
  simp only [k0_part3_eq_skeleton, k0_part4_eq_skeleton, k0_part5_eq_skeleton]
  unfold owns
  iintro ⟨H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, Hk⟩
  subst hf4 hf5 hf6 hf7 hf8 hf9 hf10 hf11
  sl_exec
  sl_step
  iapply Hk
  isplitl [H3]; · iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    rotate_left
    · iexact H12
    ipureintro
    refine (View.read_writes_full ..).trans ?_
    exact stored_eq arg4 arg5 arg6 arg7 arg8 arg9 arg10 arg11 arg13 arg14 arg15 f4 f5 f6 f7 f8 f9 f10 f11 v26 hw
  isplitl [H13]; · iapply (some_owns (F := F) c arg13) $$ H13
  isplitl [H14]; · iapply (some_owns (F := F) c arg14) $$ H14
  iapply (some_owns (F := F) c arg15) $$ H15

end Cert.AttnIdeal.Hand
-- ==== Proof.AttnIdeal.Frame.lean ====
/- The frame of the attention call: what every window holds at every grid point, and the run of the whole call. -/
module

public import proofs.«01_k».proof.Proof.Gen.AttnIdeal.Launch
public import proofs.«01_k».proof.Proof.Gen.AttnIdeal.Skeleton
public import proofs.«01_k».proof.Proof.AttnIdeal.Point
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The table of tile counts -/

/-- The table's contents: entry `i` is the number of whole key tiles query tile `i` visits. -/
def tbl : pre0.Contents (Elt F) := fun
  | 0 => fun i => lit0 (S32.rowMajor i)
  | ⟨_ + 1, h⟩ => absurd h (Nat.not_lt.2 (Nat.le_add_left _ _))
/-- The call's table contents, as the pipeline takes them. -/
abbrev adm : (p : Fin 1) → (pcfgs (F := F) p).Adm := fun _ => ⟨tbl, trivial⟩
/-- The call at those contents. -/
abbrev acfg : Cfg sig Λ₀ := Pipeline.pin (pcfgs (F := F)) adm 0

/-- The table's entry at a grid point. -/
def word (i : grid0.Coords) : BitVec 32 := lit0 (i 2)
/-- Every entry keeps the loop's tiles inside the arrays. -/
theorem lit0_chk : ∀ i : Fin 32, k0_chk1 (lit0 i) := by decide +kernel
/-- The entry at a grid point keeps its tiles inside the arrays. -/
theorem word_chk (i : grid0.Coords) : k0_chk1 (word i) := lit0_chk (i 2)

/-- The word the body loads from the table at a grid point. -/
theorem word_read (i : grid0.Coords) :
    (Memref.whole main_c).view.readAt (Elt F) (Rect.unit (s := S32) (k0_off1 i) S1.size (k0_off1_inb i)).toLoadRect (tbl (F := F) 0)
      = fun _ => word i := by
  funext x
  show lit0 (S32.rowMajor _) = lit0 (i 2)
  congr 1
  apply Fin.ext
  refine (Shape.rowMajor_val_one _).trans ?_
  have hx : (x 0).val = 0 := by have := (x 0).isLt; simpa using this
  have hi : (i 2).val < 32 := (i 2).isLt
  show (k0_off1 i) 0 + 1 * (x 0).val = (i 2).val
  rw [hx]
  show (BitVec.ofNat 32 (i 2).val).toNat + 0 = (i 2).val
  simp only [BitVec.toNat_ofNat]; omega

/-! ## The arrays when the call is entered -/

/-- Core `c`'s buffers after the host operations before the call. -/
abbrev V (c : Dev nD) (b : Ref sig .tc) : Buf (Elt F) ((c : Thread nD τ).loc b) :=
  StableHlo.after (hostOps0 (F := F)) (fun b => m (c, b)) b

/-- The host operations allocate nothing. -/
theorem hostOps0_fresh : (hostOps0 : List (HloOp τ sig (Elt F))).Forall fun op => op.fresh = ∅ := by
  simp only [List.Forall]; repeat' constructor

set_option maxHeartbeats 800000 in
/-- The program is those host operations and the call. -/
theorem hmain : Pipeline.HMainP (Ix := Unit) (Name := ℕ) (U := UR sig nD τ) (Lvl := ℕ) (pcfgs (F := F)) 0 defs₀ Variants.none m (main (F := F)) (V m) :=
  Pipeline.hmainP_prefix (pcfgs (F := F)) 0 defs₀ Variants.none m main hostOps0 hostOps0_sub hostOps0_fresh main_chain

/-- The buffers the host operations write. -/
def hostOps0_W : List (Ref sig .tc) := [main_c, main_c_0, main_c_1, main_c_2, main_v0, main_v1, main_v2, main_v3, main_v4, main_v5, main_v6, main_v7, main_v8, main_v9, main_v10]
/-- They write those buffers and no other. -/
theorem hostOps0_writes : (hostOps0 : List (HloOp τ sig (Elt F))).Forall fun op =>
    op.writes ⊆ (hostOps0_W.map (Proc.devRef (τ := τ) .tc)).toFinset := StableHlo.forall_writes_sub_of_map rfl
/-- No host operation writes `main_arg0`. -/
theorem V_main_arg0 (c : Dev nD) : V m c main_arg0 = m ((c : Thread nD τ).loc main_arg0) :=
  StableHlo.after_of_writes_sub hostOps0 _ hostOps0_writes (by decide)
/-- No host operation writes `main_arg1`. -/
theorem V_main_arg1 (c : Dev nD) : V m c main_arg1 = m ((c : Thread nD τ).loc main_arg1) :=
  StableHlo.after_of_writes_sub hostOps0 _ hostOps0_writes (by decide)
/-- No host operation writes `main_arg2`. -/
theorem V_main_arg2 (c : Dev nD) : V m c main_arg2 = m ((c : Thread nD τ).loc main_arg2) :=
  StableHlo.after_of_writes_sub hostOps0 _ hostOps0_writes (by decide)
/-- No host operation writes `main_arg3`. -/
theorem V_main_arg3 (c : Dev nD) : V m c main_arg3 = m ((c : Thread nD τ).loc main_arg3) :=
  StableHlo.after_of_writes_sub hostOps0 _ hostOps0_writes (by decide)
/-- No host operation writes `main_arg4`. -/
theorem V_main_arg4 (c : Dev nD) : V m c main_arg4 = m ((c : Thread nD τ).loc main_arg4) :=
  StableHlo.after_of_writes_sub hostOps0 _ hostOps0_writes (by decide)
/-- No host operation writes `main_arg5`. -/
theorem V_main_arg5 (c : Dev nD) : V m c main_arg5 = m ((c : Thread nD τ).loc main_arg5) :=
  StableHlo.after_of_writes_sub hostOps0 _ hostOps0_writes (by decide)
/-- No host operation writes `main_arg6`. -/
theorem V_main_arg6 (c : Dev nD) : V m c main_arg6 = m ((c : Thread nD τ).loc main_arg6) :=
  StableHlo.after_of_writes_sub hostOps0 _ hostOps0_writes (by decide)
/-- No host operation writes `main_arg7`. -/
theorem V_main_arg7 (c : Dev nD) : V m c main_arg7 = m ((c : Thread nD τ).loc main_arg7) :=
  StableHlo.after_of_writes_sub hostOps0 _ hostOps0_writes (by decide)

/-- The table when the call is entered. -/
theorem V_pre (c : Dev nD) : ∀ k, V m c (pre0.ref k) = tbl (F := F) k := fun
  | 0 => by
    show StableHlo.after hostOps0 _ (Proc.devRef .tc main_c) = _
    after_results_simp
    rfl
  | ⟨_ + 1, h⟩ => absurd h (Nat.not_lt.2 (Nat.le_add_left _ _))

/-! ## The windows' blocks -/

/-- Window `w`'s block at point `t`, read off its array as the call finds it. -/
def iblk (c : Dev nD) (w : Fin (acfg (F := F)).W) (t : Fin (acfg (F := F)).N) :
    (((acfg (F := F)).win w).xblock ((acfg (F := F)).grid.coords t)).Idx → Elt F ((acfg (F := F)).win w).elt :=
  (((acfg (F := F)).win w).blk t).view.read (Elt F) (V m c (Pipeline.arrRef spec0 w))

/-- A default for the part of the query block no fetch fills; there is none, and nothing reads it. -/
def dflt0_0 : ((acfg (F := F)).win 0).block.Idx → Elt F ((acfg (F := F)).win 0).elt := fun _ => Classical.choice inferInstance
/-- The query block the body finds. -/
def X0_0 (c : Dev nD) (t : Fin (acfg (F := F)).N) : ((acfg (F := F)).win 0).block.Idx → Elt F ((acfg (F := F)).win 0).elt :=
  ((acfg (F := F)).win 0).fill ((acfg (F := F)).grid.coords t) dflt0_0 (iblk m c 0 t)
/-- No query block of the grid is cut. -/
theorem clip_none : ∀ (i : grid0.Coords) (a : Fin 3), (clip0_0 i a).extent (spec0_0.size a) = spec0_0.size a := by decide +kernel
/-- The whole query block is moved. -/
theorem xsize0_0 (t : Fin (acfg (F := F)).N) (a) : ((acfg (F := F)).win 0).xsize ((acfg (F := F)).grid.coords t) a = ((acfg (F := F)).win 0).size a :=
  clip_none ((acfg (F := F)).grid.coords t) a
/-- Every element of it is. -/
theorem moved0_0 (t : Fin (acfg (F := F)).N) (j : ((acfg (F := F)).win 0).block.Idx) :
    ((acfg (F := F)).win 0).moved ((acfg (F := F)).grid.coords t) j = true :=
  (((acfg (F := F)).win 0).moved_iff _ j).mpr fun a => by rw [xsize0_0 t a]; exact (j a).isLt
/-- So what was in the buffer before does not matter. -/
theorem fill0_0 (t : Fin (acfg (F := F)).N) (d d' : ((acfg (F := F)).win 0).block.Idx → Elt F ((acfg (F := F)).win 0).elt) (g) :
    ((acfg (F := F)).win 0).fill ((acfg (F := F)).grid.coords t) d g = ((acfg (F := F)).win 0).fill ((acfg (F := F)).grid.coords t) d' g := by
  funext j; unfold Pipeline.Window.fill; rw [dif_pos (moved0_0 t j), dif_pos (moved0_0 t j)]

/-- The query window's buffer holds its block at every point. -/
theorem before0_0_of {c : Dev nD} (dat : Dat τ (Elt F) Unit ℕ (UR sig nD τ) ℕ (acfg (F := F)) c) (hA : dat.A 0 = V m c (Pipeline.arrRef spec0 0))
    (hafter : ∀ t, dat.after 0 t = X0_0 m c t) (t : Fin (acfg (F := F)).N) (d) : dat.before 0 t d = X0_0 m c t :=
  (dat.before_in_eq_fetched 0 rfl (fun _ => rfl)
      (fun t t' h => funext fun a => congrArg (fun n => Pipeline.Clip.of n (((acfg (F := F)).win 0).size a) (S8x8320x512.size a)) (congrFun h a))
      (fun t => by rw [hafter]; unfold X0_0; rw [Pipeline.Window.cut_fill]; unfold Dat.blockOf iblk; rw [hA]; try rfl) t d).trans
    (by unfold Dat.fetched X0_0; rw [fill0_0 t d dflt0_0]; unfold Dat.blockOf iblk; rw [hA]; try rfl)
/-- Window 1's buffer holds its block at every point. -/
theorem before0_1_of {c : Dev nD} (dat : Dat τ (Elt F) Unit ℕ (UR sig nD τ) ℕ (acfg (F := F)) c) (hA : dat.A 1 = V m c (Pipeline.arrRef spec0 1))
    (hafter : ∀ t, dat.after 1 t = iblk m c 1 t) (t : Fin (acfg (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's buffer holds its block at every point. -/
theorem before0_2_of {c : Dev nD} (dat : Dat τ (Elt F) Unit ℕ (UR sig nD τ) ℕ (acfg (F := F)) c) (hA : dat.A 2 = V m c (Pipeline.arrRef spec0 2))
    (hafter : ∀ t, dat.after 2 t = iblk m c 2 t) (t : Fin (acfg (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's buffer holds its block at every point. -/
theorem before0_3_of {c : Dev nD} (dat : Dat τ (Elt F) Unit ℕ (UR sig nD τ) ℕ (acfg (F := F)) c) (hA : dat.A 3 = V m c (Pipeline.arrRef spec0 3))
    (hafter : ∀ t, dat.after 3 t = iblk m c 3 t) (t : Fin (acfg (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4's buffer holds its block at every point. -/
theorem before0_4_of {c : Dev nD} (dat : Dat τ (Elt F) Unit ℕ (UR sig nD τ) ℕ (acfg (F := F)) c) (hA : dat.A 4 = V m c (Pipeline.arrRef spec0 4))
    (hafter : ∀ t, dat.after 4 t = iblk m c 4 t) (t : Fin (acfg (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5's buffer holds its block at every point. -/
theorem before0_5_of {c : Dev nD} (dat : Dat τ (Elt F) Unit ℕ (UR sig nD τ) ℕ (acfg (F := F)) c) (hA : dat.A 5 = V m c (Pipeline.arrRef spec0 5))
    (hafter : ∀ t, dat.after 5 t = iblk m c 5 t) (t : Fin (acfg (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6's buffer holds its block at every point. -/
theorem before0_6_of {c : Dev nD} (dat : Dat τ (Elt F) Unit ℕ (UR sig nD τ) ℕ (acfg (F := F)) c) (hA : dat.A 6 = V m c (Pipeline.arrRef spec0 6))
    (hafter : ∀ t, dat.after 6 t = iblk m c 6 t) (t : Fin (acfg (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Window 7's buffer holds its block at every point. -/
theorem before0_7_of {c : Dev nD} (dat : Dat τ (Elt F) Unit ℕ (UR sig nD τ) ℕ (acfg (F := F)) c) (hA : dat.A 7 = V m c (Pipeline.arrRef spec0 7))
    (hafter : ∀ t, dat.after 7 t = iblk m c 7 t) (t : Fin (acfg (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- What the arrays start as, and what the body leaves in each window's buffer. -/
def dats (_ : Fin 1) (c : Dev nD) : Dat τ (Elt F) Unit ℕ (UR sig nD τ) ℕ (acfg (F := F)) c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk (X0_0 m c t) (iblk m c 1 t) (iblk m c 2 t) (iblk m c 3 t) (iblk m c 4 t) (iblk m c 5 t) (iblk m c 6 t) (iblk m c 7 t) (word (grid0.coords t)) (word_chk (grid0.coords t))
    | ⟨_ + 9, h⟩ => absurd h (Nat.not_lt.2 (Nat.le_add_left _ _))
  Φ _ := iprop(Pipeline.ΦA spec0 c ∗ Pipeline.ΦT pre0 tbl c)
  q _ := fullShare
  owed _ := 0

/-- The arrays start as the call finds them. -/
theorem A_eq (c : Dev nD) (w : Fin (acfg (F := F)).W) : (dats m 0 c).A w = V m c (Pipeline.arrRef spec0 w) := by
  dsimp only [dats]
/-- Window 0's buffer after the body. -/
theorem after0_0 (c : Dev nD) (t : Fin (acfg (F := F)).N) : (dats m 0 c).after 0 t = X0_0 m c t := by dsimp only [dats]; rfl
/-- Window 1's buffer after the body. -/
theorem after0_1 (c : Dev nD) (t : Fin (acfg (F := F)).N) : (dats m 0 c).after 1 t = iblk m c 1 t := by dsimp only [dats]; rfl
/-- Window 2's buffer after the body. -/
theorem after0_2 (c : Dev nD) (t : Fin (acfg (F := F)).N) : (dats m 0 c).after 2 t = iblk m c 2 t := by dsimp only [dats]; rfl
/-- Window 3's buffer after the body. -/
theorem after0_3 (c : Dev nD) (t : Fin (acfg (F := F)).N) : (dats m 0 c).after 3 t = iblk m c 3 t := by dsimp only [dats]; rfl
/-- Window 4's buffer after the body. -/
theorem after0_4 (c : Dev nD) (t : Fin (acfg (F := F)).N) : (dats m 0 c).after 4 t = iblk m c 4 t := by dsimp only [dats]; rfl
/-- Window 5's buffer after the body. -/
theorem after0_5 (c : Dev nD) (t : Fin (acfg (F := F)).N) : (dats m 0 c).after 5 t = iblk m c 5 t := by dsimp only [dats]; rfl
/-- Window 6's buffer after the body. -/
theorem after0_6 (c : Dev nD) (t : Fin (acfg (F := F)).N) : (dats m 0 c).after 6 t = iblk m c 6 t := by dsimp only [dats]; rfl
/-- Window 7's buffer after the body. -/
theorem after0_7 (c : Dev nD) (t : Fin (acfg (F := F)).N) : (dats m 0 c).after 7 t = iblk m c 7 t := by dsimp only [dats]; rfl
/-- Window 8's buffer after the body. -/
theorem after0_8 (c : Dev nD) (t : Fin (acfg (F := F)).N) : (dats m 0 c).after 8 t = outBlk (X0_0 m c t) (iblk m c 1 t) (iblk m c 2 t) (iblk m c 3 t) (iblk m c 4 t) (iblk m c 5 t) (iblk m c 6 t) (iblk m c 7 t) (word (grid0.coords t)) (word_chk (grid0.coords t)) := by dsimp only [dats]; rfl
/-- Window 0's buffer when the body starts. -/
theorem before0_0 (c : Dev nD) (t : Fin (acfg (F := F)).N) (d) : (dats m 0 c).before 0 t d = X0_0 m c t :=
  before0_0_of m (dats m 0 c) (A_eq m c 0) (after0_0 m c) t d
/-- Window 1's buffer when the body starts. -/
theorem before0_1 (c : Dev nD) (t : Fin (acfg (F := F)).N) (d) : (dats m 0 c).before 1 t d = iblk m c 1 t :=
  before0_1_of m (dats m 0 c) (A_eq m c 1) (after0_1 m c) t d
/-- Window 2's buffer when the body starts. -/
theorem before0_2 (c : Dev nD) (t : Fin (acfg (F := F)).N) (d) : (dats m 0 c).before 2 t d = iblk m c 2 t :=
  before0_2_of m (dats m 0 c) (A_eq m c 2) (after0_2 m c) t d
/-- Window 3's buffer when the body starts. -/
theorem before0_3 (c : Dev nD) (t : Fin (acfg (F := F)).N) (d) : (dats m 0 c).before 3 t d = iblk m c 3 t :=
  before0_3_of m (dats m 0 c) (A_eq m c 3) (after0_3 m c) t d
/-- Window 4's buffer when the body starts. -/
theorem before0_4 (c : Dev nD) (t : Fin (acfg (F := F)).N) (d) : (dats m 0 c).before 4 t d = iblk m c 4 t :=
  before0_4_of m (dats m 0 c) (A_eq m c 4) (after0_4 m c) t d
/-- Window 5's buffer when the body starts. -/
theorem before0_5 (c : Dev nD) (t : Fin (acfg (F := F)).N) (d) : (dats m 0 c).before 5 t d = iblk m c 5 t :=
  before0_5_of m (dats m 0 c) (A_eq m c 5) (after0_5 m c) t d
/-- Window 6's buffer when the body starts. -/
theorem before0_6 (c : Dev nD) (t : Fin (acfg (F := F)).N) (d) : (dats m 0 c).before 6 t d = iblk m c 6 t :=
  before0_6_of m (dats m 0 c) (A_eq m c 6) (after0_6 m c) t d
/-- Window 7's buffer when the body starts. -/
theorem before0_7 (c : Dev nD) (t : Fin (acfg (F := F)).N) (d) : (dats m 0 c).before 7 t d = iblk m c 7 t :=
  before0_7_of m (dats m 0 c) (A_eq m c 7) (after0_7 m c) t d

/-! ## The body at a grid point -/

/-- Window 0's buffer at point `t`. -/
abbrev st0_0 (t : Fin (acfg (F := F)).N) := ((acfg (F := F)).win 0).stage ((acfg (F := F)).slots t 0)
/-- Window 1's buffer at point `t`. -/
abbrev st0_1 (t : Fin (acfg (F := F)).N) := ((acfg (F := F)).win 1).stage ((acfg (F := F)).slots t 1)
/-- Window 2's buffer at point `t`. -/
abbrev st0_2 (t : Fin (acfg (F := F)).N) := ((acfg (F := F)).win 2).stage ((acfg (F := F)).slots t 2)
/-- Window 3's buffer at point `t`. -/
abbrev st0_3 (t : Fin (acfg (F := F)).N) := ((acfg (F := F)).win 3).stage ((acfg (F := F)).slots t 3)
/-- Window 4's buffer at point `t`. -/
abbrev st0_4 (t : Fin (acfg (F := F)).N) := ((acfg (F := F)).win 4).stage ((acfg (F := F)).slots t 4)
/-- Window 5's buffer at point `t`. -/
abbrev st0_5 (t : Fin (acfg (F := F)).N) := ((acfg (F := F)).win 5).stage ((acfg (F := F)).slots t 5)
/-- Window 6's buffer at point `t`. -/
abbrev st0_6 (t : Fin (acfg (F := F)).N) := ((acfg (F := F)).win 6).stage ((acfg (F := F)).slots t 6)
/-- Window 7's buffer at point `t`. -/
abbrev st0_7 (t : Fin (acfg (F := F)).N) := ((acfg (F := F)).win 7).stage ((acfg (F := F)).slots t 7)
/-- Window 8's buffer at point `t`. -/
abbrev st0_8 (t : Fin (acfg (F := F)).N) := ((acfg (F := F)).win 8).stage ((acfg (F := F)).slots t 8)
/-- The body at point `t`. -/
abbrev bodyAt0 (t : Fin (acfg (F := F)).N) : Prog (TpuEff nD τ sig (Elt F) Λ₀ .tc) PUnit :=
  cc0_diff_attn (grid0.coords t) (Memref.whole main_c) (Memref.isWhole_whole _) (spec0_0.stage ((acfg (F := F)).slots t 0)) (hstage0_0 (((acfg (F := F)).slots t 0).cast nbuf0_0)) (spec0_1.stage ((acfg (F := F)).slots t 1)) (hstage0_1 (((acfg (F := F)).slots t 1).cast nbuf0_1)) (spec0_2.stage ((acfg (F := F)).slots t 2)) (hstage0_2 (((acfg (F := F)).slots t 2).cast nbuf0_2)) (spec0_3.stage ((acfg (F := F)).slots t 3)) (hstage0_3 (((acfg (F := F)).slots t 3).cast nbuf0_3)) (spec0_4.stage ((acfg (F := F)).slots t 4)) (hstage0_4 (((acfg (F := F)).slots t 4).cast nbuf0_4)) (spec0_5.stage ((acfg (F := F)).slots t 5)) (hstage0_5 (((acfg (F := F)).slots t 5).cast nbuf0_5)) (spec0_6.stage ((acfg (F := F)).slots t 6)) (hstage0_6 (((acfg (F := F)).slots t 6).cast nbuf0_6)) (spec0_7.stage ((acfg (F := F)).slots t 7)) (hstage0_7 (((acfg (F := F)).slots t 7).cast nbuf0_7)) (spec0_8.stage ((acfg (F := F)).slots t 8)) (hstage0_8 (((acfg (F := F)).slots t 8).cast nbuf0_8)) (Memref.whole cc0_scratch0) (Memref.isWhole_whole _) (Memref.whole cc0_scratch1) (Memref.isWhole_whole _) (Memref.whole cc0_scratch2) (Memref.isWhole_whole _)

/-- What the body is called with at point `t`. -/
def bodyPre (c : Dev nD) (t : Fin (acfg (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
/-- What it returns. -/
def bodyPost (c : Dev nD) (t : Fin (acfg (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- A whole scratch buffer at some contents is owned at what it reads. -/
theorem some_whole (c : Dev nD) (b : Ref sig .tc) (g : Buf (Elt F) ((c : Thread nD τ).loc b)) :
    iprop(((c : Thread nD τ).loc b) ↦{fullShare} g) ⊢@{sProp 𝕄} iprop(∃ d, owns (c : Thread nD τ) (Memref.whole b) fullShare d) := by
  iintro H
  iexists ((Memref.whole b).view.read (Elt F) g)
  unfold owns
  iexists g
  isplitr
  · ipureintro; rfl
  · simp only [View.set_whole]; iexact H
/-- And back. -/
theorem whole_some (c : Dev nD) (b : Ref sig .tc) :
    iprop(∃ d, owns (c : Thread nD τ) (Memref.whole b) fullShare d) ⊢@{sProp 𝕄} iprop(∃ g : Buf (Elt F) ((c : Thread nD τ).loc b), ((c : Thread nD τ).loc b) ↦{fullShare} g) := by
  unfold owns
  simp only [View.set_whole]
  iintro ⟨%d, %f, -, H⟩
  iexists f
  iexact H

/-- The table at the half share the body gets. -/
theorem table_eq (c : Dev nD) : (Pipeline.ΦT pre0 (tbl (F := F)) c : sProp 𝕄)
    = iprop((Memref.whole main_c).view.loc (c : Thread nD τ) ↦[(Memref.whole main_c).view.set]{fullShare.right} tbl (F := F) 0) := by
  unfold Pipeline.ΦT Pipeline.prefHeld
  rw [bigSep_univ_eq_bigSepL [(0 : Fin 1)] (by decide) (by decide)]
  simp only [View.set_whole]
  rfl

set_option maxHeartbeats 1000000 in
/-- The body at any point leaves each input's buffer at its block and the output's at the block `outBlk`. -/
theorem sound_body (c : Dev nD) (t : Fin (acfg (F := F)).N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7]
  rw [show (dats m 0 c).Φ t.succ = iprop(Pipeline.ΦA spec0 c ∗ Pipeline.ΦT pre0 tbl c) from rfl,
    show (dats m 0 c).Φ t.castSucc = iprop(Pipeline.ΦA spec0 c ∗ Pipeline.ΦT pre0 tbl c) from rfl,
    show (dats m 0 c).owesAt () t.succ = (dats m 0 c).owesAt () t.castSucc from rfl,
    after0_0, after0_1, after0_2, after0_3, after0_4, after0_5, after0_6, after0_7, after0_8, table_eq]
  unfold Pipeline.ΦA
  rw [scopedRest0_eq]
  iintro ⟨⟨⟨⟨⟨%g0, S0⟩, ⟨%g1, S1⟩, ⟨%g2, S2⟩⟩, HP⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel (F := F) c (grid0.coords t) _ _ _ _ _ _ _ _ _ _ _ _ _ _ _ _ _ _ _ _ _ _ _ _ _ _ fullShare.right (tbl (F := F) 0)
    (word (grid0.coords t)) (word_chk (grid0.coords t)) (word_read (grid0.coords t)) (X0_0 m c t) (iblk m c 1 t) (iblk m c 2 t) (iblk m c 3 t) (iblk m c 4 t) (iblk m c 5 t) (iblk m c 6 t) (iblk m c 7 t) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]
  · iapply (some_whole (F := F) c cc0_scratch0 g0) $$ S0
  isplitl [S1]
  · iapply (some_whole (F := F) c cc0_scratch1 g1) $$ S1
  isplitl [S2]
  · iapply (some_whole (F := F) c cc0_scratch2 g2) $$ S2
  iintro ⟨HT, H0, H1, H2, H3, H4, H5, H6, H7, H8, S0, S1, S2⟩
  isplitl [HP HT S0 S1 S2]
  · isplitr [HT]
    · isplitr [HP]
      · isplitl [S0]; · iapply (whole_some (F := F) c cc0_scratch0) $$ S0
        isplitl [S1]; · iapply (whole_some (F := F) c cc0_scratch1) $$ S1
        iapply (whole_some (F := F) c cc0_scratch2) $$ S2
      · iexact HP
    · iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`. -/
theorem defs₀_row (t : Fin (acfg (F := F)).N) :
    defs₀ (F := F) .tc (acfg (F := F)).body ((acfg (F := F)).bodyArgs t ((acfg (F := F)).slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array ends at what the proof data computes, every other buffer as the call found it, and every
    semaphore counter at zero. -/
theorem run_main : θ_run defs (onTc (τ := τ) (main (F := F))) (s₀ m ρ) (fun r =>
    Pipeline.FramePost (Pipeline.pin (pcfgs (F := F)) adm) (dats m) 0 (V m) r ∧ r.2.sem = fun _ => 0) :=
  Pipeline.θ_run_frameP (Q' := _) (pcfgs (F := F)) adm (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hpf := V_pre m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h' => ⟨fun c => by
    have h := h'.1
    exact ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by exact (by decide : ∀ w, Pipeline.arrRef spec0 w ≠ main_arg3)))).trans (V_main_arg3 m c),
      ((h c).2 main_arg4 (Pipeline.mem_restRefs_of main_arg4 (by decide) (by exact (by decide : ∀ w, Pipeline.arrRef spec0 w ≠ main_arg4)))).trans (V_main_arg4 m c),
      ((h c).2 main_arg5 (Pipeline.mem_restRefs_of main_arg5 (by decide) (by exact (by decide : ∀ w, Pipeline.arrRef spec0 w ≠ main_arg5)))).trans (V_main_arg5 m c),
      ((h c).2 main_arg6 (Pipeline.mem_restRefs_of main_arg6 (by decide) (by exact (by decide : ∀ w, Pipeline.arrRef spec0 w ≠ main_arg6)))).trans (V_main_arg6 m c),
      ((h c).2 main_arg7 (Pipeline.mem_restRefs_of main_arg7 (by decide) (by exact (by decide : ∀ w, Pipeline.arrRef spec0 w ≠ main_arg7)))).trans (V_main_arg7 m c)⟩, h'.2⟩) (run_main m ρ)

end Cert.AttnIdeal.Hand
-- ==== Proof.Math.Softmax.lean ====
/- Softmax over extended reals, taken key tile by key tile or all at once, and the normalisation of a row. -/
module

public import Idealize.ShloMosaic.PureOps.Ideal
public import Idealize.ShloMosaic.PureOps.Ideal.Laws

@[expose] public section

noncomputable section

namespace Cert.Attn.Math

open Idealize.ShloMosaic

/-- The exponential weight of a score `s` against a maximum `m`, as a real. -/
def E (s m : EReal) : ℝ := (Ideal.exp (s - m)).toReal

/-- Against a greater maximum the exponential is a real. -/
theorem exp_sub {s m : EReal} (h : s ≤ m) : Ideal.exp (s - m) = ((E s m : ℝ) : EReal) := by
  unfold E
  induction s with
  | bot => simp
  | top => obtain rfl := top_le_iff.1 h; simp
  | coe s =>
    induction m with
    | bot => simp at h
    | top => simp
    | coe m => rw [← EReal.coe_sub, Ideal.exp_coe, EReal.toReal_coe]

/-- A masked score weighs nothing. -/
theorem E_bot (m : EReal) : E ⊥ m = 0 := by simp [E]

/-- A weight is not negative. -/
theorem E_nonneg (s m : EReal) : 0 ≤ E s m := by
  unfold E
  induction s with
  | bot => simp
  | top => induction m <;> simp
  | coe s =>
    induction m with
    | bot => simp
    | top => simp
    | coe m => rw [← EReal.coe_sub, Ideal.exp_coe, EReal.toReal_coe]; exact (Real.exp_pos _).le

/-- Rescaling a weight to a greater maximum. -/
theorem E_mul {s m m' : EReal} (h : s ≤ m) (h' : m ≤ m') : E m m' * E s m = E s m' := by
  induction m' with
  | bot =>
    obtain rfl := le_bot_iff.1 h'
    obtain rfl := le_bot_iff.1 h
    simp [E]
  | top =>
    have e1 : E m ⊤ = 0 := by simp [E]
    have e2 : E s ⊤ = 0 := by simp [E]
    rw [e1, e2, zero_mul]
  | coe m' =>
    induction m with
    | bot => obtain rfl := le_bot_iff.1 h; simp [E_bot]
    | top => simp at h'
    | coe m =>
      induction s with
      | bot => simp [E_bot]
      | top => simp at h
      | coe s =>
        unfold E
        rw [← EReal.coe_sub, ← EReal.coe_sub, ← EReal.coe_sub, Ideal.exp_coe, Ideal.exp_coe, Ideal.exp_coe,
          EReal.toReal_coe, EReal.toReal_coe, EReal.toReal_coe, ← Real.exp_add]
        congr 1; ring

/-- A finite sum of reals is the real sum. -/
theorem sum_coe {ι : Type*} (K : Finset ι) (f : ι → ℝ) : ∑ j ∈ K, ((f j : ℝ) : EReal) = ((∑ j ∈ K, f j : ℝ) : EReal) := by
  classical
  induction K using Finset.induction_on with
  | empty => simp
  | insert a K h ih => rw [Finset.sum_insert h, Finset.sum_insert h, ih, EReal.coe_add]

/-- The running maximum takes in a tile of `n` keys from key `b`. -/
theorem sup_tile (K : Finset ℕ) (s : ℕ → EReal) (b n : ℕ) :
    max (K.sup s) ((Finset.univ : Finset (Fin n)).fold max ⊥ fun x : Fin n => s (b + x)) = (K ∪ Finset.Ico b (b + n)).sup s := by
  rw [Finset.sup_union]
  congr 1
  apply le_antisymm
  · change Finset.univ.sup (fun x : Fin n => s (b + x)) ≤ _
    refine Finset.sup_le fun x _ => Finset.le_sup (f := s) ?_
    have := x.2
    simp
  · refine Finset.sup_le fun j hj => ?_
    change _ ≤ Finset.univ.sup (fun x : Fin n => s (b + x))
    obtain ⟨h1, h2⟩ := Finset.mem_Ico.1 hj
    have := Finset.le_sup (f := fun x : Fin n => s (b + x)) (Finset.mem_univ ⟨j - b, by omega⟩)
    simpa [Nat.add_sub_cancel' h1] using this

/-- A sum over a tile is the sum over its keys. -/
theorem sum_tile {M : Type*} [AddCommMonoid M] (b n : ℕ) (f : ℕ → M) : ∑ x : Fin n, f (b + x) = ∑ j ∈ Finset.Ico b (b + n), f j := by
  rw [Finset.sum_Ico_eq_sum_range, Nat.add_sub_cancel_left, Finset.sum_range]

/-- The running product takes in a tile: the old one is rescaled, the tile's weighted values are added. -/
theorem acc_tile (K : Finset ℕ) (s v : ℕ → EReal) (u : ℕ → ℝ) (b n : ℕ) (hd : Disjoint K (Finset.Ico b (b + n)))
    (hv : ∀ j, j ∈ Finset.Ico b (b + n) → s j = ⊥ ∨ v j = (u j : EReal)) (m' : EReal) (hm : m' = (K ∪ Finset.Ico b (b + n)).sup s) :
    Ideal.exp (K.sup s - m') * ((∑ j ∈ K, E (s j) (K.sup s) * u j : ℝ) : EReal)
        + ∑ x : Fin n, Ideal.exp (s (b + x) - m') * v (b + x)
      = ((∑ j ∈ K ∪ Finset.Ico b (b + n), E (s j) m' * u j : ℝ) : EReal) := by
  have h1 : K.sup s ≤ m' := by rw [hm]; exact Finset.sup_mono Finset.subset_union_left
  rw [Finset.sum_union hd, EReal.coe_add, exp_sub h1, ← EReal.coe_mul, Finset.mul_sum,
    sum_tile b n (fun j => Ideal.exp (s j - m') * v j), ← sum_coe (Finset.Ico b (b + n))]
  congr 1
  · congr 1
    refine Finset.sum_congr rfl fun j hj => ?_
    rw [← mul_assoc, E_mul (Finset.le_sup hj) h1]
  · refine Finset.sum_congr rfl fun j hj => ?_
    have h2 : s j ≤ m' := by rw [hm]; exact Finset.le_sup (Finset.mem_union_right _ hj)
    rcases hv j hj with h | h
    · rw [h, E_bot]; simp
    · rw [h, exp_sub h2, EReal.coe_mul]

/-- The running sum takes in a tile. -/
theorem sum_acc_tile (K : Finset ℕ) (s : ℕ → EReal) (b n : ℕ) (hd : Disjoint K (Finset.Ico b (b + n)))
    (m' : EReal) (hm : m' = (K ∪ Finset.Ico b (b + n)).sup s) :
    Ideal.exp (K.sup s - m') * ((∑ j ∈ K, E (s j) (K.sup s) : ℝ) : EReal) + ∑ x : Fin n, Ideal.exp (s (b + x) - m')
      = ((∑ j ∈ K ∪ Finset.Ico b (b + n), E (s j) m' : ℝ) : EReal) := by
  have := acc_tile K s (fun _ => 1) (fun _ => 1) b n hd (fun _ _ => Or.inr rfl) m' hm
  simpa using this

/-- An extended real that is `0` or infinite. -/
def Wild (x : EReal) : Prop := x = 0 ∨ x = ⊤ ∨ x = ⊥

/-- A sum of infinite numbers of the wild kind is wild. -/
theorem Wild.add {x y : EReal} (hx : Wild x) (hy : Wild y) : Wild (x + y) := by
  rcases hx with rfl | rfl | rfl <;> rcases hy with rfl | rfl | rfl <;> simp [Wild]

/-- So is a sum over any finite set. -/
theorem Wild.sum {ι : Type*} (K : Finset ι) (f : ι → EReal) (h : ∀ j, Wild (f j)) : Wild (∑ j ∈ K, f j) := by
  classical
  induction K using Finset.induction_on with
  | empty => exact Or.inl rfl
  | insert a K ha ih => rw [Finset.sum_insert ha]; exact (h a).add ih

/-- A product with an infinite factor is wild. -/
theorem Wild.mul {x y : EReal} (hy : y = ⊤ ∨ y = ⊥) : Wild (x * y) := by
  rcases lt_trichotomy x 0 with h | rfl | h <;> rcases hy with rfl | rfl
  · rw [EReal.mul_top_of_neg h]; exact Or.inr (Or.inr rfl)
  · rw [EReal.mul_bot_of_neg h]; exact Or.inr (Or.inl rfl)
  · exact Or.inl (zero_mul _)
  · exact Or.inl (zero_mul _)
  · rw [EReal.mul_top_of_pos h]; exact Or.inr (Or.inl rfl)
  · rw [EReal.mul_bot_of_pos h]; exact Or.inr (Or.inr rfl)

/-- Zero over zero. -/
theorem div_zero_zero : Ideal.div 0 0 = ⊥ := by simp [Ideal.div]

/-- A quotient of reals with a non-zero divisor is their real quotient. -/
theorem div_real (x y : ℝ) (hy : y ≠ 0) : Ideal.div (x : EReal) (y : EReal) = ((x / y : ℝ) : EReal) := by
  rw [Ideal.div_coe hy, ← EReal.coe_mul]; congr 1; ring

/-- The two ways to take the difference of two softmax averages: divide the weighted sums, or weight by the divided
    weights. They agree, or both are `0` or infinite in every component. -/
theorem diff_eq {ε : Type*} (n : ℕ) (e1 e2 : ℕ → ℝ) (h1 : ∀ j, 0 ≤ e1 j) (h2 : ∀ j, 0 ≤ e2 j) (u : ε → ℕ → ℝ) (lam : ℝ) :
    let L1 := ∑ j ∈ Finset.range n, e1 j
    let L2 := ∑ j ∈ Finset.range n, e2 j
    let dk : ε → EReal := fun e => Ideal.div ((∑ j ∈ Finset.range n, e1 j * u e j : ℝ) : EReal) (L1 : EReal)
      - (lam : EReal) * Ideal.div ((∑ j ∈ Finset.range n, e2 j * u e j : ℝ) : EReal) (L2 : EReal)
    let dr : ε → EReal := fun e => ∑ j ∈ Finset.range n, (u e j : EReal) *
      (Ideal.div (e1 j : EReal) (L1 : EReal) - (lam : EReal) * Ideal.div (e2 j : EReal) (L2 : EReal))
    dk = dr ∨ ((∀ e, Wild (dk e)) ∧ ∀ e, Wild (dr e)) := by
  intro L1 L2 dk dr
  have z : ∀ (e : ℕ → ℝ), (∀ j, 0 ≤ e j) → ∑ j ∈ Finset.range n, e j = 0 → ∀ j ∈ Finset.range n, e j = 0 := fun e he h =>
    (Finset.sum_eq_zero_iff_of_nonneg fun j _ => he j).1 h
  by_cases hL1 : L1 = 0
  · right
    have hz := z e1 h1 hL1
    constructor
    · intro e
      have : ∑ j ∈ Finset.range n, e1 j * u e j = 0 := Finset.sum_eq_zero fun j hj => by rw [hz j hj, zero_mul]
      simp only [dk, this, hL1, EReal.coe_zero, div_zero_zero]
      right; right
      rw [sub_eq_add_neg, EReal.bot_add]
    · intro e
      have : dr e = ∑ j ∈ Finset.range n, (u e j : EReal) * ⊥ := Finset.sum_congr rfl fun j hj => by
        rw [hz j hj, hL1, EReal.coe_zero, div_zero_zero, sub_eq_add_neg, EReal.bot_add]
      rw [this]
      exact Wild.sum _ _ fun j => Wild.mul (Or.inr rfl)
  by_cases hL2 : L2 = 0
  · have hz := z e2 h2 hL2
    have hA : ∀ e, ∑ j ∈ Finset.range n, e2 j * u e j = 0 := fun e => Finset.sum_eq_zero fun j hj => by rw [hz j hj, zero_mul]
    have hk : ∀ e, dk e = ((( ∑ j ∈ Finset.range n, e1 j * u e j) / L1 : ℝ) : EReal) - (lam : EReal) * ⊥ := fun e => by
      simp only [dk, hA, hL2, EReal.coe_zero, div_zero_zero, div_real _ _ hL1]
    have hr : ∀ e, dr e = ∑ j ∈ Finset.range n, (u e j : EReal) * (((e1 j / L1 : ℝ) : EReal) - (lam : EReal) * ⊥) := fun e =>
      Finset.sum_congr rfl fun j hj => by
        simp only [hL2, hz j hj, EReal.coe_zero, div_zero_zero, div_real _ _ hL1]
    rcases lt_trichotomy lam 0 with h | h | h
    · right
      have e : (lam : EReal) * ⊥ = ⊤ := EReal.mul_bot_of_neg (by exact_mod_cast h)
      refine ⟨fun x => ?_, fun x => ?_⟩
      · rw [hk, e, EReal.sub_top]; exact Or.inr (Or.inr rfl)
      · rw [hr, e]
        exact Wild.sum _ _ fun j => Wild.mul (Or.inr (EReal.sub_top _))
    · left
      funext x
      rw [hk, hr, h, EReal.coe_zero, zero_mul, sub_zero, Finset.sum_div, ← sum_coe]
      refine Finset.sum_congr rfl fun j _ => ?_
      rw [sub_zero, ← EReal.coe_mul]; congr 1; ring
    · right
      have e : (lam : EReal) * ⊥ = ⊥ := EReal.mul_bot_of_pos (by exact_mod_cast h)
      refine ⟨fun x => ?_, fun x => ?_⟩
      · rw [hk, e, EReal.coe_sub_bot]; exact Or.inr (Or.inl rfl)
      · rw [hr, e]
        exact Wild.sum _ _ fun j => Wild.mul (Or.inl (EReal.coe_sub_bot _))
  · left
    funext x
    simp only [dk, dr, div_real _ _ hL1, div_real _ _ hL2, ← EReal.coe_mul, ← EReal.coe_sub, sum_coe]
    congr 1
    rw [Finset.sum_div, Finset.sum_div, Finset.mul_sum, ← Finset.sum_sub_distrib]
    refine Finset.sum_congr rfl fun j _ => ?_
    ring

/-- One row normalised by its root mean square, weighted and scaled. -/
def norm (n eps sc : EReal) (w d : Fin 128 → EReal) (e : Fin 128) : EReal :=
  d e * Ideal.rsqrt (Ideal.div (∑ x, d x * d x) n + eps) * w e * sc

/-- The square of a wild number is not negative. -/
theorem wild_sq {x : EReal} (h : Wild x) : 0 ≤ x * x := by
  rcases h with rfl | rfl | rfl <;> simp

/-- A row whose entries are `0` or infinite normalises to `0`. -/
theorem norm_wild (n eps sc : EReal) (w d : Fin 128 → EReal) (e : Fin 128) (hn : ∃ r : ℝ, 0 < r ∧ n = (r : EReal))
    (he : eps ≠ ⊥) (h : ∀ x, Wild (d x)) : norm n eps sc w d e = 0 := by
  unfold norm
  obtain ⟨r, hr, rfl⟩ := hn
  suffices d e * Ideal.rsqrt (Ideal.div (∑ x, d x * d x) (r : EReal) + eps) = 0 by rw [this, zero_mul, zero_mul]
  by_cases h0 : d e = 0
  · rw [h0, zero_mul]
  · have ht : d e * d e = ⊤ := by
      rcases h e with h | h | h
      · exact absurd h h0
      · rw [h]; rfl
      · rw [h]; rfl
    have hs : ∑ x, d x * d x = ⊤ := top_le_iff.1 (ht ▸ Finset.single_le_sum (f := fun x => d x * d x) (fun x _ => wild_sq (h x)) (Finset.mem_univ e))
    have : Ideal.div ⊤ (r : EReal) = ⊤ := by
      rw [Ideal.div_coe hr.ne']
      exact EReal.top_mul_of_pos (by exact_mod_cast one_div_pos.2 hr)
    rw [hs, this, EReal.top_add_of_ne_bot he, Ideal.rsqrt_top, mul_zero]

end Cert.Attn.Math

end
-- ==== Proof.Math.Score.lean ====
/- The scores and values of the attention at a frame, by the number of the key. -/
module

public import proofs.«01_k».proof.Proof.Math.Softmax
public import Idealize.ShloMosaic.Lib.Pointwise

@[expose] public section

noncomputable section

namespace Cert.Attn.Math

open Idealize.ShloMosaic

/-- An array of 8 by 8320 rows of 512. -/
abbrev Arr := (⟨3, ![8, 8320, 512]⟩ : Shape).Idx → EReal

/-- Frame `t` sees key `j`: a meta token, or a frame whose chunk of 64 is no later. -/
abbrev seen (t j : ℕ) : Prop := 8192 ≤ j ∨ j / 64 ≤ t / 64

/-- The score of frame `t` against key `j` for head `h`, component `x`; minus infinity where the key is not seen. -/
def score (q k : Arr) (b : Fin 8) (h : Fin 4) (x : Fin 2) (t : Fin 8192) (j : ℕ) : EReal :=
  if hj : j < 8208 then
    if seen t j then ∑ d : Fin 64, q (ix3 b ⟨t, by omega⟩ ⟨h * 128 + x * 64 + d, by omega⟩)
      * k (ix3 b ⟨j, by omega⟩ ⟨h * 128 + x * 64 + d, by omega⟩) else ⊥
  else ⊥

/-- Entry `e` of the value row of key `j`, as a real. -/
def val (v : Arr) (b : Fin 8) (h : Fin 4) (e : Fin 128) (j : ℕ) : ℝ :=
  if hj : j < 8208 then (v (ix3 b ⟨j, by omega⟩ ⟨h * 128 + e, by omega⟩)).toReal else 0

/-- The weight of the second component. -/
def lamE (a b a' b' : Fin 64 → EReal) (c : EReal) : EReal := Ideal.exp (∑ x, a x * b x) - Ideal.exp (∑ x, a' x * b' x) + c

/-- The maximum of the scores of a frame. -/
def top (q k : Arr) (b : Fin 8) (h : Fin 4) (x : Fin 2) (t : Fin 8192) : EReal := (Finset.range 8208).sup (score q k b h x t)

/-- The weights of the keys of a frame, before division. -/
def wt (q k : Arr) (b : Fin 8) (h : Fin 4) (x : Fin 2) (t : Fin 8192) (j : ℕ) : ℝ := E (score q k b h x t j) (top q k b h x t)

/-- The divided weighted sums, and their difference. -/
def dk (q k v : Arr) (lam : ℝ) (b : Fin 8) (h : Fin 4) (t : Fin 8192) (e : Fin 128) : EReal :=
  Ideal.div ((∑ j ∈ Finset.range 8208, wt q k b h 0 t j * val v b h e j : ℝ) : EReal) ((∑ j ∈ Finset.range 8208, wt q k b h 0 t j : ℝ) : EReal)
    - (lam : EReal) * Ideal.div ((∑ j ∈ Finset.range 8208, wt q k b h 1 t j * val v b h e j : ℝ) : EReal)
        ((∑ j ∈ Finset.range 8208, wt q k b h 1 t j : ℝ) : EReal)

/-- The sums weighted by the difference of the divided weights. -/
def dr (q k v : Arr) (lam : ℝ) (b : Fin 8) (h : Fin 4) (t : Fin 8192) (e : Fin 128) : EReal :=
  ∑ j ∈ Finset.range 8208, (val v b h e j : EReal) *
    (Ideal.div (wt q k b h 0 t j : EReal) ((∑ j ∈ Finset.range 8208, wt q k b h 0 t j : ℝ) : EReal)
      - (lam : EReal) * Ideal.div (wt q k b h 1 t j : EReal) ((∑ j ∈ Finset.range 8208, wt q k b h 1 t j : ℝ) : EReal))

/-- The word of minus infinity. -/
theorem ofBits_bot : Ideal.ofBits .f32 0xFF800000#32 = ⊥ := by simp [Ideal.ofBits, Ideal.ieee]

/-- A float word whose exponent field is not all ones is a real. -/
theorem ofBits_real (b : BitVec 32) (h : (b.extractLsb' 23 8).toNat ≠ 255) : ∃ r : ℝ, Ideal.ofBits .f32 b = (r : EReal) := by
  unfold Ideal.ofBits Ideal.ieee
  dsimp only
  rw [if_neg (by simpa using h)]
  split
  · exact ⟨_, rfl⟩
  · exact ⟨_, rfl⟩

/-- The word of 128. -/
theorem ofBits_128 : Ideal.ofBits .f32 0x43000000#32 = ((128 : ℝ) : EReal) := by
  have e1 : (0x43000000#32 : BitVec 32).extractLsb' 31 1 = 0#1 := by decide
  have e2 : ((0x43000000#32 : BitVec 32).extractLsb' 23 8).toNat = 134 := by decide
  have e3 : ((0x43000000#32 : BitVec 32).extractLsb' 0 23).toNat = 0 := by decide
  unfold Ideal.ofBits Ideal.ieee
  dsimp only
  rw [e1, e2, e3]
  norm_num

/-- The norm's epsilon is not minus infinity. -/
theorem ofBits_eps : Ideal.ofBits .f32 0x358637BD#32 ≠ ⊥ := by
  obtain ⟨r, hr⟩ := ofBits_real 0x358637BD#32 (by decide)
  rw [hr]; exact EReal.coe_ne_bot r

/-- Normalised, the two differences are the same row. -/
theorem norm_dk_dr (q k v : Arr) (lam : ℝ) (b : Fin 8) (h : Fin 4) (t : Fin 8192) (w : Fin 128 → EReal) (sc : EReal) (e : Fin 128) :
    norm (Ideal.ofBits .f32 0x43000000#32) (Ideal.ofBits .f32 0x358637BD#32) sc w (dk q k v lam b h t) e
      = norm (Ideal.ofBits .f32 0x43000000#32) (Ideal.ofBits .f32 0x358637BD#32) sc w (dr q k v lam b h t) e := by
  have := diff_eq 8208 (wt q k b h 0 t) (wt q k b h 1 t) (fun _ => E_nonneg _ _) (fun _ => E_nonneg _ _) (val v b h) lam
  rcases this with h | ⟨h1, h2⟩
  · exact congrArg (fun d => norm _ _ sc w d e) h
  · have n : ∃ r : ℝ, 0 < r ∧ Ideal.ofBits .f32 0x43000000#32 = (r : EReal) := ⟨128, by norm_num, ofBits_128⟩
    exact (norm_wild _ _ sc w _ e n ofBits_eps h1).trans (norm_wild _ _ sc w _ e n ofBits_eps h2).symm

end Cert.Attn.Math

end
-- ==== Proof.AttnIdeal.Tile.lean ====
/- One key tile of the attention call read at an index, on extended reals. -/
module

public import proofs.«01_k».proof.Proof.AttnIdeal.Point
public import proofs.«01_k».proof.Proof.Math.Score
public import Idealize.ShloMosaic.Lib.Pointwise
public import Idealize.ShloMosaic.Lib.WordCmp

@[expose] public section

set_option maxRecDepth 16384

noncomputable section

namespace Cert.AttnIdeal.Hand

open Cert.AttnIdeal.Gen Cert.Attn.Math
open Idealize.ShloMosaic Idealize.ShloMosaic.TcCoe Idealize.ShloMosaic.WordCmp

/-- The mask constant is minus infinity. -/
theorem mask_bot : Named.named (F := Ideal) (φ := .f32) κ "mask" 0xF149F2CA#32 = (⊥ : EReal) :=
  (IdealRules.named_const.statement Cert.AttnIdeal.κ "mask" .f32 0xF149F2CA#32 ⊥ rfl).2.2

/-- The state of row `r` after the keys `K` with scores `S` and values `u`. -/
def Good (s : St Ideal) (r : Fin 512) (K : Finset ℕ) (S : ℕ → EReal) (u : Fin 128 → ℕ → ℝ) : Prop :=
  ∀ e : Fin 128, s.m (ix2 r e) = K.sup S ∧ s.l (ix2 r e) = ((∑ j ∈ K, E (S j) (K.sup S) : ℝ) : EReal)
    ∧ s.a (ix2 r e) = ((∑ j ∈ K, E (S j) (K.sup S) * u e j : ℝ) : EReal)

variable (v10 : FVec Ideal S512x128 .bf16) (v12 : IVec S512x1 32) (kb vb : Vec Ideal S1x512x128 .bf16) (kc : Vec Ideal S1x1x512 .i32)
  (s : St Ideal) (r : Fin 512) (e : Fin 128)

/-- The masked scores of a tile. -/
theorem pay3_at (j : Fin 512) : k0_pay3 v10 v12 kb kc (ix2 r j) =
    Scalar.select (IntOp.cmpi .sle (kc (ix3 0 0 j)) (v12 (ix2 r 0))) (∑ x, v10 (ix2 r x) * kb (ix3 0 j x)) (⊥ : EReal) := by
  pointwise [k0_pay3, mask_bot]

/-- The new running maximum at an entry. -/
theorem pay4_at (m : Vec Ideal S512x128 .f32) : k0_pay4 v10 v12 kb kc m (ix2 r e) =
    max (m (ix2 r e)) ((Finset.univ : Finset (Fin 512)).fold max ⊥ fun x => k0_pay3 v10 v12 kb kc (ix2 r x)) := by
  pointwise [k0_pay4, ofBits_bot]

/-- The factor that rescales the running sums, at an entry. -/
theorem pay5_at (m : Vec Ideal S512x128 .f32) : k0_pay5 v10 v12 kb kc m (ix2 r e) =
    Ideal.exp (m (ix2 r e) - k0_pay4 v10 v12 kb kc m (ix2 r e)) := by
  pointwise [k0_pay5]

/-- A tile's weights at an entry, given the running maximum of its row. -/
theorem pay6_at (m : Vec Ideal S512x128 .f32) (M : EReal) (h : ∀ e, k0_pay4 v10 v12 kb kc m (ix2 r e) = M) (x : Fin 512) :
    k0_pay6 v10 v12 kb kc m (ix2 r x) = Ideal.exp (k0_pay3 v10 v12 kb kc (ix2 r x) - M) := by
  pointwise [k0_pay6, h]
  simp only [dite_eq_ite, ite_self]

/-- The new running sum of weights at an entry. -/
theorem pay7_at (m l : Vec Ideal S512x128 .f32) : k0_pay7 v10 v12 kb kc m l (ix2 r e) =
    k0_pay5 v10 v12 kb kc m (ix2 r e) * l (ix2 r e) + ∑ x, k0_pay6 v10 v12 kb kc m (ix2 r x) := by
  pointwise [k0_pay7]

/-- The new running sum of weighted values at an entry. -/
theorem pay23_at (m a : Vec Ideal S512x128 .f32) : k0_pay23 (k0_pay2 vb) (k0_pay8 v10 v12 kb kc m a) (k0_pay9 v10 v12 kb kc m) (ix2 r e) =
    k0_pay5 v10 v12 kb kc m (ix2 r e) * a (ix2 r e) + ∑ x, k0_pay6 v10 v12 kb kc m (ix2 r x) * vb (ix3 0 x e) := by
  pointwise [k0_pay23, k0_pay2, k0_pay8, k0_pay9]

/-- The maximum stored is the maximum computed. -/
theorem pay24_at (m : FVec Ideal S512x128 .f32) : k0_pay24 (F := Ideal) m (ix2 r e) = m (ix2 r e) := by
  pointwise [k0_pay24]

/-- A tile takes the state of a row on. -/
theorem step_good (K : Finset ℕ) (S : ℕ → EReal) (u : Fin 128 → ℕ → ℝ) (b : ℕ) (h : Good s r K S u)
    (hS : ∀ x : Fin 512, k0_pay3 v10 v12 kb kc (ix2 r x) = S (b + x)) (hd : Disjoint K (Finset.Ico b (b + 512)))
    (hv : ∀ (e : Fin 128) (x : Fin 512), S (b + x) = ⊥ ∨ vb (ix3 0 x e) = (u e (b + x) : EReal)) :
    Good (step v10 v12 kb vb kc s) r (K ∪ Finset.Ico b (b + 512)) S u := by
  have h4 : ∀ e, k0_pay4 v10 v12 kb kc s.m (ix2 r e) = (K ∪ Finset.Ico b (b + 512)).sup S := fun e => by
    rw [pay4_at, (h e).1, ← sup_tile]; simp only [hS]
  intro e
  refine ⟨?_, ?_, ?_⟩
  · show k0_pay24 (F := Ideal) (k0_pay4 v10 v12 kb kc s.m) (ix2 r e) = _
    rw [pay24_at, h4]
  · show k0_pay7 v10 v12 kb kc s.m s.l (ix2 r e) = _
    rw [pay7_at, pay5_at, h4, (h e).1, (h e).2.1, ← sum_acc_tile K S b 512 hd _ rfl]
    congr 1
    refine Finset.sum_congr rfl fun x _ => ?_
    rw [pay6_at _ _ _ _ _ _ _ h4, hS]
  · show k0_pay23 (k0_pay2 vb) (k0_pay8 v10 v12 kb kc s.m s.a) (k0_pay9 v10 v12 kb kc s.m) (ix2 r e) = _
    rw [pay23_at, pay5_at, h4, (h e).1, (h e).2.2]
    have hv' : ∀ j, j ∈ Finset.Ico b (b + 512) → S j = ⊥ ∨
        (fun j => if hj : j - b < 512 then (vb (ix3 0 ⟨j - b, hj⟩ e) : EReal) else 0) j = (u e j : EReal) := fun j hj => by
      obtain ⟨h1, h2⟩ := Finset.mem_Ico.1 hj
      have h3 : j - b < 512 := by omega
      have := hv e ⟨j - b, h3⟩
      dsimp only at this ⊢
      rw [dif_pos h3]
      rwa [Nat.add_sub_cancel' h1] at this
    rw [← acc_tile K S _ (u e) b 512 hd hv' _ rfl]
    congr 1
    refine Finset.sum_congr rfl fun x _ => ?_
    rw [pay6_at _ _ _ _ _ _ _ h4, hS]
    congr 1
    have h5 : b + x.val - b = x.val := by omega
    refine Eq.trans ?_ (dif_pos (by omega)).symm
    exact congrArg (fun y => vb (ix3 0 y e)) (Fin.ext h5.symm)

/-- The state before the first tile: no key seen. -/
theorem st0_good (S : ℕ → EReal) (u : Fin 128 → ℕ → ℝ) : Good ⟨k0_pay20 (F := Ideal), k0_pay21 (F := Ideal), k0_pay22 (F := Ideal)⟩ r ∅ S u := by
  intro e
  refine ⟨?_, ?_, ?_⟩
  · show k0_pay20 (F := Ideal) (ix2 r e) = _
    pointwise [k0_pay20, mask_bot]
    rfl
  · show k0_pay21 (F := Ideal) (ix2 r e) = _
    rw [Finset.sum_empty, EReal.coe_zero]
    pointwise [k0_pay21]
  · show k0_pay22 (F := Ideal) (ix2 r e) = _
    rw [Finset.sum_empty, EReal.coe_zero]
    pointwise [k0_pay22]

variable (tk tv : Vec Ideal S1x128x128 .bf16) (tc : Vec Ideal S1x128 .i32)

/-- The masked scores of the tail tile. -/
theorem pay27_at (j : Fin 128) : k0_pay27 v10 v12 tk tc (ix2 r j) =
    Scalar.select (IntOp.cmpi .sle (tc (ix2 0 j)) (v12 (ix2 r 0))) (∑ x, v10 (ix2 r x) * tk (ix3 0 j x)) (⊥ : EReal) := by
  pointwise [k0_pay27, mask_bot]

/-- The tail's running maximum at an entry. -/
theorem pay28_at (m : Vec Ideal S512x128 .f32) : k0_pay28 v10 v12 tk tc m (ix2 r e) =
    max (m (ix2 r e)) ((Finset.univ : Finset (Fin 128)).fold max ⊥ fun x => k0_pay27 v10 v12 tk tc (ix2 r x)) := by
  pointwise [k0_pay28, ofBits_bot]

/-- The tail's running sum of weights at an entry. -/
theorem pay31_at (m l : Vec Ideal S512x128 .f32) : k0_pay31 v10 v12 tk tc m l (ix2 r e) =
    Ideal.exp (m (ix2 r e) - k0_pay28 v10 v12 tk tc m (ix2 r e)) * l (ix2 r e)
      + ∑ x, Ideal.exp (k0_pay27 v10 v12 tk tc (ix2 r x) - k0_pay28 v10 v12 tk tc m (ix2 r x)) := by
  pointwise [k0_pay31, k0_pay29, k0_pay30]

/-- The tail's running sum of weighted values at an entry. -/
theorem pay33_at (m a : Vec Ideal S512x128 .f32) : k0_pay33 (k0_pay32 v10 v12 tk tv tc m a) (ix2 r e) =
    Ideal.exp (m (ix2 r e) - k0_pay28 v10 v12 tk tc m (ix2 r e)) * a (ix2 r e)
      + ∑ x, Ideal.exp (k0_pay27 v10 v12 tk tc (ix2 r x) - k0_pay28 v10 v12 tk tc m (ix2 r x)) * tv (ix3 0 x e) := by
  pointwise [k0_pay33, k0_pay32, k0_pay29, k0_pay30]

/-- The tail tile ends the row: the sum of the weights and the weighted sums of the values. -/
theorem tail_good (K : Finset ℕ) (S : ℕ → EReal) (u : Fin 128 → ℕ → ℝ) (b : ℕ) (h : Good s r K S u)
    (hS : ∀ x : Fin 128, k0_pay27 v10 v12 tk tc (ix2 r x) = S (b + x)) (hd : Disjoint K (Finset.Ico b (b + 128)))
    (hv : ∀ (e : Fin 128) (x : Fin 128), S (b + x) = ⊥ ∨ tv (ix3 0 x e) = (u e (b + x) : EReal)) :
    k0_pay31 v10 v12 tk tc s.m s.l (ix2 r e)
        = ((∑ j ∈ K ∪ Finset.Ico b (b + 128), E (S j) ((K ∪ Finset.Ico b (b + 128)).sup S) : ℝ) : EReal)
      ∧ k0_pay33 (k0_pay32 v10 v12 tk tv tc s.m s.a) (ix2 r e)
        = ((∑ j ∈ K ∪ Finset.Ico b (b + 128), E (S j) ((K ∪ Finset.Ico b (b + 128)).sup S) * u e j : ℝ) : EReal) := by
  have h4 : ∀ e, k0_pay28 v10 v12 tk tc s.m (ix2 r e) = (K ∪ Finset.Ico b (b + 128)).sup S := fun e => by
    rw [pay28_at, (h e).1, ← sup_tile]; simp only [hS]
  constructor
  · rw [pay31_at, h4, (h e).1, (h e).2.1, ← sum_acc_tile K S b 128 hd _ rfl]
    congr 1
    refine Finset.sum_congr rfl fun x _ => ?_
    rw [h4, hS]
  · rw [pay33_at, h4, (h e).1, (h e).2.2]
    have hv' : ∀ j, j ∈ Finset.Ico b (b + 128) → S j = ⊥ ∨
        (fun j => if hj : j - b < 128 then (tv (ix3 0 ⟨j - b, hj⟩ e) : EReal) else 0) j = (u e j : EReal) := fun j hj => by
      obtain ⟨h1, h2⟩ := Finset.mem_Ico.1 hj
      have h3 : j - b < 128 := by omega
      have := hv e ⟨j - b, h3⟩
      dsimp only at this ⊢
      rw [dif_pos h3]
      rwa [Nat.add_sub_cancel' h1] at this
    rw [← acc_tile K S _ (u e) b 128 hd hv' _ rfl]
    congr 1
    refine Finset.sum_congr rfl fun x _ => ?_
    rw [h4, hS]
    congr 1
    have h5 : b + x.val - b = x.val := by omega
    refine Eq.trans ?_ (dif_pos (by omega)).symm
    exact congrArg (fun y => tv (ix3 0 y e)) (Fin.ext h5.symm)

variable (xq : Vec Ideal S1x256x128 .bf16) (qc : Vec Ideal S256x1 .i32)

/-- Row `p` of component `x` among the 512 packed query rows. -/
abbrev row (x : Fin 2) (p : Fin 256) : Fin 512 := ⟨x * 256 + p, by omega⟩

/-- The packed queries: the first half of a head in the upper rows, the second in the lower. -/
theorem pay18_at : k0_pay18 (F := Ideal) xq (ix2 r e) =
    if h : r.val < 256 then Scalar.select (IntOp.cmpi .slt (BitVec.ofNat 32 e) 64#32) (xq (ix3 0 ⟨r, h⟩ e)) (0 : EReal)
    else Scalar.select (IntOp.cmpi .sge (BitVec.ofNat 32 e) 64#32) (xq (ix3 0 ⟨r - 256, by omega⟩ e)) (0 : EReal) := by
  pointwise [k0_pay18]

/-- The packed frame chunks. -/
theorem pay19_at : k0_pay19 (F := Ideal) qc (ix2 r 0) =
    if h : r.val < 256 then qc (ix2 ⟨r, h⟩ 0) else qc (ix2 ⟨r - 256, by omega⟩ 0) := by
  pointwise [k0_pay19]

/-- Each packed row carries the chunk of its frame. -/
theorem pay19_row (x : Fin 2) (p : Fin 256) : k0_pay19 (F := Ideal) qc (ix2 (row x p) 0) = qc (ix2 p 0) := by
  rw [pay19_at]
  have hp := p.2
  fin_cases x
  · rw [dif_pos (by simp)]
    congr 2; apply Fin.ext; simp
  · rw [dif_neg (by simp)]
    congr 2; apply Fin.ext; simp

/-- A packed row against a key row is the component's own product. -/
theorem dot_row (x : Fin 2) (p : Fin 256) (kk : Fin 128 → EReal) :
    ∑ e : Fin 128, k0_pay18 (F := Ideal) xq (ix2 (row x p) e) * kk e
      = ∑ d : Fin 64, xq (ix3 0 p ⟨x * 64 + d, by omega⟩) * kk ⟨x * 64 + d, by omega⟩ := by
  have hp := p.2
  refine (Fin.sum_univ_add (a := 64) (b := 64) (fun e : Fin 128 => k0_pay18 (F := Ideal) xq (ix2 (row x p) e) * kk e)).trans ?_
  fin_cases x
  · refine Eq.trans (congrArg₂ (· + ·) (y' := 0) rfl (Finset.sum_eq_zero fun d _ => ?_)) ?_
    · have hd := d.2
      rw [pay18_at, dif_pos (by simp), cmpi_slt_ofNat (w := 32) (b := 64) (by simp; omega) (by omega), decide_eq_false (by simp)]
      exact zero_mul _
    · rw [add_zero]
      refine Finset.sum_congr rfl fun d _ => ?_
      have hd := d.2
      rw [pay18_at, dif_pos (by simp), cmpi_slt_ofNat (w := 32) (b := 64) (by simp; omega) (by omega), decide_eq_true (by simp)]
      refine congrArg₂ (· * ·) ?_ ?_
      · refine congrArg xq (congrArg₂ (ix3 0) (Fin.ext ?_) (Fin.ext ?_)) <;> simp
      · refine congrArg kk (Fin.ext ?_); simp
  · refine Eq.trans (congrArg₂ (· + ·) (x' := 0) (Finset.sum_eq_zero fun d _ => ?_) rfl) ?_
    · have hd := d.2
      rw [pay18_at, dif_neg (by simp), cmpi_sge_ofNat (w := 32) (b := 64) (by simp; omega) (by omega), decide_eq_false (by simp)]
      exact zero_mul _
    · rw [zero_add]
      refine Finset.sum_congr rfl fun d _ => ?_
      have hd := d.2
      rw [pay18_at, dif_neg (by simp), cmpi_sge_ofNat (w := 32) (b := 64) (by simp; omega) (by omega), decide_eq_true (by simp)]
      refine congrArg₂ (· * ·) ?_ ?_
      · refine congrArg xq (congrArg₂ (ix3 0) (Fin.ext ?_) (Fin.ext ?_)) <;> (simp; try omega)
      · refine congrArg kk (Fin.ext ?_); simp; omega

variable (l0 l1 l2 l3 : Vec Ideal S1x64 .f32) (A L : Vec Ideal S512x128 .f32) (w : Vec Ideal S1x128 .f32)

/-- The normalised difference of the two averages, at an entry. -/
theorem pay35_at (p : Fin 256) : k0_pay35 l0 l1 l2 l3 A L (ix2 p e) =
    Ideal.div (A (ix2 (row 0 p) e)) (L (ix2 (row 0 p) e))
      - lamE (fun x => l0 (ix2 0 x)) (fun x => l1 (ix2 0 x)) (fun x => l2 (ix2 0 x)) (fun x => l3 (ix2 0 x)) (Ideal.ofBits .f32 0x3E4CCCCD#32)
        * Ideal.div (A (ix2 (row 1 p) e)) (L (ix2 (row 1 p) e)) := by
  have e0 : row 0 p = ⟨p, by omega⟩ := Fin.ext (by simp)
  have e1 : row 1 p = ⟨256 + p, by omega⟩ := Fin.ext (by simp)
  rw [e0, e1]
  pointwise [k0_pay35, lamE]

/-- The stored block is the normalised difference. -/
theorem pay1_at (p : Fin 256) : k0_pay1 (k0_pay35 l0 l1 l2 l3 A L) (k0_pay36 l0 l1 l2 l3 A L) w (ix3 0 p e) =
    norm (Ideal.ofBits .f32 0x43000000#32) (Ideal.ofBits .f32 0x358637BD#32) (Ideal.ofBits .f32 0x3F4CCCCD#32)
      (fun e => w (ix2 0 e)) (fun e => k0_pay35 l0 l1 l2 l3 A L (ix2 p e)) e := by
  pointwise [k0_pay1, k0_pay36]
  rfl

end Cert.AttnIdeal.Hand

end
-- ==== Proof.AttnIdeal.Block.lean ====
/- The block one grid point writes, from the blocks it reads, on extended reals. -/
module

public import proofs.«01_k».proof.Proof.AttnIdeal.Tile
public import proofs.«01_k».proof.Proof.AttnIdeal.Frame

@[expose] public section

set_option maxRecDepth 16384

noncomputable section

namespace Cert.AttnIdeal.Hand

open Cert.AttnIdeal.Gen Cert.Attn.Math
open Idealize.ShloMosaic Idealize.ShloMosaic.TcCoe Idealize.ShloMosaic.WordCmp

/-- The number of whole key tiles of query block `i`. -/
theorem trips_eq : ∀ i : Fin 32, (k0_t1_loop (lit0 i)).trips = i.val / 2 + 1 := by decide +kernel
/-- Tile `k` starts at key row `512 k`. -/
theorem off2_eq : ∀ (i : Fin 32) (k : Fin (k0_t1_loop (lit0 i)).trips), k0_off2 (lit0 i) k 1 = 512 * k.val := by decide +kernel
/-- Tile `k` reads row `k` of the chunk numbers. -/
theorem off3_eq : ∀ (i : Fin 32) (k : Fin (k0_t1_loop (lit0 i)).trips), k0_off3 (lit0 i) k 0 = k.val := by decide +kernel

variable (i : Fin 32) (k : Fin (k0_t1_loop (lit0 i)).trips)

/-- There are at most sixteen whole tiles. -/
theorem k_lt : k.val < 16 := by
  have h := k.2
  have ht := trips_eq i
  have := i.2
  omega

/-- A tile of a key or value block, at an index. -/
theorem tileAt_at {e : EltTy} (x : Vec Ideal S1x8320x128 e) (j : Fin 512) (d : Fin 128) :
    tileAt (lit0 i) (lit0_chk i) k x (ix3 0 j d) = x (ix3 0 ⟨512 * k.val + j, by have := k_lt i k; omega⟩ d) := by
  refine congrArg x (funext fun a => Fin.ext ?_)
  have e2 := off2_eq i k
  fin_cases a
  · rfl
  · show k0_off2 (lit0 i) k 1 + 1 * j.val = _
    rw [e2]; show _ = 512 * k.val + j.val; omega
  · show 0 + 1 * d.val = d.val; omega

/-- The chunk numbers of a tile, at an index. -/
theorem chunkAt_at (x : Vec Ideal S16x1x512 .i32) (j : Fin 512) :
    chunkAt (lit0 i) (lit0_chk i) k x (ix3 0 0 j) = x (ix3 ⟨k.val, k_lt i k⟩ 0 j) := by
  refine congrArg x (funext fun a => Fin.ext ?_)
  have e3 := off3_eq i k
  fin_cases a
  · show k0_off3 (lit0 i) k 0 + 1 * 0 = k.val
    rw [e3]; omega
  · rfl
  · show 0 + 1 * j.val = j.val; omega

/-- The tail of a key or value block, at an index. -/
theorem tailAt_at {e : EltTy} (x : Vec Ideal S1x8320x128 e) (j : Fin 128) (d : Fin 128) :
    tailAt x (ix3 0 j d) = x (ix3 0 ⟨8192 + j.val, by omega⟩ d) := by
  refine congrArg x (funext fun a => Fin.ext ?_)
  fin_cases a
  · rfl
  · show 8192 + 1 * j.val = 8192 + j.val; omega
  · show 0 + 1 * d.val = d.val; omega

/-- A row of the lambda block, at an index. -/
theorem lamAt_at (r : Fin 4) (h) (x : Vec Ideal S4x64 .f32) (d : Fin 64) : lamAt r.val h x (ix2 0 d) = x (ix2 r d) := by
  refine congrArg x (funext fun a => Fin.ext ?_)
  fin_cases a
  · show r.val + 1 * 0 = r.val; omega
  · show 0 + 1 * d.val = d.val; omega

variable (Q K V : Arr) (b : Fin 8) (h : Fin 4)
  (xq : Vec Ideal S1x256x128 .bf16) (xk xv : Vec Ideal S1x8320x128 .bf16) (qc : Vec Ideal S256x1 .i32)
  (kcm : Vec Ideal S16x1x512 .i32) (kct : Vec Ideal S1x128 .i32) (lam : Vec Ideal S4x64 .f32) (w : Vec Ideal S1x128 .f32)

/-- A query row's place in the array. -/
theorem row_lt (i : Fin 32) (p : Fin 256) : i.val * 256 + p.val < 8320 := by omega
/-- A head's column in the array. -/
theorem col_lt (h : Fin 4) (e : Fin 128) : h.val * 128 + e.val < 512 := by omega
/-- A visible key's place in the array. -/
theorem key_lt (j : Fin 8208) : j.val < 8320 := by omega

/-- Frame `p` of query block `i`. -/
abbrev frameOf (p : Fin 256) : Fin 8192 := ⟨i.val * 256 + p, by omega⟩

variable (hq : ∀ (p : Fin 256) (e : Fin 128), xq (ix3 0 p e) = Q (ix3 b ⟨i.val * 256 + p, row_lt i p⟩ ⟨h * 128 + e, col_lt h e⟩))
  (hk : ∀ (j : Fin 8320) (e : Fin 128), xk (ix3 0 j e) = K (ix3 b j ⟨h * 128 + e, col_lt h e⟩))
  (hv : ∀ (j : Fin 8320) (e : Fin 128), xv (ix3 0 j e) = V (ix3 b j ⟨h * 128 + e, col_lt h e⟩))
  (hqc : ∀ p : Fin 256, qc (ix2 p 0) = BitVec.ofNat 32 ((i.val * 256 + p) / 64))
  (hkc : ∀ (n : Fin 16) (x : Fin 512), kcm (ix3 n 0 x) = BitVec.ofNat 32 ((512 * n.val + x) / 64))
  (hkt : ∀ x : Fin 128, kct (ix2 0 x) = if x.val < 16 then 4294967295#32 else 1073741824#32)
  (hV : ∀ (j : Fin 8208) (c : Fin 512), ∃ y : ℝ, V (ix3 b ⟨j, key_lt j⟩ c) = (y : EReal))

include hq hk in
/-- A packed query row against a key row is the score's sum. -/
theorem dot_score (x : Fin 2) (p : Fin 256) (j : ℕ) (hj : j < 8320) (kk : Fin 128 → EReal) (hkk : ∀ e, kk e = xk (ix3 0 ⟨j, hj⟩ e)) :
    ∑ e, k0_pay18 (F := Ideal) xq (ix2 (row x p) e) * kk e
      = ∑ d : Fin 64, Q (ix3 b ⟨frameOf i p, by omega⟩ ⟨h * 128 + x * 64 + d, by omega⟩) * K (ix3 b ⟨j, hj⟩ ⟨h * 128 + x * 64 + d, by omega⟩) := by
  rw [dot_row]
  refine Finset.sum_congr rfl fun d _ => ?_
  rw [hkk, hk, hq]
  have e : (⟨h * 128 + (⟨x * 64 + d, by omega⟩ : Fin 128).val, by omega⟩ : Fin 512) = ⟨h * 128 + x * 64 + d, by omega⟩ := Fin.ext (by simp; omega)
  rw [e]

include hq hk hqc hkc in
/-- The scores of tile `k`. -/
theorem tile_score (x : Fin 2) (p : Fin 256) (j : Fin 512) :
    k0_pay3 (k0_pay18 xq) (k0_pay19 (F := Ideal) qc) (tileAt (lit0 i) (lit0_chk i) k xk) (chunkAt (lit0 i) (lit0_chk i) k kcm) (ix2 (row x p) j)
      = score Q K b h x (frameOf i p) (512 * k.val + j) := by
  have hk16 := k_lt i k
  have hi := i.2
  have hp := p.2
  have hj := j.2
  rw [pay3_at, chunkAt_at, hkc, pay19_row, hqc,
    dot_score i Q K b h xq xk hq hk x p (512 * k.val + j) (by omega) _ (fun e => tileAt_at i k xk j e),
    cmpi_sle_ofNat (w := 32) (by simp; omega) (by simp; omega), score, dif_pos (by omega)]
  by_cases hs : (512 * k.val + j.val) / 64 ≤ (i.val * 256 + p.val) / 64
  · rw [if_pos (Or.inr hs)]
    rw [decide_eq_true hs]; rfl
  · rw [if_neg (by simp only [seen]; omega)]
    rw [decide_eq_false hs]; rfl

include hq hk hqc hkt in
/-- The scores of the tail tile. -/
theorem tail_score (x : Fin 2) (p : Fin 256) (j : Fin 128) :
    k0_pay27 (k0_pay18 xq) (k0_pay19 (F := Ideal) qc) (tailAt xk) kct (ix2 (row x p) j)
      = score Q K b h x (frameOf i p) (8192 + j) := by
  have hi := i.2
  have hp := p.2
  have hj := j.2
  rw [pay27_at, hkt, pay19_row, hqc,
    dot_score i Q K b h xq xk hq hk x p (8192 + j) (by omega) _ (fun e => tailAt_at xk j e), score]
  have hc : (BitVec.ofNat 32 ((i.val * 256 + p.val) / 64)).toInt = (((i.val * 256 + p.val) / 64 : ℕ) : ℤ) :=
    toInt_ofNat_of_lt (w := 32) (by simp; omega)
  by_cases h16 : j.val < 16
  · rw [if_pos h16, dif_pos (by omega), if_pos (Or.inl (by omega)), cmpi_sle_eq, hc]
    have : (4294967295#32 : BitVec 32).toInt ≤ (((i.val * 256 + p.val) / 64 : ℕ) : ℤ) := by
      have : (4294967295#32 : BitVec 32).toInt = -1 := by decide
      omega
    rw [decide_eq_true this]; rfl
  · rw [if_neg h16, dif_neg (by omega), cmpi_sle_eq, hc]
    have : ¬ (1073741824#32 : BitVec 32).toInt ≤ (((i.val * 256 + p.val) / 64 : ℕ) : ℤ) := by
      have : (1073741824#32 : BitVec 32).toInt = 1073741824 := by decide
      omega
    rw [decide_eq_false this]; rfl

include hv hV in
/-- A value row is finite, or its key is not seen. -/
theorem val_or (x : Fin 2) (t : Fin 8192) (e : Fin 128) (j : ℕ) (hj : j < 8320) :
    score Q K b h x t j = ⊥ ∨ xv (ix3 0 ⟨j, hj⟩ e) = (val V b h e j : EReal) := by
  by_cases h8 : j < 8208
  · right
    obtain ⟨y, hy⟩ := hV ⟨j, h8⟩ ⟨h * 128 + e, by omega⟩
    rw [hv, val, dif_pos h8]
    change V (ix3 b ⟨j, _⟩ _) = _ at hy
    rw [hy, EReal.toReal_coe]
  · left
    rw [score, dif_neg h8]

include hq hk hv hqc hkc hV in
/-- The state of a packed row before trip `n`. -/
theorem st_good (x : Fin 2) (p : Fin 256) : ∀ n : ℕ, n ≤ (k0_t1_loop (lit0 i)).trips →
    Good (st (k0_pay18 xq) (k0_pay19 (F := Ideal) qc) (lit0 i) (lit0_chk i) xk xv kcm n) (row x p) (Finset.range (512 * n))
      (score Q K b h x (frameOf i p)) (val V b h) := by
  intro n
  induction n with
  | zero => intro _; exact st0_good _ _ _
  | succ n ih =>
    intro hn
    have hlt : n < (k0_t1_loop (lit0 i)).trips := hn
    have h16 := k_lt i ⟨n, hlt⟩
    have e : Finset.range (512 * (n + 1)) = Finset.range (512 * n) ∪ Finset.Ico (512 * n) (512 * n + 512) := by
      ext j; simp only [Finset.mem_union, Finset.mem_range, Finset.mem_Ico]; omega
    rw [e]
    unfold st
    rw [dif_pos hlt]
    refine step_good _ _ _ _ _ _ _ _ _ _ _ (ih (by omega)) (fun j => ?_) ?_ (fun e j => ?_)
    · exact tile_score i ⟨n, hlt⟩ Q K b h xq xk qc kcm hq hk hqc hkc x p j
    · rw [Finset.disjoint_left]; intro j; simp only [Finset.mem_range, Finset.mem_Ico]; omega
    · rw [tileAt_at]
      exact val_or Q K V b h xv hv hV x _ e _ _

/-- Keys without a score change no maximum. -/
theorem sup_bot (A B : Finset ℕ) (S : ℕ → EReal) (hA : ∀ j ∈ A, j ∉ B → S j = ⊥) (hB : ∀ j ∈ B, j ∉ A → S j = ⊥) : A.sup S = B.sup S := by
  apply le_antisymm
  · refine Finset.sup_le fun j hj => ?_
    by_cases hb : j ∈ B
    · exact Finset.le_sup hb
    · rw [hA j hj hb]; exact bot_le
  · refine Finset.sup_le fun j hj => ?_
    by_cases hb : j ∈ A
    · exact Finset.le_sup hb
    · rw [hB j hj hb]; exact bot_le

/-- Keys with weight zero change no sum. -/
theorem sum_zero (A B : Finset ℕ) (f : ℕ → ℝ) (hA : ∀ j ∈ A, j ∉ B → f j = 0) (hB : ∀ j ∈ B, j ∉ A → f j = 0) :
    ∑ j ∈ A, f j = ∑ j ∈ B, f j := by
  have h1 : ∑ j ∈ A, f j = ∑ j ∈ A ∪ B, f j :=
    Finset.sum_subset Finset.subset_union_left fun j hj hn => hB j ((Finset.mem_union.1 hj).resolve_left hn) hn
  have h2 : ∑ j ∈ B, f j = ∑ j ∈ A ∪ B, f j :=
    Finset.sum_subset Finset.subset_union_right fun j hj hn => hA j ((Finset.mem_union.1 hj).resolve_right hn) hn
  rw [h1, h2]

include hq hk hv hqc hkc hkt hV in
/-- The sums of a packed row after all its tiles are the sums over every key. -/
theorem fin_at (x : Fin 2) (p : Fin 256) (e : Fin 128) :
    let f := fin (k0_pay18 xq) (k0_pay19 (F := Ideal) qc) xk xv kct
      (st (k0_pay18 xq) (k0_pay19 (F := Ideal) qc) (lit0 i) (lit0_chk i) xk xv kcm (k0_t1_loop (lit0 i)).trips)
    f.1 (ix2 (row x p) e) = ((∑ j ∈ Finset.range 8208, wt Q K b h x (frameOf i p) j : ℝ) : EReal)
      ∧ f.2 (ix2 (row x p) e) = ((∑ j ∈ Finset.range 8208, wt Q K b h x (frameOf i p) j * val V b h e j : ℝ) : EReal) := by
  intro f
  have hi := i.2
  have hp := p.2
  have ht := trips_eq i
  have hg := st_good i Q K V b h xq xk xv qc kcm hq hk hv hqc hkc hV x p _ le_rfl
  have := tail_good (k0_pay18 xq) (k0_pay19 (F := Ideal) qc) _ (row x p) e (tailAt xk) (tailAt xv) kct _ _ _ 8192 hg
    (tail_score i Q K b h xq xk qc kct hq hk hqc hkt x p)
    (by rw [Finset.disjoint_left]; intro j; simp only [Finset.mem_range, Finset.mem_Ico, ht]; omega)
    (fun e j => by rw [tailAt_at]; exact val_or Q K V b h xv hv hV x _ e _ _)
  rw [ht] at this
  set A := Finset.range (512 * (i.val / 2 + 1)) ∪ Finset.Ico 8192 (8192 + 128) with hA
  have hb1 : ∀ j ∈ A, j ∉ Finset.range 8208 → score Q K b h x (frameOf i p) j = ⊥ := fun j _ hj => by
    rw [Finset.mem_range] at hj
    rw [score, dif_neg hj]
  have hb2 : ∀ j ∈ Finset.range 8208, j ∉ A → score Q K b h x (frameOf i p) j = ⊥ := fun j hj hn => by
    rw [Finset.mem_range] at hj
    simp only [hA, Finset.mem_union, Finset.mem_range, Finset.mem_Ico] at hn
    rw [score, dif_pos hj, if_neg]
    simp only [seen]
    omega
  have hs : A.sup (score Q K b h x (frameOf i p)) = top Q K b h x (frameOf i p) := sup_bot _ _ _ hb1 hb2
  rw [hs] at this
  have hf1 : f.1 = k0_pay31 (k0_pay18 xq) (k0_pay19 (F := Ideal) qc) (tailAt xk) kct _ _ := rfl
  have hf2 : f.2 = k0_pay33 (k0_pay32 (k0_pay18 xq) (k0_pay19 (F := Ideal) qc) (tailAt xk) (tailAt xv) kct _ _) := rfl
  rw [hf1, hf2]
  refine ⟨?_, ?_⟩
  · rw [ht]
    refine this.1.trans (congrArg _ ?_)
    exact sum_zero _ _ _ (fun j hj hn => by rw [hb1 j hj hn, E_bot]) (fun j hj hn => by rw [hb2 j hj hn, E_bot])
  · rw [ht]
    refine this.2.trans (congrArg _ ?_)
    exact sum_zero _ _ _ (fun j hj hn => by rw [hb1 j hj hn, E_bot, zero_mul]) (fun j hj hn => by rw [hb2 j hj hn, E_bot, zero_mul])

include hq hk hv hqc hkc hkt hV in
/-- The block written is the normalised difference of the two softmax averages. -/
theorem outBlk_at (p : Fin 256) (e : Fin 128) (r : ℝ)
    (hr : lamE (fun x => lam (ix2 0 x)) (fun x => lam (ix2 1 x)) (fun x => lam (ix2 2 x)) (fun x => lam (ix2 3 x)) (Ideal.ofBits .f32 0x3E4CCCCD#32) = (r : EReal)) :
    outBlk xq xk xv qc kcm kct lam w (lit0 i) (lit0_chk i) (ix3 0 p e)
      = norm (Ideal.ofBits .f32 0x43000000#32) (Ideal.ofBits .f32 0x358637BD#32) (Ideal.ofBits .f32 0x3F4CCCCD#32)
          (fun e => w (ix2 0 e)) (dk Q K V r b h (frameOf i p)) e := by
  unfold outBlk
  rw [pay1_at]
  congr 1
  funext e
  have f0 := fin_at i Q K V b h xq xk xv qc kcm kct hq hk hv hqc hkc hkt hV 0 p e
  have f1 := fin_at i Q K V b h xq xk xv qc kcm kct hq hk hv hqc hkc hkt hV 1 p e
  rw [pay35_at]
  refine Eq.trans (congrArg₂ (· - ·) (congrArg₂ Ideal.div f0.2 f0.1) (congrArg₂ (· * ·) ?_ (congrArg₂ Ideal.div f1.2 f1.1))) rfl
  have e0 := lamAt_at 0 inb_S4x64_S1x64_0_0 lam
  have e1 := lamAt_at 1 inb_S4x64_S1x64_1_0 lam
  have e2 := lamAt_at 2 inb_S4x64_S1x64_2_0 lam
  have e3 := lamAt_at 3 inb_S4x64_S1x64_3_0 lam
  rw [← hr]
  unfold lamE
  simp only [← e0, ← e1, ← e2, ← e3]
  rfl

end Cert.AttnIdeal.Hand

end
-- ==== Proof.AttnIdeal.Tables.lean ====
/- The tables of chunk numbers in closed form. -/
module

public import proofs.«01_k».proof.Proof.AttnIdeal.Frame

@[expose] public section

set_option maxRecDepth 16384

namespace Cert.AttnIdeal.Hand

open Idealize.ShloMosaic

/-- The table of frame chunks, 128 entries at a time. -/
theorem lit1_block : ∀ (a : Fin 64) (b : Fin 128), lit1t (a.val * 128 + b.val) = BitVec.ofNat 32 ((a.val * 128 + b.val) / 64) := by
  decide +kernel
/-- The table of key chunks, 128 entries at a time. -/
theorem lit2_block : ∀ (a : Fin 64) (b : Fin 128), lit2t (a.val * 128 + b.val) = BitVec.ofNat 32 ((a.val * 128 + b.val) / 64) := by
  decide +kernel

/-- The chunk of frame `j`. -/
theorem lit1_eq (j : Fin 8192) : lit1 j = BitVec.ofNat 32 (j.val / 64) := by
  have := lit1_block ⟨j.val / 128, by omega⟩ ⟨j.val % 128, by omega⟩
  dsimp only at this
  rwa [show j.val / 128 * 128 + j.val % 128 = j.val by omega] at this
/-- The chunk of key `j`. -/
theorem lit2_eq (j : Fin 8192) : lit2 j = BitVec.ofNat 32 (j.val / 64) := by
  have := lit2_block ⟨j.val / 128, by omega⟩ ⟨j.val % 128, by omega⟩
  dsimp only at this
  rwa [show j.val / 128 * 128 + j.val % 128 = j.val by omega] at this
/-- The chunks of the tail: below every frame's for the meta tokens, above every frame's for the padding. -/
theorem lit3_eq : ∀ j : Fin 128, lit3 j = if j.val < 16 then 4294967295#32 else 1073741824#32 := by decide +kernel

end Cert.AttnIdeal.Hand
-- ==== Proof.AttnIdeal.Reads.lean ====
/- What each window's block of the attention call holds, element by element, at a symbolic grid point. -/
module

public import proofs.«01_k».proof.Proof.AttnIdeal.Block
public import proofs.«01_k».proof.Proof.AttnIdeal.Tables
public import Idealize.ShloMosaic.Lib.Pipeline.Covers

@[expose] public section

set_option maxRecDepth 16384

noncomputable section

namespace Cert.AttnIdeal.Hand

open Cert.AttnIdeal.Gen Cert.Attn.Math
open Idealize.ShloMosaic Idealize.ShloMosaic.TcCoe Idealize.ShloMosaic.Tactic

/-! ## The index maps -/

/-- A small number written as a 32-bit word and read back is itself. -/
theorem word_nat {n : Nat} (h : n < 1024) : (BitVec.ofNat 32 n).toNat = n := by
  rw [BitVec.toNat_ofNat]; exact Nat.mod_eq_of_lt (by omega)

/-- The batch coordinate. -/
theorem c0_lt (i : grid0.Coords) : (i 0).val < 8 := (i 0).isLt
/-- The head coordinate. -/
theorem c1_lt (i : grid0.Coords) : (i 1).val < 4 := (i 1).isLt
/-- The query block's coordinate. -/
theorem c2_lt (i : grid0.Coords) : (i 2).val < 32 := (i 2).isLt

/-- Where the query window's block sits. -/
theorem map0 (i : grid0.Coords) : cc0_transform_0 i = ![(i 0).val, (i 2).val, (i 1).val] := by
  have h0 := c0_lt i; have h1 := c1_lt i; have h2 := c2_lt i
  funext a; fin_cases a
  · exact word_nat (show (i 0).val < 1024 by omega)
  · exact word_nat (show (i 2).val < 1024 by omega)
  · exact word_nat (show (i 1).val < 1024 by omega)
/-- Where the key window's block sits. -/
theorem map1 (i : grid0.Coords) : cc0_transform_1 i = ![(i 0).val, 0, (i 1).val] := by
  have h0 := c0_lt i; have h1 := c1_lt i
  funext a; fin_cases a
  · exact word_nat (show (i 0).val < 1024 by omega)
  · rfl
  · exact word_nat (show (i 1).val < 1024 by omega)
/-- Where the frame chunks' block sits. -/
theorem map3 (i : grid0.Coords) : cc0_transform_3 i = ![(i 2).val, 0] := by
  have h2 := c2_lt i
  funext a; fin_cases a
  · exact word_nat (show (i 2).val < 1024 by omega)
  · rfl

/-- A block of size one starts at its index. -/
theorem place_one (n : Nat) : n * 1 + 1 * 0 = n := by omega
/-- The first block starts at zero. -/
theorem place_zero (s j : Nat) : 0 * s + 1 * j = j := by omega
/-- An element's place: its block's index times the block's size, plus its own. -/
theorem place (n s j : Nat) : n * s + 1 * j = n * s + j := by omega

variable (m : (ℓ : Loc nD τ sig) → Buf (Elt Ideal) ℓ) (c : Dev nD) (t : Fin (acfg (F := Ideal)).N)

/-- The batch of point `t`. -/
abbrev bat : Fin 8 := grid0.coords t 0
/-- The head of point `t`. -/
abbrev hd : Fin 4 := grid0.coords t 1
/-- The query block of point `t`. -/
abbrev qb : Fin 32 := grid0.coords t 2

/-! ## The blocks -/

/-- The key block's elements. -/
theorem k_at (j : Fin 8320) (e : Fin 128) :
    iblk m c 1 t (ix3 0 j e) = m ((c.tc : Thread nD τ).loc main_arg1) (ix3 (bat t) j ⟨(hd t).val * 128 + e.val, by have := (hd t).isLt; omega⟩) := by
  have e1 := map1 (grid0.coords t)
  refine Eq.trans ?_ (congrFun (V_main_arg1 m c) _)
  refine congrArg (V m c main_arg1) (funext fun a => Fin.ext ?_)
  fin_cases a
  · show cc0_transform_1 (grid0.coords t) 0 * 1 + 1 * 0 = (bat t).val
    rw [e1]; exact place_one _
  · show cc0_transform_1 (grid0.coords t) 1 * 8320 + 1 * j.val = j.val
    rw [e1]; exact place_zero _ _
  · show cc0_transform_1 (grid0.coords t) 2 * 128 + 1 * e.val = (hd t).val * 128 + e.val
    rw [e1]; exact place _ _ _

/-- The value block's elements. -/
theorem v_at (j : Fin 8320) (e : Fin 128) :
    iblk m c 2 t (ix3 0 j e) = m ((c.tc : Thread nD τ).loc main_arg2) (ix3 (bat t) j ⟨(hd t).val * 128 + e.val, by have := (hd t).isLt; omega⟩) := by
  have e1 : cc0_transform_2 (grid0.coords t) = _ := map1 (grid0.coords t)
  refine Eq.trans ?_ (congrFun (V_main_arg2 m c) _)
  refine congrArg (V m c main_arg2) (funext fun a => Fin.ext ?_)
  fin_cases a
  · show cc0_transform_2 (grid0.coords t) 0 * 1 + 1 * 0 = (bat t).val
    rw [e1]; exact place_one _
  · show cc0_transform_2 (grid0.coords t) 1 * 8320 + 1 * j.val = j.val
    rw [e1]; exact place_zero _ _
  · show cc0_transform_2 (grid0.coords t) 2 * 128 + 1 * e.val = (hd t).val * 128 + e.val
    rw [e1]; exact place _ _ _

/-- The query block's elements. -/
theorem q_at (p : Fin 256) (e : Fin 128) :
    X0_0 m c t (ix3 0 p e) = m ((c.tc : Thread nD τ).loc main_arg0)
      (ix3 (bat t) ⟨(qb t).val * 256 + p.val, by have := (qb t).isLt; omega⟩ ⟨(hd t).val * 128 + e.val, by have := (hd t).isLt; omega⟩) := by
  have e1 := map0 (grid0.coords t)
  unfold X0_0 Pipeline.Window.fill
  rw [dif_pos (moved0_0 t _)]
  refine Eq.trans ?_ (congrFun (V_main_arg0 m c) _)
  refine congrArg (V m c main_arg0) (funext fun a => Fin.ext ?_)
  fin_cases a
  · show cc0_transform_0 (grid0.coords t) 0 * 1 + 1 * 0 = (bat t).val
    rw [e1]; exact place_one _
  · show cc0_transform_0 (grid0.coords t) 1 * 256 + 1 * p.val = (qb t).val * 256 + p.val
    rw [e1]; exact place _ _ _
  · show cc0_transform_0 (grid0.coords t) 2 * 128 + 1 * e.val = (hd t).val * 128 + e.val
    rw [e1]; exact place _ _ _

/-! ## The tables -/

/-- The frame chunks when the call is entered. -/
theorem V_c_0 : V m c main_c_0 = fun i => lit1 (S8192x1.rowMajor i) := by
  show StableHlo.after hostOps0 _ (Proc.devRef .tc main_c_0) = _
  after_results_simp
  rfl
/-- The key chunks when the call is entered. -/
theorem V_c_1 : V m c main_c_1 = fun i => lit2 (S16x1x512.rowMajor i) := by
  show StableHlo.after hostOps0 _ (Proc.devRef .tc main_c_1) = _
  after_results_simp
  rfl
/-- The tail's chunks when the call is entered. -/
theorem V_c_2 : V m c main_c_2 = fun i => lit3 (S1x128.rowMajor i) := by
  show StableHlo.after hostOps0 _ (Proc.devRef .tc main_c_2) = _
  after_results_simp
  rfl

/-- The frame chunks' block: each query row's chunk. -/
theorem qc_at (p : Fin 256) : iblk m c 3 t (ix2 p 0) = BitVec.ofNat 32 (((qb t).val * 256 + p.val) / 64) := by
  have e1 := map3 (grid0.coords t)
  have hq : (qb t).val < 32 := (qb t).isLt
  have h : iblk m c 3 t (ix2 p 0) = V m c main_c_0 (ix2 ⟨(qb t).val * 256 + p.val, by omega⟩ 0) := by
    refine congrArg (V m c main_c_0) (funext fun a => Fin.ext ?_)
    fin_cases a
    · show cc0_transform_3 (grid0.coords t) 0 * 256 + 1 * p.val = (qb t).val * 256 + p.val
      rw [e1]; exact place _ _ _
    · show cc0_transform_3 (grid0.coords t) 1 * 1 + 1 * 0 = 0
      rw [e1]; exact place_one _
  rw [h, V_c_0]
  have hr : S8192x1.rowMajor (ix2 ⟨(qb t).val * 256 + p.val, by omega⟩ 0) = (⟨(qb t).val * 256 + p.val, by omega⟩ : Fin 8192) :=
    Fin.ext ((Shape.rowMajor_val_two _).trans (by show ((qb t).val * 256 + p.val) * 1 + 0 = _; exact Nat.mul_one _))
  show lit1 (S8192x1.rowMajor _) = _
  rw [hr]
  exact lit1_eq _

/-- The key chunks' block: each key's chunk, a row of 512 keys for each tile. -/
theorem kcm_at (n : Fin 16) (x : Fin 512) : iblk m c 4 t (ix3 n 0 x) = BitVec.ofNat 32 ((512 * n.val + x.val) / 64) := by
  have h : iblk m c 4 t (ix3 n 0 x) = V m c main_c_1 (ix3 n 0 x) := by
    refine congrArg (V m c main_c_1) (funext fun a => Fin.ext ?_)
    fin_cases a
    · show 0 * 16 + 1 * n.val = n.val; omega
    · show 0 * 1 + 1 * 0 = 0; omega
    · show 0 * 512 + 1 * x.val = x.val; omega
  rw [h, V_c_1]
  have hr : S16x1x512.rowMajor (ix3 n 0 x) = (⟨512 * n.val + x.val, by omega⟩ : Fin 8192) :=
    Fin.ext ((Shape.rowMajor_val_three _).trans (by show (n.val * 1 + 0) * 512 + x.val = _; dsimp only; omega))
  show lit2 (S16x1x512.rowMajor _) = _
  rw [hr]
  exact lit2_eq _

/-- The tail chunks' block. -/
theorem kct_at (x : Fin 128) : iblk m c 5 t (ix2 0 x) = if x.val < 16 then 4294967295#32 else 1073741824#32 := by
  have h : iblk m c 5 t (ix2 0 x) = V m c main_c_2 (ix2 0 x) := by
    refine congrArg (V m c main_c_2) (funext fun a => Fin.ext ?_)
    fin_cases a
    · show 0 * 1 + 1 * 0 = 0; omega
    · show 0 * 128 + 1 * x.val = x.val; omega
  rw [h, V_c_2]
  have hr : S1x128.rowMajor (ix2 0 x) = x :=
    Fin.ext ((Shape.rowMajor_val_two _).trans (by show 0 * 128 + x.val = _; omega))
  show lit3 (S1x128.rowMajor _) = _
  rw [hr]
  exact lit3_eq _

/-! ## The small vectors -/

/-- The four lambda vectors stacked, when the call is entered. -/
theorem V_v8 : V m c main_v8 = concatenate S4x64 0
    [⟨S1x64, broadcastInDim S1x64 ![1] bcast_S64_S1x64_1 (shapeCast S64 (m ((c.tc : Thread nD τ).loc main_arg3)) shapeCasts_S1x64_S64)⟩,
     ⟨S1x64, broadcastInDim S1x64 ![1] bcast_S64_S1x64_1 (shapeCast S64 (m ((c.tc : Thread nD τ).loc main_arg4)) shapeCasts_S1x64_S64)⟩,
     ⟨S1x64, broadcastInDim S1x64 ![1] bcast_S64_S1x64_1 (shapeCast S64 (m ((c.tc : Thread nD τ).loc main_arg5)) shapeCasts_S1x64_S64)⟩,
     ⟨S1x64, broadcastInDim S1x64 ![1] bcast_S64_S1x64_1 (shapeCast S64 (m ((c.tc : Thread nD τ).loc main_arg6)) shapeCasts_S1x64_S64)⟩]
    concatenates_S1x64_S1x64_S1x64_S1x64_S4x64_d0 := by
  show StableHlo.after hostOps0 _ (Proc.devRef .tc main_v8) = _
  after_results_simp
  rfl
/-- The norm's weights when the call is entered. -/
theorem V_v10 : V m c main_v10 = shapeCast S1x128 (shapeCast S128 (m ((c.tc : Thread nD τ).loc main_arg7)) shapeCasts_S1x128_S128) shapeCasts_S128_S1x128 := by
  show StableHlo.after hostOps0 _ (Proc.devRef .tc main_v10) = _
  after_results_simp
  rfl

/-- The lambda block is the whole stack. -/
theorem lam_blk (r : Fin 4) (x : Fin 64) : iblk m c 6 t (ix2 r x) = V m c main_v8 (ix2 r x) := by
  refine congrArg (V m c main_v8) (funext fun a => Fin.ext ?_)
  fin_cases a
  · show 0 * 4 + 1 * r.val = r.val; omega
  · show 0 * 64 + 1 * x.val = x.val; omega
/-- Its first row. -/
theorem lam0_at (x : Fin 64) : iblk m c 6 t (ix2 0 x) = m ((c.tc : Thread nD τ).loc main_arg3) (ix2 0 x) := by
  rw [lam_blk, V_v8]; pointwise
/-- Its second row. -/
theorem lam1_at (x : Fin 64) : iblk m c 6 t (ix2 1 x) = m ((c.tc : Thread nD τ).loc main_arg4) (ix2 0 x) := by
  rw [lam_blk, V_v8]; pointwise
/-- Its third row. -/
theorem lam2_at (x : Fin 64) : iblk m c 6 t (ix2 2 x) = m ((c.tc : Thread nD τ).loc main_arg5) (ix2 0 x) := by
  rw [lam_blk, V_v8]; pointwise
/-- Its fourth row. -/
theorem lam3_at (x : Fin 64) : iblk m c 6 t (ix2 3 x) = m ((c.tc : Thread nD τ).loc main_arg6) (ix2 0 x) := by
  rw [lam_blk, V_v8]; pointwise
/-- The weight block's elements. -/
theorem w_at (e : Fin 128) : iblk m c 7 t (ix2 0 e) = m ((c.tc : Thread nD τ).loc main_arg7) (ix2 0 e) := by
  have h : iblk m c 7 t (ix2 0 e) = V m c main_v10 (ix2 0 e) := by
    refine congrArg (V m c main_v10) (funext fun a => Fin.ext ?_)
    fin_cases a
    · show 0 * 1 + 1 * 0 = 0; omega
    · show 0 * 128 + 1 * e.val = e.val; omega
  rw [h, V_v10]; pointwise

end Cert.AttnIdeal.Hand
-- ==== Proof.AttnIdeal.Value.lean ====
/- The attention call's result, element by element: the normalised difference of the two softmaxes' averages. -/
module

public import proofs.«01_k».proof.Proof.AttnIdeal.Reads

@[expose] public section

set_option maxRecDepth 16384

noncomputable section

namespace Cert.AttnIdeal.Hand

open Cert.AttnIdeal.Gen Cert.Attn.Math
open Idealize.ShloMosaic Idealize.ShloMosaic.TcCoe Idealize.ShloMosaic.Tactic

variable (m : (ℓ : Loc nD τ sig) → Buf (Elt Ideal) ℓ) (c : Dev nD)

/-- The four vectors' lambda on core `c`. -/
def lamM : EReal := lamE (fun x => m ((c.tc : Thread nD τ).loc main_arg3) (ix2 0 x)) (fun x => m ((c.tc : Thread nD τ).loc main_arg4) (ix2 0 x))
  (fun x => m ((c.tc : Thread nD τ).loc main_arg5) (ix2 0 x)) (fun x => m ((c.tc : Thread nD τ).loc main_arg6) (ix2 0 x)) (Ideal.ofBits .f32 0x3E4CCCCD#32)

/-- The whole result at lambda `r`: row `t` of batch `b`, column `x` of the heads side by side. -/
def res (r : ℝ) : S8x8192x512.Idx → EReal := fun y =>
  norm (Ideal.ofBits .f32 0x43000000#32) (Ideal.ofBits .f32 0x358637BD#32) (Ideal.ofBits .f32 0x3F4CCCCD#32)
    (fun e => m ((c.tc : Thread nD τ).loc main_arg7) (ix2 0 e))
    (dk (m ((c.tc : Thread nD τ).loc main_arg0)) (m ((c.tc : Thread nD τ).loc main_arg1)) (m ((c.tc : Thread nD τ).loc main_arg2)) r (y 0)
      ⟨(y 2).val / 128, by have h : (y 2).val < 512 := (y 2).isLt; omega⟩ (y 1))
    ⟨(y 2).val % 128, Nat.mod_lt _ (by decide)⟩

/-- The output window's blocks fill the array. -/
theorem covers8 : ((acfg (F := Ideal)).win 8).Covers := by
  refine Pipeline.Window.covers_of_indexMap_surj _ rfl (by decide) fun β => ?_
  have h0 : (β 0).val < 8 := (β 0).isLt
  have h1 : (β 1).val < 32 := (β 1).isLt
  have h2 : (β 2).val < 4 := (β 2).isLt
  let i : grid0.Coords := fun | 0 => ⟨(β 0).val, h0⟩ | 1 => ⟨(β 2).val, h2⟩ | 2 => ⟨(β 1).val, h1⟩
  refine ⟨i, fun a => ?_⟩
  have e : cc0_transform_8 i = ![(i 0).val, (i 2).val, (i 1).val] := map0 i
  refine (congrFun e a).trans ?_
  fin_cases a <;> rfl

/-- What the call leaves in its result. -/
theorem arr_eq (r : ℝ) (hr : lamM m c = (r : EReal))
    (hV : ∀ (b : Fin 8) (j : Fin 8208) (x : Fin 512), ∃ y : ℝ, m ((c.tc : Thread nD τ).loc main_arg2) (ix3 b ⟨j, key_lt j⟩ x) = (y : EReal)) :
    (dats m 0 c).arrAt 8 (acfg (F := Ideal)).N = res m c r := by
  refine (dats m 0 c).arrAt_eq_of_covers 8 _ covers8 fun t hf y => ?_
  rw [after0_8]
  have hy0 : y 0 = (0 : Fin 1) := Subsingleton.elim (α := Fin 1) _ _
  obtain ⟨p, hp⟩ : ∃ p : Fin 256, p = y 1 := ⟨_, rfl⟩
  obtain ⟨e, he⟩ : ∃ e : Fin 128, e = y 2 := ⟨_, rfl⟩
  have hb : (bat t).val < 8 := (bat t).isLt
  have hh : (hd t).val < 4 := (hd t).isLt
  have hq : (qb t).val < 32 := (qb t).isLt
  have hxy : ((acfg (F := Ideal)).win 8).xinj ((acfg (F := Ideal)).grid.coords t) y = ix3 0 p e := by
    funext a; fin_cases a
    · exact hy0
    · exact hp.symm
    · exact he.symm
  have hemb : (((acfg (F := Ideal)).win 8).blk t).view.emb y
      = (ix3 (bat t) ⟨(qb t).val * 256 + p.val, by omega⟩ ⟨(hd t).val * 128 + e.val, by omega⟩ : S8x8192x512.Idx) := by
    have e1 : cc0_transform_8 (grid0.coords t) = _ := map0 (grid0.coords t)
    funext a; apply Fin.ext
    fin_cases a
    · show cc0_transform_8 (grid0.coords t) 0 * 1 + 1 * (y 0).val = (bat t).val
      rw [e1, hy0]; exact place_one _
    · show cc0_transform_8 (grid0.coords t) 1 * 256 + 1 * (y 1).val = (qb t).val * 256 + p.val
      rw [e1, ← hp]; exact place _ _ _
    · show cc0_transform_8 (grid0.coords t) 2 * 128 + 1 * (y 2).val = (hd t).val * 128 + e.val
      rw [e1, ← he]; exact place _ _ _
  rw [hxy, hemb]
  have hl : lamE (fun x => iblk m c 6 t (ix2 0 x)) (fun x => iblk m c 6 t (ix2 1 x)) (fun x => iblk m c 6 t (ix2 2 x)) (fun x => iblk m c 6 t (ix2 3 x))
      (Ideal.ofBits .f32 0x3E4CCCCD#32) = (r : EReal) := by
    rw [← hr]; unfold lamM
    rw [funext (lam0_at m c t), funext (lam1_at m c t), funext (lam2_at m c t), funext (lam3_at m c t)]
  refine (outBlk_at (qb t) (m ((c.tc : Thread nD τ).loc main_arg0)) (m ((c.tc : Thread nD τ).loc main_arg1)) (m ((c.tc : Thread nD τ).loc main_arg2))
    (bat t) (hd t) (X0_0 m c t) (iblk m c 1 t) (iblk m c 2 t) (iblk m c 3 t) (iblk m c 4 t) (iblk m c 5 t) (iblk m c 6 t) (iblk m c 7 t)
    (q_at m c t) (k_at m c t) (v_at m c t) (qc_at m c t) (kcm_at m c t) (kct_at m c t) (hV (bat t)) p e r hl).trans ?_
  rw [funext (w_at m c t)]
  unfold res
  have e1 : (⟨((hd t).val * 128 + e.val) / 128, by omega⟩ : Fin 4) = hd t := Fin.ext (by show ((hd t).val * 128 + e.val) / 128 = (hd t).val; omega)
  have e2 : (⟨((hd t).val * 128 + e.val) % 128, Nat.mod_lt _ (by decide)⟩ : Fin 128) = e := Fin.ext (by show ((hd t).val * 128 + e.val) % 128 = e.val; omega)
  show _ = norm _ _ _ _ (dk _ _ _ r (bat t) ⟨((hd t).val * 128 + e.val) / 128, _⟩ ⟨(qb t).val * 256 + p.val, _⟩) ⟨((hd t).val * 128 + e.val) % 128, _⟩
  rw [e1, e2]

end Cert.AttnIdeal.Hand
-- ==== Proof.AttnRef.Stages.lean ====
/- The reference attention cut into named stages, and each stage read at an index. -/
module

public import proofs.«01_k».proof.Proof.Gen.AttnRefIdeal.Run
public import Idealize.ShloMosaic.Lib.Pointwise

@[expose] public section

set_option maxRecDepth 16384

noncomputable section

namespace Cert.AttnRefIdeal.Hand

open Cert.AttnRefIdeal Cert.AttnRefIdeal.Gen
open Idealize.ShloMosaic Idealize.ShloMosaic.TcCoe

/-- The chunk of each frame: its position divided by 64, rounding down. -/
def qch : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))
/-- The chunk of each key: the frames' chunks, then the chunk of the meta tokens. -/
def kch : IVec S8208 32 :=
  concatenate S8208 0 [⟨S8192, qch⟩, ⟨S16, (broadcastInDim S16 ![] bcast_S_S16 (constantI S_ 32 4294967295#32))⟩] concatenates_S8192_S16_S8208_d0
/-- Which keys a frame sees. -/
def vis : IVec S8192x8208 1 :=
  cmpi .sle (broadcastInDim S8192x8208 ![0, 1] bcast_S1x8208_S8192x8208_0_1 (broadcastInDim S1x8208 ![1] bcast_S8208_S1x8208_1 kch)) (broadcastInDim S8192x8208 ![0, 1] bcast_S8192x1_S8192x8208_0_1 (broadcastInDim S8192x1 ![0] bcast_S8192_S8192x1_0 qch))

variable (q k v : FVec Ideal S8x8320x512 .bf16)

/-- The scores of each frame against each key, per head and component. -/
def sc : FVec Ideal S8x4x2x8192x8208 .f32 :=
  Host.dotGeneral dot_S8x8192x4x2x64_S8x8208x4x2x64_S8x4x2x8192x8208_4_4_1_1_023_023 none (shapeCast _ (extf .f32 (extractStridedSlice S8x8192x512 ![0, 0, 0] q slices_S8x8320x512_S8x8192x512_0_0_0) bitsLt_bf16_f32) shapeCasts_S8x8192x512_S8x8192x4x2x64) (shapeCast _ (extf .f32 (extractStridedSlice S8x8208x512 ![0, 0, 0] k slices_S8x8320x512_S8x8208x512_0_0_0) bitsLt_bf16_f32) shapeCasts_S8x8208x512_S8x8208x4x2x64)
/-- The scores with the keys a frame does not see at minus infinity. -/
def msk : FVec Ideal S8x4x2x8192x8208 .f32 :=
  select (broadcastInDim S8x4x2x8192x8208 ![3, 4] bcast_S8192x8208_S8x4x2x8192x8208_3_4 vis) (sc q k) (broadcastInDim S8x4x2x8192x8208 ![] bcast_S_S8x4x2x8192x8208 (id (constant S_ .f32 0xFF800000#32)))
/-- The maximum of each row of scores. -/
def mx : FVec Ideal S8x4x2x8192 .f32 :=
  maximumf (broadcastInDim S8x4x2x8192 ![] bcast_S_S8x4x2x8192 (constant S_ .f32 0xFF800000#32)) (Host.reduce FloatOps.maximumf (msk q k) (constant S_ .f32 0xFF800000#32) reducesTo_S8x4x2x8192x8208_S8x4x2x8192_d4 h_S_)
/-- The exponentials. -/
def ex : FVec Ideal S8x4x2x8192x8208 .f32 :=
  Host.exp (subf (msk q k) (broadcastInDim S8x4x2x8192x8208 ![0, 1, 2, 3, 4] bcast_S8x4x2x8192x1_S8x4x2x8192x8208_0_1_2_3_4 (broadcastInDim S8x4x2x8192x1 ![0, 1, 2, 3] bcast_S8x4x2x8192_S8x4x2x8192x1_0_1_2_3 (mx q k))))
/-- The attention weights of the two components. -/
def pr : FVec Ideal S8x4x2x8192x8208 .f32 :=
  Host.divf (ex q k) (broadcastInDim S8x4x2x8192x8208 ![0, 1, 2, 3, 4] bcast_S8x4x2x8192x1_S8x4x2x8192x8208_0_1_2_3_4 (broadcastInDim S8x4x2x8192x1 ![0, 1, 2, 3] bcast_S8x4x2x8192_S8x4x2x8192x1_0_1_2_3 (Host.reduceAdd (ex q k) (constant S_ .f32 0x00000000#32) reducesTo_S8x4x2x8192x8208_S8x4x2x8192_d4 h_S_)))
/-- The weight of the second component. -/
def lam (a b a' b' : FVec Ideal S1x64 .f32) : FVec Ideal S_ .f32 :=
  addf (subf (Host.exp (Host.reduceAdd (mulf (shapeCast S64 a shapeCasts_S1x64_S64) (shapeCast S64 b shapeCasts_S1x64_S64)) (constant S_ .f32 0x00000000#32) reducesTo_S64_S_d0 h_S_)) (Host.exp (Host.reduceAdd (mulf (shapeCast S64 a' shapeCasts_S1x64_S64) (shapeCast S64 b' shapeCasts_S1x64_S64)) (constant S_ .f32 0x00000000#32) reducesTo_S64_S_d0 h_S_))) (constant S_ .f32 0x3E4CCCCD#32)

variable (l : FVec Ideal S_ .f32)

/-- The difference of the two components' weights. -/
def dif : FVec Ideal S8x4x8192x8208 .f32 :=
  subf (shapeCast _ (extractStridedSlice S8x4x1x8192x8208 ![0, 0, 0, 0, 0] (pr q k) slices_S8x4x2x8192x8208_S8x4x1x8192x8208_0_0_0_0_0) shapeCasts_S8x4x1x8192x8208_S8x4x8192x8208) (mulf (broadcastInDim S8x4x8192x8208 ![] bcast_S_S8x4x8192x8208 l) (shapeCast _ (extractStridedSlice S8x4x1x8192x8208 ![0, 0, 1, 0, 0] (pr q k) slices_S8x4x2x8192x8208_S8x4x1x8192x8208_0_0_1_0_0) shapeCasts_S8x4x1x8192x8208_S8x4x8192x8208))
/-- The weighted sums of the value rows. -/
def ov : FVec Ideal S8x8192x4x128 .f32 :=
  transpose S8x8192x4x128 [0, 3, 1, 2] (Host.dotGeneral dot_S8x8208x4x128_S8x4x8192x8208_S8x4x128x8192_1_3_3_2_02_01 none (shapeCast _ (extf .f32 (extractStridedSlice S8x8208x512 ![0, 0, 0] v slices_S8x8320x512_S8x8208x512_0_0_0) bitsLt_bf16_f32) shapeCasts_S8x8208x512_S8x8208x4x128) (dif q k l)) transposes_S8x4x128x8192_S8x8192x4x128_0_3_1_2
/-- The normalised rows. -/
def out (o : FVec Ideal S8x8192x4x128 .f32) (w : FVec Ideal S1x128 .f32) : FVec Ideal S8x8192x512 .bf16 :=
  truncf .bf16 (shapeCast _ (mulf (mulf (mulf o (broadcastInDim S8x8192x4x128 ![0, 1, 2, 3] bcast_S8x8192x4x1_S8x8192x4x128_0_1_2_3 (Host.rsqrt (addf (Host.divf (broadcastInDim S8x8192x4x1 ![0, 1, 2] bcast_S8x8192x4_S8x8192x4x1_0_1_2 (Host.reduceAdd (mulf o o) (constant S_ .f32 0x00000000#32) reducesTo_S8x8192x4x128_S8x8192x4_d3 h_S_)) (broadcastInDim S8x8192x4x1 ![] bcast_S_S8x8192x4x1 (constant S_ .f32 0x43000000#32))) (broadcastInDim S8x8192x4x1 ![] bcast_S_S8x8192x4x1 (constant S_ .f32 0x358637BD#32)))))) (broadcastInDim S8x8192x4x128 ![0, 1, 2, 3] bcast_S1x1x1x128_S8x8192x4x128_0_1_2_3 (broadcastInDim S1x1x1x128 ![3] bcast_S128_S1x1x1x128_3 (shapeCast S128 w shapeCasts_S1x128_S128)))) (broadcastInDim S8x8192x4x128 ![] bcast_S_S8x8192x4x128 (constant S_ .f32 0x3F4CCCCD#32))) shapeCasts_S8x8192x4x128_S8x8192x512) bitsLt_bf16_f32

variable (m : (ℓ : Loc nD τ sig) → Buf (Elt Ideal) ℓ) (c : Dev nD)

end Cert.AttnRefIdeal.Hand

end
-- ==== Proof.AttnRef.ResEq.lean ====
/- The reference's result as its named stages. -/
module

public import proofs.«01_k».proof.Proof.AttnRef.Stages

@[expose] public section

set_option maxRecDepth 16384

noncomputable section

namespace Cert.AttnRefIdeal.Hand

open Cert.AttnRefIdeal Cert.AttnRefIdeal.Gen
open Idealize.ShloMosaic Idealize.ShloMosaic.TcCoe

variable (m : (ℓ : Loc nD τ sig) → Buf (Elt Ideal) ℓ) (c : Dev nD)

/-- The reference's result is the last stage. -/
theorem res_eq : Value.res_main_v69 m c =
    out (ov (m ((c.tc : Thread nD τ).loc main_arg0)) (m ((c.tc : Thread nD τ).loc main_arg1)) (m ((c.tc : Thread nD τ).loc main_arg2))
      (lam (m ((c.tc : Thread nD τ).loc main_arg3)) (m ((c.tc : Thread nD τ).loc main_arg4)) (m ((c.tc : Thread nD τ).loc main_arg5)) (m ((c.tc : Thread nD τ).loc main_arg6))))
      (m ((c.tc : Thread nD τ).loc main_arg7)) := by
  unfold Value.res_main_v69
  rfl

end Cert.AttnRefIdeal.Hand

end
-- ==== Proof.AttnRef.Reads.lean ====
/- The stages of the reference attention read at an index. -/
module

public import proofs.«01_k».proof.Proof.AttnRef.Stages
public import proofs.«01_k».proof.Proof.Math.Score
public import Idealize.ShloMosaic.Lib.Pointwise
public import Idealize.ShloMosaic.Lib.Routing.Words
public import Idealize.ShloMosaic.Lib.WordCmp

@[expose] public section

set_option maxRecDepth 16384

noncomputable section

namespace Cert.AttnRefIdeal.Hand

open Cert.AttnRefIdeal Cert.AttnRefIdeal.Gen Cert.Attn.Math
open Idealize.ShloMosaic Idealize.ShloMosaic.TcCoe Idealize.ShloMosaic.WordCmp

variable (q k v : FVec Ideal S8x8320x512 .bf16) (l : FVec Ideal S_ .f32)

/-- The chunk's length. -/
theorem id_const : (id (constantI S_ 32 64#32) : IVec S_ 32) ix0 = 64#32 := rfl

/-- The chunk of a frame. -/
theorem qch_at (t : Fin 8192) : qch (ix1 t) = BitVec.ofNat 32 (t / 64) := by
  pointwise [qch, id_const]
  have h := t.2
  have hd : IntOp.divsi ArithUnit.host (BitVec.ofNat 32 t) 64#32 = BitVec.ofNat 32 (t / 64) := by
    have := Idealize.ShloMosaic.Routing.divsi_word ArithUnit.host (a := t.val) (b := 64) (by omega) (by omega) (by omega)
    exact this
  rw [hd]
  have hc : IntOp.andi
      (IntOp.cmpi CmpIPredicate.ne (if BitVec.ofNat 32 t.val = 0 then (0 : BitVec 32) else if (BitVec.ofNat 32 t.val).msb = true then -1 else 1)
        (if (64#32 : BitVec 32) = 0 then (0 : BitVec 32) else if (64#32 : BitVec 32).msb = true then -1 else 1))
      (IntOp.cmpi CmpIPredicate.ne (IntOp.remsi ArithUnit.host (BitVec.ofNat 32 t.val) 64#32) 0#32) = 0#1 := by
    by_cases h0 : t.val = 0
    · rw [h0]; decide
    · have e1 : BitVec.ofNat 32 t.val ≠ 0 := fun e => h0 (by
        have := congrArg BitVec.toNat e
        rw [BitVec.toNat_ofNat, Nat.mod_eq_of_lt (by omega)] at this
        exact this)
      have e2 : (BitVec.ofNat 32 t.val).msb = false := by
        rw [BitVec.msb_eq_false_iff_two_mul_lt, BitVec.toNat_ofNat, Nat.mod_eq_of_lt (by omega)]; omega
      rw [if_neg e1, e2]
      generalize IntOp.remsi ArithUnit.host (BitVec.ofNat 32 t.val) 64#32 = y
      have : IntOp.cmpi CmpIPredicate.ne (if false = true then (-1 : BitVec 32) else 1)
        (if (64#32 : BitVec 32) = 0 then (0 : BitVec 32) else if (64#32 : BitVec 32).msb = true then -1 else 1) = 0#1 := by decide
      rw [this]
      generalize IntOp.cmpi CmpIPredicate.ne y 0#32 = z
      revert z; decide
  exact (congrArg (fun z => Scalar.select z _ _) hc).trans rfl

/-- Frame `t` sees key `j` where the comparison of their chunks says so. -/
theorem vis_at (t : Fin 8192) (j : Fin 8208) : vis (ix2 t j) = if seen t j then 1 else 0 := by
  have e : vis (ix2 t j) = IntOp.cmpi .sle (if h : j.val < 8192 then qch (ix1 ⟨j, h⟩) else 4294967295#32) (qch (ix1 t)) := by
    pointwise [vis, kch]
  rw [e]
  have ht := t.2
  by_cases h : j.val < 8192
  · rw [dif_pos h, qch_at, qch_at, cmpi_sle_ofNat (by omega) (by omega)]
    by_cases hs : j.val / 64 ≤ t.val / 64
    · rw [if_pos (Or.inr hs), decide_eq_true hs]; rfl
    · rw [if_neg (by omega), decide_eq_false hs]; rfl
  · rw [dif_neg h, qch_at, if_pos (Or.inl (by omega)), cmpi_sle_eq, toInt_ofNat_of_lt (w := 32) (a := t.val / 64) (by omega)]
    have : (4294967295#32 : BitVec 32).toInt ≤ ((t.val / 64 : ℕ) : ℤ) := by
      have : (4294967295#32 : BitVec 32).toInt = -1 := by decide
      omega
    rw [decide_eq_true this]; rfl

/-- A score: the product of a query's half head with a key's. -/
theorem sc_at (b : Fin 8) (h : Fin 4) (x : Fin 2) (t : Fin 8192) (j : Fin 8208) : sc q k (ix5 b h x t j) =
    ∑ d : Fin 64, q (ix3 b ⟨t, by omega⟩ ⟨h * 128 + x * 64 + d, by omega⟩) * k (ix3 b ⟨j, by omega⟩ ⟨h * 128 + x * 64 + d, by omega⟩) := by
  pointwise [sc]

/-- The value of a masked score. -/
theorem id_bot : (id (constant (F := Ideal) S_ FTy.f32 4286578688#32) : FVec Ideal S_ .f32) ix0 = (⊥ : EReal) := ofBits_bot

/-- A masked score. -/
theorem msk_at (b : Fin 8) (h : Fin 4) (x : Fin 2) (t : Fin 8192) (j : Fin 8208) : msk q k (ix5 b h x t j) = score q k b h x t j := by
  have e : msk q k (ix5 b h x t j) = Scalar.select (vis (ix2 t j)) (sc q k (ix5 b h x t j)) (⊥ : EReal) := by
    pointwise [msk, id_bot]
  rw [e, vis_at, sc_at, score, dif_pos j.2]
  by_cases hs : seen t j
  · rw [if_pos hs, if_pos hs]; rfl
  · rw [if_neg hs, if_neg hs]; rfl

/-- A maximum over the keys. -/
theorem red_at (x : FVec Ideal S8x4x2x8192x8208 .f32) (b : Fin 8) (h : Fin 4) (y : Fin 2) (t : Fin 8192) :
    Host.reduce FloatOps.maximumf x (constant S_ .f32 0xFF800000#32) reducesTo_S8x4x2x8192x8208_S8x4x2x8192_d4 h_S_ (ix4 b h y t)
      = (Finset.univ : Finset (Fin 8208)).sup fun j => (x (ix5 b h y t j) : EReal) := by
  have hr : S8x4x2x8192x8208.Reduces [4] S8x4x2x8192 := by decide
  have e0 := Host.reduce_eq_fold_single (a := 4) (max : EReal → EReal → EReal) x (constant (F := Ideal) S_ .f32 0xFF800000#32) reducesTo_S8x4x2x8192x8208_S8x4x2x8192_d4 hr h_S_ (ix4 b h y t)
  refine Eq.trans ?_ (e0.trans ?_)
  · rfl
  have e : (constant (F := Ideal) S_ FTy.f32 (4286578688#32) (Shape.Idx.first h_S_) : EReal) = ⊥ := ofBits_bot
  rw [e]
  have e2 : (x ∘ hr.lift (ix4 b h y t)) = fun j : Fin 8208 => x (ix5 b h y t j) := by
    funext j
    refine congrArg x ?_
    funext a
    fin_cases a <;> rfl
  rw [e2]
  rfl

/-- Dropping a unit axis keeps the entries. -/
theorem cast_at (x : FVec Ideal S8x4x1x8192x8208 .f32) (b : Fin 8) (h : Fin 4) (t : Fin 8192) (j : Fin 8208) :
    shapeCast _ x shapeCasts_S8x4x1x8192x8208_S8x4x8192x8208 (ix4 b h t j) = x (ix5 b h 0 t j) := by
  pointwise []

/-- A maximum of arrays at an index. -/
theorem maximumf_at {s : Shape} (x y : FVec Ideal s .f32) (i : s.Idx) : maximumf x y i = (max (x i) (y i) : EReal) := rfl
/-- A difference of arrays at an index. -/
theorem subf_at {s : Shape} (x y : FVec Ideal s .f32) (i : s.Idx) : subf x y i = ((x i : EReal) - (y i : EReal) : EReal) := rfl
/-- A product of arrays at an index. -/
theorem mulf_at {s : Shape} (x y : FVec Ideal s .f32) (i : s.Idx) : mulf x y i = ((x i : EReal) * (y i : EReal) : EReal) := rfl

/-- The largest score of a row. -/
theorem mx_at (b : Fin 8) (h : Fin 4) (x : Fin 2) (t : Fin 8192) : mx q k (ix4 b h x t) = top q k b h x t := by
  have e : (broadcastInDim S8x4x2x8192 ![] bcast_S_S8x4x2x8192 (constant (F := Ideal) S_ .f32 0xFF800000#32) (ix4 b h x t) : EReal) = ⊥ := by
    pointwise [ofBits_bot]
  unfold mx
  rw [maximumf_at, e, red_at, top, max_bot_left]
  simp only [msk_at]
  apply le_antisymm
  · exact Finset.sup_le fun j _ => Finset.le_sup (f := score q k b h x t) (Finset.mem_range.2 j.2)
  · exact Finset.sup_le fun j hj => Finset.le_sup (f := fun j : Fin 8208 => score q k b h x t j) (Finset.mem_univ ⟨j, Finset.mem_range.1 hj⟩)

/-- A score's weight. -/
theorem ex_at (b : Fin 8) (h : Fin 4) (x : Fin 2) (t : Fin 8192) (j : Fin 8208) : ex q k (ix5 b h x t j) = (wt q k b h x t j : EReal) := by
  have e : ex q k (ix5 b h x t j) = Ideal.exp (msk q k (ix5 b h x t j) - mx q k (ix4 b h x t)) := by
    pointwise [ex]
  rw [e, msk_at, mx_at, wt]
  exact exp_sub (Finset.le_sup (f := score q k b h x t) (Finset.mem_range.2 j.2))

/-- A score's weight over the row's sum. -/
theorem pr_at (b : Fin 8) (h : Fin 4) (x : Fin 2) (t : Fin 8192) (j : Fin 8208) : pr q k (ix5 b h x t j) =
    Ideal.div (wt q k b h x t j : EReal) ((∑ j ∈ Finset.range 8208, wt q k b h x t j : ℝ) : EReal) := by
  have e : pr q k (ix5 b h x t j) = Ideal.div (ex q k (ix5 b h x t j)) (∑ i, ex q k (ix5 b h x t i)) := by
    pointwise [pr]
  rw [e]
  simp only [ex_at]
  rw [sum_coe, Finset.sum_range]

/-- The lambda of the four vectors. -/
theorem lam_at (a b a' b' : FVec Ideal S1x64 .f32) : lam a b a' b' ix0 =
    lamE (fun x => a (ix2 0 x)) (fun x => b (ix2 0 x)) (fun x => a' (ix2 0 x)) (fun x => b' (ix2 0 x)) (Ideal.ofBits .f32 0x3E4CCCCD#32) := by
  pointwise [lam, lamE]

/-- The first softmax's half. -/
theorem slice0_at (x : FVec Ideal S8x4x2x8192x8208 .f32) (b : Fin 8) (h : Fin 4) (t : Fin 8192) (j : Fin 8208) :
    extractStridedSlice S8x4x1x8192x8208 ![0, 0, 0, 0, 0] x slices_S8x4x2x8192x8208_S8x4x1x8192x8208_0_0_0_0_0 (ix5 b h 0 t j) = x (ix5 b h 0 t j) := by
  pointwise []
/-- The second softmax's half. -/
theorem slice1_at (x : FVec Ideal S8x4x2x8192x8208 .f32) (b : Fin 8) (h : Fin 4) (t : Fin 8192) (j : Fin 8208) :
    extractStridedSlice S8x4x1x8192x8208 ![0, 0, 1, 0, 0] x slices_S8x4x2x8192x8208_S8x4x1x8192x8208_0_0_1_0_0 (ix5 b h 0 t j) = x (ix5 b h 1 t j) := by
  pointwise []

/-- The difference of the two softmaxes. -/
theorem dif_at (b : Fin 8) (h : Fin 4) (t : Fin 8192) (j : Fin 8208) : dif q k l (ix4 b h t j) =
    pr q k (ix5 b h 0 t j) - l ix0 * pr q k (ix5 b h 1 t j) := by
  unfold dif
  rw [subf_at, mulf_at, cast_at, cast_at, slice0_at, slice1_at]
  have e' : broadcastInDim S8x4x8192x8208 ![] bcast_S_S8x4x8192x8208 l (ix4 b h t j) = l ix0 := by pointwise []
  rw [e']

/-- The difference's average of the values. -/
theorem ov_at (b : Fin 8) (t : Fin 8192) (h : Fin 4) (e : Fin 128) (r : ℝ) (hl : l ix0 = (r : EReal))
    (hv : ∀ (j : Fin 8208) (c : Fin 512), ∃ y : ℝ, v (ix3 b ⟨j, by omega⟩ c) = (y : EReal)) :
    ov q k v l (ix4 b t h e) = dr q k v r b h t e := by
  have e1 : ov q k v l (ix4 b t h e) = ∑ x : Fin 8208, v (ix3 b ⟨x, by omega⟩ ⟨h * 128 + e, by omega⟩) * dif q k l (ix4 b h t x) := by
    pointwise [ov]
  rw [e1, dr, Finset.sum_range]
  refine Finset.sum_congr rfl fun j _ => ?_
  obtain ⟨y, hy⟩ := hv j ⟨h * 128 + e, by omega⟩
  rw [dif_at, pr_at, pr_at, hl, val, dif_pos j.2, hy, EReal.toReal_coe]

/-- The reference's result at an index. -/
theorem out_at (o : FVec Ideal S8x8192x4x128 .f32) (w : FVec Ideal S1x128 .f32) (b : Fin 8) (t : Fin 8192) (c : Fin 512) :
    out o w (ix3 b t c) = norm (Ideal.ofBits .f32 0x43000000#32) (Ideal.ofBits .f32 0x358637BD#32) (Ideal.ofBits .f32 0x3F4CCCCD#32)
      (fun e => w (ix2 0 e)) (fun e => o (ix4 b t ⟨c / 128, by omega⟩ e)) ⟨c % 128, by omega⟩ := by
  pointwise [out]
  rfl

end Cert.AttnRefIdeal.Hand

end
-- ==== Proof.Pre.Finite.lean ====
/- What the precondition says of the arguments: the visible values and the four lambda vectors are real numbers. -/
module

public import proofs.«01_k».proof.Defs
public import Idealize.ShloMosaic.Lib.Pointwise
public import Idealize.ShloMosaic.Lib.ReduceAll
public import Idealize.ShloMosaic.Lib.KernelVsHost
public import proofs.«01_k».proof.Proof.Math.Score

@[expose] public section

set_option maxRecDepth 16384

noncomputable section

namespace Cert.Pre_finite_values.Hand

open Cert.Pre_finite_values Cert.Attn.Math
open Idealize.ShloMosaic Idealize.ShloMosaic.TcCoe

/-- The precondition's shape conditions. -/
theorem facts : Cert.Pre_finite_values.Facts where
  slices_S8x8320x512_S8x8208x512_0_0_0 := by decide
  bitsLt_bf16_f32 := by decide
  bcast_S_S8x8208x512 := by decide
  reducesTo_S8x8208x512_S_d0_1_2 := by decide
  h_S_ := by decide
  bcast_S_S1x64 := by decide
  reducesTo_S1x64_S_d0_1 := by decide

attribute [local instance] facts

/-- A conjunction of two truth bits is true only when both are. -/
theorem and_one : ∀ a b : BitVec 1, IntOp.andi a b = 1#1 → a = 1#1 ∧ b = 1#1 := by decide

/-- A number whose absolute value is below plus infinity is real. -/
theorem real_of_abs_lt (x : EReal) (h : Ideal.cmp .olt (max x (-x)) (Ideal.ofBits .f32 0x7F800000#32) = 1#1) : ∃ y : ℝ, x = (y : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable (q k v : FVec Ideal S8x8320x512 .bf16) (a b a' b' : FVec Ideal S1x64 .f32) (w : FVec Ideal S1x128 .f32)

/-- The precondition read back: every visible value and every element of the lambda vectors is real. -/
theorem reals (h : fn (F := Ideal) q k v a b a' b' w = fun _ => 1#1) :
    (∀ (n : Fin 8) (j : Fin 8208) (x : Fin 512), ∃ y : ℝ, v (ix3 n ⟨j, by omega⟩ x) = (y : EReal))
    ∧ (∀ x : Fin 64, ∃ y : ℝ, a (ix2 0 x) = (y : EReal)) ∧ (∀ x : Fin 64, ∃ y : ℝ, b (ix2 0 x) = (y : EReal))
    ∧ (∀ x : Fin 64, ∃ y : ℝ, a' (ix2 0 x) = (y : EReal)) ∧ (∀ x : Fin 64, ∃ y : ℝ, b' (ix2 0 x) = (y : EReal)) := by
  have : Subsingleton S_.Idx := ⟨fun i j => funext fun a => a.elim0⟩
  have h0 := congrFun h ix0
  obtain ⟨h1, e4⟩ := and_one _ _ h0
  obtain ⟨h2, e3⟩ := and_one _ _ h1
  obtain ⟨h3, e2⟩ := and_one _ _ h2
  obtain ⟨ev, e1⟩ := and_one _ _ h3
  refine ⟨fun n j x => ?_, fun x => ?_, fun x => ?_, fun x => ?_, fun x => ?_⟩
  · have e := Host.reduce_andi_all _ _ _ _ _ ev (ix3 n j x)
    refine real_of_abs_lt _ (Eq.trans ?_ e)
    pointwise
    rfl
  · exact real_of_abs_lt _ (Host.reduce_andi_all _ _ _ _ _ e1 (ix2 0 x))
  · exact real_of_abs_lt _ (Host.reduce_andi_all _ _ _ _ _ e2 (ix2 0 x))
  · exact real_of_abs_lt _ (Host.reduce_andi_all _ _ _ _ _ e3 (ix2 0 x))
  · exact real_of_abs_lt _ (Host.reduce_andi_all _ _ _ _ _ e4 (ix2 0 x))

/-- The lambda of real vectors is real. -/
theorem lamE_real (f g f' g' : Fin 64 → EReal) (hf : ∀ x, ∃ y : ℝ, f x = (y : EReal)) (hg : ∀ x, ∃ y : ℝ, g x = (y : EReal))
    (hf' : ∀ x, ∃ y : ℝ, f' x = (y : EReal)) (hg' : ∀ x, ∃ y : ℝ, g' x = (y : EReal)) :
    ∃ r : ℝ, lamE f g f' g' (Ideal.ofBits .f32 0x3E4CCCCD#32) = (r : EReal) := by
  choose F hF using hf
  choose G hG using hg
  choose F' hF' using hf'
  choose G' hG' using hg'
  obtain ⟨z, hz⟩ := ofBits_real 0x3E4CCCCD#32 (by decide)
  have e1 : ∑ x, f x * g x = ((∑ x, F x * G x : ℝ) : EReal) := by
    rw [← sum_coe]; exact Finset.sum_congr rfl fun x _ => by rw [hF, hG, EReal.coe_mul]
  have e2 : ∑ x, f' x * g' x = ((∑ x, F' x * G' x : ℝ) : EReal) := by
    rw [← sum_coe]; exact Finset.sum_congr rfl fun x _ => by rw [hF', hG', EReal.coe_mul]
  refine ⟨Real.exp (∑ x, F x * G x) - Real.exp (∑ x, F' x * G' x) + z, ?_⟩
  unfold lamE
  rw [e1, e2, hz, Ideal.exp_coe, Ideal.exp_coe, EReal.coe_add, EReal.coe_sub]

end Cert.Pre_finite_values.Hand
-- ==== Proof.AttnRef.Join.lean ====
/- The kernel's result and the reference's are the same array of extended reals. -/
module

public import proofs.«01_k».proof.Proof.AttnIdeal.Value
public import proofs.«01_k».proof.Proof.AttnRef.ResEq
public import proofs.«01_k».proof.Proof.AttnRef.Reads
public import proofs.«01_k».proof.Proof.Pre.Finite

@[expose] public section

set_option maxRecDepth 16384

noncomputable section

namespace Cert.AttnIdeal.Hand

open Cert.AttnIdeal.Gen Cert.Attn.Math
open Idealize.ShloMosaic Idealize.ShloMosaic.TcCoe Idealize.SL.Sem

/-- The reference's closed form at the kernel's arguments is the kernel's closed form. -/
theorem ref_eq (m : (ℓ : Loc nD τ sig) → Buf (Elt Ideal) ℓ) (c : Dev nD) (r : ℝ) (hr : lamM m c = (r : EReal))
    (hV : ∀ (b : Fin 8) (j : Fin 8208) (x : Fin 512), ∃ y : ℝ, m ((c.tc : Thread nD τ).loc main_arg2) (ix3 b ⟨j, key_lt j⟩ x) = (y : EReal)) :
    Cert.AttnRefIdeal.Hand.out
      (Cert.AttnRefIdeal.Hand.ov (m ((c.tc : Thread nD τ).loc main_arg0)) (m ((c.tc : Thread nD τ).loc main_arg1)) (m ((c.tc : Thread nD τ).loc main_arg2))
        (Cert.AttnRefIdeal.Hand.lam (m ((c.tc : Thread nD τ).loc main_arg3)) (m ((c.tc : Thread nD τ).loc main_arg4))
          (m ((c.tc : Thread nD τ).loc main_arg5)) (m ((c.tc : Thread nD τ).loc main_arg6))))
      (m ((c.tc : Thread nD τ).loc main_arg7)) = res m c r := by
  funext y
  obtain ⟨b, t, x, rfl⟩ : ∃ (b : Fin 8) (t : Fin 8192) (x : Fin 512), y = ix3 b t x :=
    ⟨y 0, y 1, y 2, by funext a; fin_cases a <;> rfl⟩
  rw [Cert.AttnRefIdeal.Hand.out_at]
  have e1 : ∀ e : Fin 128, Cert.AttnRefIdeal.Hand.ov (m ((c.tc : Thread nD τ).loc main_arg0)) (m ((c.tc : Thread nD τ).loc main_arg1)) (m ((c.tc : Thread nD τ).loc main_arg2))
        (Cert.AttnRefIdeal.Hand.lam (m ((c.tc : Thread nD τ).loc main_arg3)) (m ((c.tc : Thread nD τ).loc main_arg4))
          (m ((c.tc : Thread nD τ).loc main_arg5)) (m ((c.tc : Thread nD τ).loc main_arg6))) (ix4 b t ⟨x / 128, by omega⟩ e)
      = dr (m ((c.tc : Thread nD τ).loc main_arg0)) (m ((c.tc : Thread nD τ).loc main_arg1)) (m ((c.tc : Thread nD τ).loc main_arg2)) r b ⟨x / 128, by omega⟩ t e :=
    fun e => Cert.AttnRefIdeal.Hand.ov_at _ _ _ _ b t _ e r ((Cert.AttnRefIdeal.Hand.lam_at _ _ _ _).trans hr) (hV b)
  rw [funext e1]
  exact (norm_dk_dr _ _ _ r b _ t _ _ _).symm

end Cert.AttnIdeal.Hand
-- ==== Proof.MoeIdeal.Point.lean ====
/- One grid point of the experts' call: the block of rows the body leaves in the output window. -/
module

public import proofs.«01_k».proof.Proof.Gen.MoeIdeal.Skeleton
public import Idealize.ShloMosaic.Lib.VecWindow
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MoeIdeal.Hand

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A block is used or unused: the body's two conditions exclude each other and one holds. -/
theorem cond2_iff (i : grid0.Coords) (n : BitVec 32) : k0_cond2 i n = 1#1 ↔ ¬ k0_cond1 i n = 1#1 := by
  unfold k0_cond1 k0_cond2
  generalize BitVec.ofNat 32 (i 0).val = a
  simp only [Scalar.cmpi, Scalar.extui, IntOp.cmpi, BitVec.sle, BitVec.slt]
  by_cases h : a.toInt < n.toInt
  · have h' : ¬ n.toInt ≤ a.toInt := by omega
    simp [h, h']
  · have h' : n.toInt ≤ a.toInt := by omega
    simp [h, h']

/-- The block of rows the body writes: the expert's two products and its gate at a used block, zeros at an unused one. -/
def outBlk (i : grid0.Coords) (x : Vec F S256x1024 .bf16) (wgu : Vec F S1x1024x2048 .bf16) (bgu : Vec F S1x1x2048 .f32)
    (wdn : Vec F S1x1024x1024 .bf16) (bdn : Vec F S1x1x1024 .f32) (n : BitVec 32) : Vec F S256x1024 .f32 :=
  if k0_cond1 i n = 1#1 then k0_pay1 x wgu bgu wdn bdn else k0_pay2

variable (c : Dev nD) (i : grid0.Coords)
  (arg1 : Memref sig .tc .smem S1056 .i32) (harg1 : arg1.IsWhole)
  (arg2 : Memref sig .tc .smem S1 .i32) (harg2 : arg2.IsWhole)
  (arg3 : Memref sig .tc .vmem S256x1024 .bf16) (harg3 : arg3.IsWhole)
  (arg4 : Memref sig .tc .vmem S1x1024x2048 .bf16) (harg4 : arg4.IsWhole)
  (arg5 : Memref sig .tc .vmem S1x1x2048 .f32) (harg5 : arg5.IsWhole)
  (arg6 : Memref sig .tc .vmem S1x1024x1024 .bf16) (harg6 : arg6.IsWhole)
  (arg7 : Memref sig .tc .vmem S1x1x1024 .f32) (harg7 : arg7.IsWhole)
  (arg8 : Memref sig .tc .vmem S256x1024 .f32) (harg8 : arg8.IsWhole)

set_option maxHeartbeats 1000000 in
/-- The body at a grid point: from the windows' blocks and the number of used blocks, whatever the output block holds,
    it leaves `outBlk` in the output block and everything it reads as it was. -/
theorem sound_kernel (q2 : PosShare TreeShare) (f2 : Buf (Elt F) (arg2.view.loc (c : Thread nD τ))) (n : BitVec 32)
    (hT : arg2.view.readAt (Elt F) (Rect.unit (s := S1) ![0] S1.size inb_S1_S1_0).toLoadRect f2 = fun _ => n)
    (x3 : Vec F S256x1024 .bf16) (x4 : Vec F S1x1024x2048 .bf16) (x5 : Vec F S1x1x2048 .f32)
    (x6 : Vec F S1x1024x1024 .bf16) (x7 : Vec F S1x1x1024 .f32) (K : PUnit → sProp 𝕄) :
    iprop((arg2.view.loc (c : Thread nD τ) ↦[arg2.view.set]{q2} f2)
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg8 fullShare d)
        ∗ (iprop((arg2.view.loc (c : Thread nD τ) ↦[arg2.view.set]{q2} f2)
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare (outBlk i x3 x4 x5 x6 x7 n)) -∗ K ⟨⟩))
      ⊢ wp frame (wpE (defs₀ (F := F)) Variants.none (c : Thread nD τ) none) Set.univ (cc0_moe i arg1 harg1 arg2 harg2 arg3 harg3 arg4 harg4 arg5 harg5 arg6 harg6 arg7 harg7 arg8 harg8) K := by
  simp only [cc0_moe_eq_skeleton]; unfold cc0_moe_skel
  unfold owns
  iintro ⟨H2, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf3 hf4 hf5 hf6 hf7
  by_cases hc : k0_cond1 i n = 1#1
  · have hc2 : ¬ k0_cond2 i n = 1#1 := fun h => (cond2_iff i n).1 h hc
    sl_exec
    sl_step
    iapply Hk
    isplitl [H2]; · iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    iexists _; isplitr
    rotate_left
    · iexact H8
    ipureintro
    refine (View.read_writes_full ..).trans ?_
    rw [outBlk, if_pos hc]
    have e3 := View.readAt_full arg3.view f3 inb_S256x1024_S256x1024_0_0
    have e4 := View.readAt_full arg4.view f4 inb_S1x1024x2048_S1x1024x2048_0_0_0
    have e5 := View.readAt_full arg5.view f5 inb_S1x1x2048_S1x1x2048_0_0_0
    have e6 := View.readAt_full arg6.view f6 inb_S1x1024x1024_S1x1024x1024_0_0_0
    have e7 := View.readAt_full arg7.view f7 inb_S1x1x1024_S1x1x1024_0_0_0
    rw [e3, e4, e5, e6, e7]
  · have hc2 : k0_cond2 i n = 1#1 := (cond2_iff i n).2 hc
    sl_exec
    sl_step
    iapply Hk
    isplitl [H2]; · iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    iexists _; isplitr
    rotate_left
    · iexact H8
    ipureintro
    refine (View.read_writes_full ..).trans ?_
    rw [outBlk, if_neg hc]

end Cert.MoeIdeal.Hand
-- ==== Proof.MoeIdeal.Frame.lean ====
/- The frame of the experts' call: what every window holds at every grid point, and the run of the whole call. -/
module

public import proofs.«01_k».proof.Proof.Gen.MoeIdeal.Launch
public import proofs.«01_k».proof.Proof.Gen.MoeIdeal.Skeleton
public import proofs.«01_k».proof.Proof.MoeIdeal.Point
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.MoeIdeal.Hand

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables -/

/-- The tables' contents: the expert of each block, and the number of used blocks, as the arguments give them. -/
def tbl : pre0.Contents (Elt F) := fun k => m (((0 : Dev nD) : Thread nD τ).loc (pre0.ref k))

/-- A grid point as an index of the table. -/
def at1056 (i : grid0.Coords) : S1056.Idx := fun a => ⟨(i 0).val, by fin_cases a; exact (i 0).isLt⟩

/-- The one index of the table of one entry. -/
def at1 : S1.Idx := fun a => ⟨0, by fin_cases a; exact Nat.one_pos⟩

/-- The table entry at a grid point: its block's expert. -/
def expert (i : grid0.Coords) : BitVec 32 := m (((0 : Dev nD) : Thread nD τ).loc main_arg0) (at1056 i)
/-- The number of used blocks. -/
def used : BitVec 32 := m (((0 : Dev nD) : Thread nD τ).loc main_arg1) at1

/-- The word an index map reads from the table. -/
theorem expert_at (i : grid0.Coords) :
    (tbl m).at 0 (Rect.unit (s := S1056) (k0_off1 i) S1.size (k0_off1_inb i)) numel1_S1 = expert m i := by
  have e : k0_off1 i 0 = (i 0).val := by
    have hi : (i 0).val < 1056 := (i 0).isLt
    show (BitVec.ofNat 32 (i 0).val).toNat = (i 0).val
    simp only [BitVec.toNat_ofNat]; omega
  unfold Pipeline.Prefetch.Contents.at expert
  refine congrArg (m (((0 : Dev nD) : Thread nD τ).loc main_arg0)) (funext fun a => Fin.ext ?_)
  fin_cases a
  show k0_off1 i 0 + 1 * 0 = (i 0).val
  omega

/-- The word the body loads from the table of one entry. -/
theorem used_read :
    (Memref.whole main_arg1).view.readAt (Elt F) (Rect.unit (s := S1) ![0] S1.size inb_S1_S1_0).toLoadRect (tbl m 1)
      = fun _ => used m := by
  funext x
  refine congrArg (m (((0 : Dev nD) : Thread nD τ).loc main_arg1)) (funext fun a => Fin.ext ?_)
  fin_cases a
  have hx : (x 0).val = 0 := by have := (x 0).isLt; simpa using this
  show 0 + 1 * (x 0).val = 0
  omega

/-- Every block's expert is one of the 32. -/
abbrev Ok : Prop := ∀ i : grid0.Coords, (expert m i).toNat < 32

variable {m} in
/-- Then every block of the weights the windows ask for is inside its array. -/
theorem ok_tbl (hok : Ok m) : ok0 (tbl m) := by
  unfold ok0
  refine ⟨fun i => ?_, fun i => ?_, fun i => ?_, fun i => ?_⟩
  · have e : cc0_transform_1 k0_off1_inb numel1_S1 (tbl m) i = ![(expert m i).toNat, 0, 0] := by
      unfold cc0_transform_1
      exact congrArg (fun v : BitVec 32 => (![v.toNat, 0, 0] : Fin 3 → ℕ)) (expert_at m i)
    refine ⟨fun a => ?_, .inr (Affine.block_words_dvd (of_decide_eq_true rfl) (by decide))⟩
    rw [e]
    have hi := hok i
    fin_cases a
    · show ((expert m i).toNat + 1) * 1 ≤ 32
      omega
    · show (0 + 1) * 1024 ≤ 1024
      omega
    · show (0 + 1) * 2048 ≤ 2048
      omega
  · have e : cc0_transform_2 k0_off1_inb numel1_S1 (tbl m) i = ![(expert m i).toNat, 0, 0] := by
      unfold cc0_transform_2
      exact congrArg (fun v : BitVec 32 => (![v.toNat, 0, 0] : Fin 3 → ℕ)) (expert_at m i)
    refine ⟨fun a => ?_, .inl rfl⟩
    rw [e]
    have hi := hok i
    fin_cases a
    · show ((expert m i).toNat + 1) * 1 ≤ 32
      omega
    · show (0 + 1) * 1 ≤ 1
      omega
    · show (0 + 1) * 2048 ≤ 2048
      omega
  · have e : cc0_transform_3 k0_off1_inb numel1_S1 (tbl m) i = ![(expert m i).toNat, 0, 0] := by
      unfold cc0_transform_3
      exact congrArg (fun v : BitVec 32 => (![v.toNat, 0, 0] : Fin 3 → ℕ)) (expert_at m i)
    refine ⟨fun a => ?_, .inr (Affine.block_words_dvd (of_decide_eq_true rfl) (by decide))⟩
    rw [e]
    have hi := hok i
    fin_cases a
    · show ((expert m i).toNat + 1) * 1 ≤ 32
      omega
    · show (0 + 1) * 1024 ≤ 1024
      omega
    · show (0 + 1) * 1024 ≤ 1024
      omega
  · have e : cc0_transform_4 k0_off1_inb numel1_S1 (tbl m) i = ![(expert m i).toNat, 0, 0] := by
      unfold cc0_transform_4
      exact congrArg (fun v : BitVec 32 => (![v.toNat, 0, 0] : Fin 3 → ℕ)) (expert_at m i)
    refine ⟨fun a => ?_, .inl rfl⟩
    rw [e]
    have hi := hok i
    fin_cases a
    · show ((expert m i).toNat + 1) * 1 ≤ 32
      omega
    · show (0 + 1) * 1 ≤ 1
      omega
    · show (0 + 1) * 1024 ≤ 1024
      omega

variable (hok : Ok m)

/-- The call's table contents, as the pipeline takes them. -/
abbrev adm : (p : Fin 1) → (pcfgs (F := F) p).Adm := fun _ => ⟨tbl m, ok_tbl hok⟩
/-- The call at those contents. -/
abbrev acfg : Cfg sig Λ₀ := Pipeline.pin (pcfgs (F := F)) (adm m hok) 0

/-! ## The arrays when the call is entered -/

/-- Core `c`'s buffers after the host operations before the call. -/
abbrev V (c : Dev nD) (b : Ref sig .tc) : Buf (Elt F) ((c : Thread nD τ).loc b) :=
  StableHlo.after (hostOps0 (F := F)) (fun b => m (c, b)) b

/-- The host operations allocate nothing. -/
theorem hostOps0_fresh : (hostOps0 : List (HloOp τ sig (Elt F))).Forall fun op => op.fresh = ∅ := by
  simp only [List.Forall]; repeat' constructor

set_option maxHeartbeats 800000 in
/-- The program is those host operations and the call. -/
theorem hmain : Pipeline.HMainP (Ix := Unit) (Name := ℕ) (U := UR sig nD τ) (Lvl := ℕ) (pcfgs (F := F)) 0 defs₀ Variants.none m (main (F := F)) (V m) :=
  Pipeline.hmainP_prefix (pcfgs (F := F)) 0 defs₀ Variants.none m main hostOps0 hostOps0_sub hostOps0_fresh main_chain

/-- The buffers the host operations write. -/
def hostOps0_W : List (Ref sig .tc) := [main_v0, main_v1, main_v2, main_v3]
/-- They write those buffers and no other. -/
theorem hostOps0_writes : (hostOps0 : List (HloOp τ sig (Elt F))).Forall fun op =>
    op.writes ⊆ (hostOps0_W.map (Proc.devRef (τ := τ) .tc)).toFinset := StableHlo.forall_writes_sub_of_map rfl
/-- No host operation writes `main_arg0`. -/
theorem V_main_arg0 (c : Dev nD) : V m c main_arg0 = m ((c : Thread nD τ).loc main_arg0) :=
  StableHlo.after_of_writes_sub hostOps0 _ hostOps0_writes (by decide)
/-- No host operation writes `main_arg1`. -/
theorem V_main_arg1 (c : Dev nD) : V m c main_arg1 = m ((c : Thread nD τ).loc main_arg1) :=
  StableHlo.after_of_writes_sub hostOps0 _ hostOps0_writes (by decide)
/-- No host operation writes `main_arg2`. -/
theorem V_main_arg2 (c : Dev nD) : V m c main_arg2 = m ((c : Thread nD τ).loc main_arg2) :=
  StableHlo.after_of_writes_sub hostOps0 _ hostOps0_writes (by decide)
/-- No host operation writes `main_arg3`. -/
theorem V_main_arg3 (c : Dev nD) : V m c main_arg3 = m ((c : Thread nD τ).loc main_arg3) :=
  StableHlo.after_of_writes_sub hostOps0 _ hostOps0_writes (by decide)
/-- No host operation writes `main_arg4`. -/
theorem V_main_arg4 (c : Dev nD) : V m c main_arg4 = m ((c : Thread nD τ).loc main_arg4) :=
  StableHlo.after_of_writes_sub hostOps0 _ hostOps0_writes (by decide)
/-- No host operation writes `main_arg5`. -/
theorem V_main_arg5 (c : Dev nD) : V m c main_arg5 = m ((c : Thread nD τ).loc main_arg5) :=
  StableHlo.after_of_writes_sub hostOps0 _ hostOps0_writes (by decide)
/-- No host operation writes `main_arg6`. -/
theorem V_main_arg6 (c : Dev nD) : V m c main_arg6 = m ((c : Thread nD τ).loc main_arg6) :=
  StableHlo.after_of_writes_sub hostOps0 _ hostOps0_writes (by decide)

/-- The tables when the call is entered. -/
theorem V_pre (c : Dev nD) : ∀ k, V m c (pre0.ref k) = tbl m k := fun k => by
  obtain rfl : c = 0 := Subsingleton.elim _ _
  match k with
  | 0 => exact V_main_arg0 m 0
  | 1 => exact V_main_arg1 m 0
  | ⟨_ + 2, h⟩ => exact absurd h (Nat.not_lt.2 (Nat.le_add_left _ _))

/-! ## The windows' blocks -/

/-- Window `w`'s block at point `t`, read off its array as the call finds it. -/
def iblk (c : Dev nD) (w : Fin (acfg m hok).W) (t : Fin (acfg m hok).N) :
    (((acfg m hok).win w).xblock ((acfg m hok).grid.coords t)).Idx → Elt F ((acfg m hok).win w).elt :=
  (((acfg m hok).win w).blk t).view.read (Elt F) (V m c (Pipeline.arrRef spec0 w))

/-- Window 0's buffer holds its block at every point. -/
theorem before0_0_of {c : Dev nD} (dat : Dat τ (Elt F) Unit ℕ (UR sig nD τ) ℕ (acfg m hok) c) (hA : dat.A 0 = V m c (Pipeline.arrRef spec0 0))
    (hafter : ∀ t, dat.after 0 t = iblk m hok c 0 t) (t : Fin (acfg m hok).N) (d) : dat.before 0 t d = iblk m hok c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1's buffer holds its block at every point. -/
theorem before0_1_of {c : Dev nD} (dat : Dat τ (Elt F) Unit ℕ (UR sig nD τ) ℕ (acfg m hok) c) (hA : dat.A 1 = V m c (Pipeline.arrRef spec0 1))
    (hafter : ∀ t, dat.after 1 t = iblk m hok c 1 t) (t : Fin (acfg m hok).N) (d) : dat.before 1 t d = iblk m hok c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's buffer holds its block at every point. -/
theorem before0_2_of {c : Dev nD} (dat : Dat τ (Elt F) Unit ℕ (UR sig nD τ) ℕ (acfg m hok) c) (hA : dat.A 2 = V m c (Pipeline.arrRef spec0 2))
    (hafter : ∀ t, dat.after 2 t = iblk m hok c 2 t) (t : Fin (acfg m hok).N) (d) : dat.before 2 t d = iblk m hok c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's buffer holds its block at every point. -/
theorem before0_3_of {c : Dev nD} (dat : Dat τ (Elt F) Unit ℕ (UR sig nD τ) ℕ (acfg m hok) c) (hA : dat.A 3 = V m c (Pipeline.arrRef spec0 3))
    (hafter : ∀ t, dat.after 3 t = iblk m hok c 3 t) (t : Fin (acfg m hok).N) (d) : dat.before 3 t d = iblk m hok c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4's buffer holds its block at every point. -/
theorem before0_4_of {c : Dev nD} (dat : Dat τ (Elt F) Unit ℕ (UR sig nD τ) ℕ (acfg m hok) c) (hA : dat.A 4 = V m c (Pipeline.arrRef spec0 4))
    (hafter : ∀ t, dat.after 4 t = iblk m hok c 4 t) (t : Fin (acfg m hok).N) (d) : dat.before 4 t d = iblk m hok c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- What the arrays start as, and what the body leaves in each window's buffer. -/
def dats (_ : Fin 1) (c : Dev nD) : Dat τ (Elt F) Unit ℕ (UR sig nD τ) ℕ (acfg m hok) c where
  A w := V m c (Pipeline.arrRef spec0 w)
  after w t := match w with
    | ⟨0, _⟩ => iblk m hok c 0 t
    | ⟨1, _⟩ => iblk m hok c 1 t
    | ⟨2, _⟩ => iblk m hok c 2 t
    | ⟨3, _⟩ => iblk m hok c 3 t
    | ⟨4, _⟩ => iblk m hok c 4 t
    | ⟨5, _⟩ => outBlk (grid0.coords t) (iblk m hok c 0 t) (iblk m hok c 1 t) (iblk m hok c 2 t) (iblk m hok c 3 t) (iblk m hok c 4 t) (used m)
    | ⟨_ + 6, h⟩ => absurd h (Nat.not_lt.2 (Nat.le_add_left _ _))
  Φ _ := iprop(Pipeline.ΦA spec0 c ∗ Pipeline.ΦT pre0 (tbl m) c)
  q _ := fullShare
  owed _ := 0

/-- The arrays start as the call finds them. -/
theorem A_eq (c : Dev nD) (w : Fin (acfg m hok).W) : (dats m hok 0 c).A w = V m c (Pipeline.arrRef spec0 w) := by
  dsimp only [dats]
/-- Window 0's buffer after the body. -/
theorem after0_0 (c : Dev nD) (t : Fin (acfg m hok).N) : (dats m hok 0 c).after 0 t = iblk m hok c 0 t := by dsimp only [dats]; rfl
/-- Window 1's buffer after the body. -/
theorem after0_1 (c : Dev nD) (t : Fin (acfg m hok).N) : (dats m hok 0 c).after 1 t = iblk m hok c 1 t := by dsimp only [dats]; rfl
/-- Window 2's buffer after the body. -/
theorem after0_2 (c : Dev nD) (t : Fin (acfg m hok).N) : (dats m hok 0 c).after 2 t = iblk m hok c 2 t := by dsimp only [dats]; rfl
/-- Window 3's buffer after the body. -/
theorem after0_3 (c : Dev nD) (t : Fin (acfg m hok).N) : (dats m hok 0 c).after 3 t = iblk m hok c 3 t := by dsimp only [dats]; rfl
/-- Window 4's buffer after the body. -/
theorem after0_4 (c : Dev nD) (t : Fin (acfg m hok).N) : (dats m hok 0 c).after 4 t = iblk m hok c 4 t := by dsimp only [dats]; rfl
/-- Window 5's buffer after the body. -/
theorem after0_5 (c : Dev nD) (t : Fin (acfg m hok).N) : (dats m hok 0 c).after 5 t = outBlk (grid0.coords t) (iblk m hok c 0 t) (iblk m hok c 1 t) (iblk m hok c 2 t) (iblk m hok c 3 t) (iblk m hok c 4 t) (used m) := by dsimp only [dats]; rfl
/-- Window 0's buffer when the body starts. -/
theorem before0_0 (c : Dev nD) (t : Fin (acfg m hok).N) (d) : (dats m hok 0 c).before 0 t d = iblk m hok c 0 t :=
  before0_0_of m hok (dats m hok 0 c) (A_eq m hok c 0) (after0_0 m hok c) t d
/-- Window 1's buffer when the body starts. -/
theorem before0_1 (c : Dev nD) (t : Fin (acfg m hok).N) (d) : (dats m hok 0 c).before 1 t d = iblk m hok c 1 t :=
  before0_1_of m hok (dats m hok 0 c) (A_eq m hok c 1) (after0_1 m hok c) t d
/-- Window 2's buffer when the body starts. -/
theorem before0_2 (c : Dev nD) (t : Fin (acfg m hok).N) (d) : (dats m hok 0 c).before 2 t d = iblk m hok c 2 t :=
  before0_2_of m hok (dats m hok 0 c) (A_eq m hok c 2) (after0_2 m hok c) t d
/-- Window 3's buffer when the body starts. -/
theorem before0_3 (c : Dev nD) (t : Fin (acfg m hok).N) (d) : (dats m hok 0 c).before 3 t d = iblk m hok c 3 t :=
  before0_3_of m hok (dats m hok 0 c) (A_eq m hok c 3) (after0_3 m hok c) t d
/-- Window 4's buffer when the body starts. -/
theorem before0_4 (c : Dev nD) (t : Fin (acfg m hok).N) (d) : (dats m hok 0 c).before 4 t d = iblk m hok c 4 t :=
  before0_4_of m hok (dats m hok 0 c) (A_eq m hok c 4) (after0_4 m hok c) t d

/-! ## The body at a grid point -/

/-- Window 0's buffer at point `t`. -/
abbrev st0_0 (t : Fin (acfg m hok).N) := ((acfg m hok).win 0).stage ((acfg m hok).slots t 0)
/-- Window 1's buffer at point `t`. -/
abbrev st0_1 (t : Fin (acfg m hok).N) := ((acfg m hok).win 1).stage ((acfg m hok).slots t 1)
/-- Window 2's buffer at point `t`. -/
abbrev st0_2 (t : Fin (acfg m hok).N) := ((acfg m hok).win 2).stage ((acfg m hok).slots t 2)
/-- Window 3's buffer at point `t`. -/
abbrev st0_3 (t : Fin (acfg m hok).N) := ((acfg m hok).win 3).stage ((acfg m hok).slots t 3)
/-- Window 4's buffer at point `t`. -/
abbrev st0_4 (t : Fin (acfg m hok).N) := ((acfg m hok).win 4).stage ((acfg m hok).slots t 4)
/-- Window 5's buffer at point `t`. -/
abbrev st0_5 (t : Fin (acfg m hok).N) := ((acfg m hok).win 5).stage ((acfg m hok).slots t 5)
/-- The body at point `t`. -/
abbrev bodyAt0 (t : Fin (acfg m hok).N) : Prog (TpuEff nD τ sig (Elt F) Λ₀ .tc) PUnit :=
  cc0_moe (grid0.coords t) (Memref.whole main_arg0) (Memref.isWhole_whole _) (Memref.whole main_arg1) (Memref.isWhole_whole _) (spec0_0.stage ((acfg m hok).slots t 0)) (hstage0_0 (((acfg m hok).slots t 0).cast nbuf0_0)) (spec0_1.stage ((acfg m hok).slots t 1)) (hstage0_1 (((acfg m hok).slots t 1).cast nbuf0_1)) (spec0_2.stage ((acfg m hok).slots t 2)) (hstage0_2 (((acfg m hok).slots t 2).cast nbuf0_2)) (spec0_3.stage ((acfg m hok).slots t 3)) (hstage0_3 (((acfg m hok).slots t 3).cast nbuf0_3)) (spec0_4.stage ((acfg m hok).slots t 4)) (hstage0_4 (((acfg m hok).slots t 4).cast nbuf0_4)) (spec0_5.stage ((acfg m hok).slots t 5)) (hstage0_5 (((acfg m hok).slots t 5).cast nbuf0_5))

/-- What the body is called with at point `t`. -/
def bodyPre (c : Dev nD) (t : Fin (acfg m hok).N) : sProp 𝕄 :=
  iprop((dats m hok 0 c).Φ t.castSucc ∗ (dats m hok 0 c).owesAt () t.castSucc
    ∗ (∃ d, owns (c : Thread nD τ) (st0_0 m hok t) fullShare ((dats m hok 0 c).before 0 t d))
    ∗ (∃ d, owns (c : Thread nD τ) (st0_1 m hok t) fullShare ((dats m hok 0 c).before 1 t d))
    ∗ (∃ d, owns (c : Thread nD τ) (st0_2 m hok t) fullShare ((dats m hok 0 c).before 2 t d))
    ∗ (∃ d, owns (c : Thread nD τ) (st0_3 m hok t) fullShare ((dats m hok 0 c).before 3 t d))
    ∗ (∃ d, owns (c : Thread nD τ) (st0_4 m hok t) fullShare ((dats m hok 0 c).before 4 t d))
    ∗ (∃ d, owns (c : Thread nD τ) (st0_5 m hok t) fullShare ((dats m hok 0 c).before 5 t d)))
/-- What it returns. -/
def bodyPost (c : Dev nD) (t : Fin (acfg m hok).N) : sProp 𝕄 :=
  iprop((dats m hok 0 c).Φ t.succ ∗ (dats m hok 0 c).owesAt () t.succ
    ∗ owns (c : Thread nD τ) (st0_0 m hok t) fullShare ((dats m hok 0 c).after 0 t)
    ∗ owns (c : Thread nD τ) (st0_1 m hok t) fullShare ((dats m hok 0 c).after 1 t)
    ∗ owns (c : Thread nD τ) (st0_2 m hok t) fullShare ((dats m hok 0 c).after 2 t)
    ∗ owns (c : Thread nD τ) (st0_3 m hok t) fullShare ((dats m hok 0 c).after 3 t)
    ∗ owns (c : Thread nD τ) (st0_4 m hok t) fullShare ((dats m hok 0 c).after 4 t)
    ∗ owns (c : Thread nD τ) (st0_5 m hok t) fullShare ((dats m hok 0 c).after 5 t))

/-- The tables at the half share the body gets. -/
theorem table_eq (c : Dev nD) : (Pipeline.ΦT pre0 (tbl m) c : sProp 𝕄)
    = iprop(((Memref.whole main_arg0).view.loc (c : Thread nD τ) ↦[(Memref.whole main_arg0).view.set]{fullShare.right} tbl m 0)
      ∗ ((Memref.whole main_arg1).view.loc (c : Thread nD τ) ↦[(Memref.whole main_arg1).view.set]{fullShare.right} tbl m 1)) := by
  unfold Pipeline.ΦT Pipeline.prefHeld
  rw [bigSep_univ_eq_bigSepL [(0 : Fin 2), (1 : Fin 2)] (by decide) (by decide)]
  simp only [View.set_whole]
  rfl

set_option maxHeartbeats 1000000 in
/-- The body at any point leaves each input's buffer at its block and the output's at the block `outBlk`. -/
theorem sound_body (c : Dev nD) (t : Fin (acfg m hok).N) :
    bodyPre m hok c t ⊢ wp frame (wpE (defs₀ (F := F)) Variants.none c none) Set.univ (bodyAt0 m hok t) (fun _ => bodyPost m hok c t) := by
  unfold bodyPre bodyPost
  simp only [before0_0, before0_1, before0_2, before0_3, before0_4]
  rw [show (dats m hok 0 c).Φ t.succ = iprop(Pipeline.ΦA spec0 c ∗ Pipeline.ΦT pre0 (tbl m) c) from rfl,
    show (dats m hok 0 c).Φ t.castSucc = iprop(Pipeline.ΦA spec0 c ∗ Pipeline.ΦT pre0 (tbl m) c) from rfl,
    show (dats m hok 0 c).owesAt () t.succ = (dats m hok 0 c).owesAt () t.castSucc from rfl,
    after0_0, after0_1, after0_2, after0_3, after0_4, after0_5, table_eq]
  iintro ⟨⟨HA, HT0, HT1⟩, Ho, ⟨%d0, H0⟩, ⟨%d1, H1⟩, ⟨%d2, H2⟩, ⟨%d3, H3⟩, ⟨%d4, H4⟩, ⟨%d5, H5⟩⟩
  iapply (sound_kernel (F := F) c (grid0.coords t) _ _ _ _ _ _ _ _ _ _ _ _ _ _ _ _ fullShare.right (tbl m 1)
    (used m) (used_read m) (iblk m hok c 0 t) (iblk m hok c 1 t) (iblk m hok c 2 t) (iblk m hok c 3 t) (iblk m hok c 4 t) _)
  isplitl [HT1]; · iexact HT1
  isplitl [H0]; · iexact H0
  isplitl [H1]; · iexact H1
  isplitl [H2]; · iexact H2
  isplitl [H3]; · iexact H3
  isplitl [H4]; · iexact H4
  isplitl [H5]; · iexists _; iexact H5
  iintro ⟨HT1, H0, H1, H2, H3, H4, H5⟩
  isplitl [HA HT0 HT1]
  · isplitl [HA]; · iexact HA
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`. -/
theorem defs₀_row (t : Fin (acfg m hok).N) :
    defs₀ (F := F) .tc (acfg m hok).body ((acfg m hok).bodyArgs t ((acfg m hok).slots t)) = bodyAt0 m hok t := by
  unfold defs₀; rw [Defs.onTc_tc]

/-- At every point one of the body's two conditions holds, so no point leaves the output block alone. -/
theorem idle_none (i : grid0.Coords) (n : BitVec 32) : (!(k0_cond1 i n == 1#1) && !(k0_cond2 i n == 1#1)) = false := by
  by_cases h : k0_cond1 i n = 1#1
  · simp [h]
  · simp [(cond2_iff i n).2 h]

/-- The body's obligation at every point. -/
theorem body_obligation (c : Dev nD) : BodyObligation (dats (F := F) m hok 0 c) (defs₀ (F := F)) Variants.none () Set.univ := fun t => by
  rw [bigSep_W0, bigSep_W0, defs₀_row]
  have hidle : (acfg m hok).idle (5 : Fin 6) ((acfg m hok).grid.coords t) = false := idle_none _ _
  refine triple_restated (sound_body m hok c t) rfl .rfl fun _ => ?_
  rw [hidle]
  exact .rfl

set_option backward.isDefEq.respectTransparency.types false in
set_option maxHeartbeats 800000 in
/-- The run: every array ends at what the proof data computes, every other buffer as the call found it, and every
    semaphore counter at zero. -/
theorem run_main : θ_run defs (onTc (τ := τ) (main (F := F))) (s₀ m ρ) (fun r =>
    Pipeline.FramePost (Pipeline.pin (pcfgs (F := F)) (adm m hok)) (dats m hok) 0 (V m) r ∧ r.2.sem = fun _ => 0) :=
  Pipeline.θ_run_frameP (Q' := _) (pcfgs (F := F)) (adm m hok) (dats m hok) (0 : Fin 1) launch0 defs₀ Variants.none m ρ main
    (hbody := fun c => (body_obligation m hok c).loose) (hshare := fun c => (dats m hok 0 c).share_full fun _ => rfl)
    (howed := fun _ _ => rfl) (V := V m) (hmain := hmain m) (hA := A_eq m hok) (hpf := V_pre m) (hΦ := fun _ _ => rfl)

include hok in
/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h' => ⟨fun c => by
    have h := h'.1
    exact ⟨((h c).2 main_arg0 (Pipeline.mem_restRefs_of main_arg0 (by decide) (by exact (by decide : ∀ w, Pipeline.arrRef spec0 w ≠ main_arg0)))).trans (V_main_arg0 m c),
      ((h c).2 main_arg1 (Pipeline.mem_restRefs_of main_arg1 (by decide) (by exact (by decide : ∀ w, Pipeline.arrRef spec0 w ≠ main_arg1)))).trans (V_main_arg1 m c),
      ((h c).1 0).trans (((dats m hok 0 c).arrAt_in 0 rfl _).trans ((A_eq m hok c 0).trans (V_main_arg2 m c))),
      ((h c).2 main_arg3 (Pipeline.mem_restRefs_of main_arg3 (by decide) (by exact (by decide : ∀ w, Pipeline.arrRef spec0 w ≠ main_arg3)))).trans (V_main_arg3 m c),
      ((h c).2 main_arg4 (Pipeline.mem_restRefs_of main_arg4 (by decide) (by exact (by decide : ∀ w, Pipeline.arrRef spec0 w ≠ main_arg4)))).trans (V_main_arg4 m c),
      ((h c).2 main_arg5 (Pipeline.mem_restRefs_of main_arg5 (by decide) (by exact (by decide : ∀ w, Pipeline.arrRef spec0 w ≠ main_arg5)))).trans (V_main_arg5 m c),
      ((h c).2 main_arg6 (Pipeline.mem_restRefs_of main_arg6 (by decide) (by exact (by decide : ∀ w, Pipeline.arrRef spec0 w ≠ main_arg6)))).trans (V_main_arg6 m c)⟩, h'.2⟩) (run_main m ρ hok)

end Cert.MoeIdeal.Hand
-- ==== Proof.MoeMath.Ffn.lean ====
/- One expert's feed-forward layer on one row, on extended reals. -/
module

public import Idealize.ShloMosaic.PureOps.Ideal

@[expose] public section

noncomputable section

namespace Cert.Moe.Math

open Idealize.ShloMosaic

/-- The first product of a row, with its bias: the gate's columns, then the linear part's. -/
def gu (x : Fin 1024 → EReal) (w : Fin 1024 → Fin 2048 → EReal) (b : Fin 2048 → EReal) (f : Fin 2048) : EReal :=
  (∑ k, x k * w k f) + b f

/-- The activation of gate `g` and linear part `l`: both clipped, the gate times its sigmoid, times the linear part plus one. -/
def act (g l : EReal) : EReal :=
  min g (Ideal.ofBits .f32 0x40E00000#32)
    * Ideal.logistic (Ideal.ofBits .f32 0x3FD9DB23#32 * min g (Ideal.ofBits .f32 0x40E00000#32))
    * (min (Ideal.ofBits .f32 0x40E00000#32) (max (Ideal.ofBits .f32 0xC0E00000#32) l) + 1)

/-- A column of the first product's gate half. -/
abbrev lo (f : Fin 1024) : Fin 2048 := ⟨f, by omega⟩
/-- A column of the first product's linear half. -/
abbrev hi (f : Fin 1024) : Fin 2048 := ⟨1024 + f, by omega⟩

/-- The expert's result on a row: the second product of the activations, with its bias. -/
def ffn (x : Fin 1024 → EReal) (w : Fin 1024 → Fin 2048 → EReal) (b : Fin 2048 → EReal)
    (w' : Fin 1024 → Fin 1024 → EReal) (b' : Fin 1024 → EReal) (d : Fin 1024) : EReal :=
  (∑ f, act (gu x w b (lo f)) (gu x w b (hi f)) * w' f d) + b' d

end Cert.Moe.Math

end
-- ==== Proof.MoeIdeal.Block.lean ====
/- The block one grid point of the experts' call writes, element by element, on extended reals. -/
module

public import proofs.«01_k».proof.Proof.MoeIdeal.Point
public import proofs.«01_k».proof.Proof.MoeMath.Ffn
public import Idealize.ShloMosaic.Lib.Pointwise

@[expose] public section

set_option maxRecDepth 16384

noncomputable section

namespace Cert.MoeIdeal.Hand

open Cert.MoeIdeal.Gen Cert.Moe.Math
open Idealize.ShloMosaic Idealize.ShloMosaic.TcCoe

variable (x : Vec Ideal S256x1024 .bf16) (wgu : Vec Ideal S1x1024x2048 .bf16) (bgu : Vec Ideal S1x1x2048 .f32)
  (wdn : Vec Ideal S1x1024x1024 .bf16) (bdn : Vec Ideal S1x1x1024 .f32) (p : Fin 256) (d : Fin 1024)

/-- An element of the block at a used point: the expert's layer on the row. -/
theorem pay1_at : k0_pay1 x wgu bgu wdn bdn (ix2 p d) =
    ffn (fun k => x (ix2 p k)) (fun k f => wgu (ix3 0 k f)) (fun f => bgu (ix3 0 0 f)) (fun f d => wdn (ix3 0 f d)) (fun d => bdn (ix3 0 0 d)) d := by
  pointwise [k0_pay1]
  rfl

/-- An element of the block at an unused point. -/
theorem pay2_at : k0_pay2 (F := Ideal) (ix2 p d) = (0 : EReal) := by
  pointwise [k0_pay2]

/-- A point is used when its number is below the number of used blocks, both read as signed words. -/
theorem cond1_iff (i : grid0.Coords) (n : BitVec 32) : k0_cond1 i n = 1#1 ↔ (BitVec.ofNat 32 (i 0).val).slt n = true := by
  unfold k0_cond1
  generalize BitVec.ofNat 32 (i 0).val = a
  simp only [Scalar.cmpi, Scalar.extui, IntOp.cmpi]
  cases h : BitVec.slt a n <;> simp

/-- An element of the block, whichever case holds. -/
theorem outBlk_at (i : grid0.Coords) (n : BitVec 32) : outBlk (F := Ideal) i x wgu bgu wdn bdn n (ix2 p d) =
    if (BitVec.ofNat 32 (i 0).val).slt n = true then
      ffn (fun k => x (ix2 p k)) (fun k f => wgu (ix3 0 k f)) (fun f => bgu (ix3 0 0 f)) (fun f d => wdn (ix3 0 f d)) (fun d => bdn (ix3 0 0 d)) d
    else (0 : EReal) := by
  unfold outBlk
  by_cases h : k0_cond1 i n = 1#1
  · rw [if_pos h, if_pos ((cond1_iff i n).1 h), pay1_at]
  · rw [if_neg h, if_neg (fun h' => h ((cond1_iff i n).2 h')), pay2_at]

end Cert.MoeIdeal.Hand

end
-- ==== Proof.MoeIdeal.Reads.lean ====
/- What each window's block of the experts' call holds, element by element, at a symbolic grid point. -/
module

public import proofs.«01_k».proof.Proof.MoeIdeal.Block
public import proofs.«01_k».proof.Proof.MoeIdeal.Frame
public import Idealize.ShloMosaic.Lib.Pipeline.Covers

@[expose] public section

set_option maxRecDepth 16384

noncomputable section

namespace Cert.MoeIdeal.Hand

open Cert.MoeIdeal.Gen Cert.Moe.Math
open Idealize.ShloMosaic Idealize.ShloMosaic.TcCoe Idealize.ShloMosaic.Tactic

/-! ## The index maps -/

/-- A block's number written as a word and read back is itself. -/
theorem word_nat (i : grid0.Coords) : (BitVec.ofNat 32 (i 0).val).toNat = (i 0).val := by
  have h : (i 0).val < 1056 := (i 0).isLt
  rw [BitVec.toNat_ofNat]; exact Nat.mod_eq_of_lt (by omega)

/-- Where the rows' block sits. -/
theorem map0 (i : grid0.Coords) : cc0_transform_0 i = ![(i 0).val, 0] := by
  funext a; fin_cases a
  · exact word_nat i
  · rfl
/-- Where the result's block sits. -/
theorem map5 (i : grid0.Coords) : cc0_transform_5 i = ![(i 0).val, 0] := by
  funext a; fin_cases a
  · exact word_nat i
  · rfl

variable (m : (ℓ : Loc nD τ sig) → Buf (Elt Ideal) ℓ)

/-- Where the first weights' block sits. -/
theorem map1 (i : grid0.Coords) : cc0_transform_1 k0_off1_inb numel1_S1 (tbl m) i = ![(expert m i).toNat, 0, 0] := by
  unfold cc0_transform_1
  exact congrArg (fun v : BitVec 32 => (![v.toNat, 0, 0] : Fin 3 → ℕ)) (expert_at m i)
/-- Where the first bias's block sits. -/
theorem map2 (i : grid0.Coords) : cc0_transform_2 k0_off1_inb numel1_S1 (tbl m) i = ![(expert m i).toNat, 0, 0] := by
  unfold cc0_transform_2
  exact congrArg (fun v : BitVec 32 => (![v.toNat, 0, 0] : Fin 3 → ℕ)) (expert_at m i)
/-- Where the second weights' block sits. -/
theorem map3 (i : grid0.Coords) : cc0_transform_3 k0_off1_inb numel1_S1 (tbl m) i = ![(expert m i).toNat, 0, 0] := by
  unfold cc0_transform_3
  exact congrArg (fun v : BitVec 32 => (![v.toNat, 0, 0] : Fin 3 → ℕ)) (expert_at m i)
/-- Where the second bias's block sits. -/
theorem map4 (i : grid0.Coords) : cc0_transform_4 k0_off1_inb numel1_S1 (tbl m) i = ![(expert m i).toNat, 0, 0] := by
  unfold cc0_transform_4
  exact congrArg (fun v : BitVec 32 => (![v.toNat, 0, 0] : Fin 3 → ℕ)) (expert_at m i)

/-- A block of size one starts at its index. -/
theorem place_one (n : Nat) : n * 1 + 1 * 0 = n := by omega
/-- The first block starts at zero. -/
theorem place_zero (s j : Nat) : 0 * s + 1 * j = j := by omega
/-- An element's place: its block's index times the block's size, plus its own. -/
theorem place (n s j : Nat) : n * s + 1 * j = n * s + j := by omega

/-! ## The weights as the call finds them -/

variable (c : Dev nD)

/-- The first weights: their change of format keeps every value. -/
theorem V_v0 : V m c main_v0 = m ((c.tc : Thread nD τ).loc main_arg3) := by
  show StableHlo.after hostOps0 _ (Proc.devRef .tc main_v0) = _
  after_results_simp
  rfl
/-- The second weights: their change of format keeps every value. -/
theorem V_v2 : V m c main_v2 = m ((c.tc : Thread nD τ).loc main_arg5) := by
  show StableHlo.after hostOps0 _ (Proc.devRef .tc main_v2) = _
  after_results_simp
  rfl
/-- The first bias with a unit axis. -/
theorem V_v1 : V m c main_v1 = shapeCast S32x1x2048 (m ((c.tc : Thread nD τ).loc main_arg4)) shapeCasts_S32x2048_S32x1x2048 := by
  show StableHlo.after hostOps0 _ (Proc.devRef .tc main_v1) = _
  after_results_simp
  rfl
/-- The second bias with a unit axis. -/
theorem V_v3 : V m c main_v3 = shapeCast S32x1x1024 (m ((c.tc : Thread nD τ).loc main_arg6)) shapeCasts_S32x1024_S32x1x1024 := by
  show StableHlo.after hostOps0 _ (Proc.devRef .tc main_v3) = _
  after_results_simp
  rfl

/-- A unit axis in the middle keeps the entries. -/
theorem mid2048 (x : FVec Ideal S32x2048 .f32) (e : Fin 32) (f : Fin 2048) :
    shapeCast S32x1x2048 x shapeCasts_S32x2048_S32x1x2048 (ix3 e 0 f) = x (ix2 e f) := by
  pointwise []
/-- A unit axis in the middle keeps the entries. -/
theorem mid1024 (x : FVec Ideal S32x1024 .f32) (e : Fin 32) (f : Fin 1024) :
    shapeCast S32x1x1024 x shapeCasts_S32x1024_S32x1x1024 (ix3 e 0 f) = x (ix2 e f) := by
  pointwise []

variable (hok : Ok m) (t : Fin (acfg m hok).N)

/-- The block number of point `t`. -/
abbrev blkNo : Fin 1056 := grid0.coords t 0
/-- The expert of point `t`. -/
abbrev ex : Fin 32 := ⟨(expert m (grid0.coords t)).toNat, hok _⟩

/-! ## The blocks -/

/-- The rows' block. -/
theorem x_at (p : Fin 256) (k : Fin 1024) :
    iblk m hok c 0 t (ix2 p k) = m ((c.tc : Thread nD τ).loc main_arg2) (ix2 ⟨(blkNo m hok t).val * 256 + p.val, by have := (blkNo m hok t).isLt; omega⟩ k) := by
  have e1 := map0 (grid0.coords t)
  refine Eq.trans ?_ (congrFun (V_main_arg2 m c) _)
  refine congrArg (V m c main_arg2) (funext fun a => Fin.ext ?_)
  fin_cases a
  · show cc0_transform_0 (grid0.coords t) 0 * 256 + 1 * p.val = (blkNo m hok t).val * 256 + p.val
    rw [e1]; exact place _ _ _
  · show cc0_transform_0 (grid0.coords t) 1 * 1024 + 1 * k.val = k.val
    rw [e1]; exact place_zero _ _

/-- The first weights' block. -/
theorem wgu_at (k : Fin 1024) (f : Fin 2048) :
    iblk m hok c 1 t (ix3 0 k f) = m ((c.tc : Thread nD τ).loc main_arg3) (ix3 (ex m hok t) k f) := by
  have e1 := map1 m (grid0.coords t)
  refine Eq.trans ?_ (congrFun (V_v0 m c) _)
  refine congrArg (V m c main_v0) (funext fun a => Fin.ext ?_)
  fin_cases a
  · show cc0_transform_1 k0_off1_inb numel1_S1 (tbl m) (grid0.coords t) 0 * 1 + 1 * 0 = (expert m (grid0.coords t)).toNat
    rw [e1]; exact place_one _
  · show cc0_transform_1 k0_off1_inb numel1_S1 (tbl m) (grid0.coords t) 1 * 1024 + 1 * k.val = k.val
    rw [e1]; exact place_zero _ _
  · show cc0_transform_1 k0_off1_inb numel1_S1 (tbl m) (grid0.coords t) 2 * 2048 + 1 * f.val = f.val
    rw [e1]; exact place_zero _ _

/-- The first bias's block. -/
theorem bgu_at (f : Fin 2048) :
    iblk m hok c 2 t (ix3 0 0 f) = m ((c.tc : Thread nD τ).loc main_arg4) (ix2 (ex m hok t) f) := by
  have e1 := map2 m (grid0.coords t)
  refine Eq.trans ?_ ((congrFun (V_v1 m c) (ix3 (ex m hok t) 0 f)).trans (mid2048 _ _ _))
  refine congrArg (V m c main_v1) (funext fun a => Fin.ext ?_)
  fin_cases a
  · show cc0_transform_2 k0_off1_inb numel1_S1 (tbl m) (grid0.coords t) 0 * 1 + 1 * 0 = (expert m (grid0.coords t)).toNat
    rw [e1]; exact place_one _
  · show cc0_transform_2 k0_off1_inb numel1_S1 (tbl m) (grid0.coords t) 1 * 1 + 1 * 0 = 0
    rw [e1]; exact place_one _
  · show cc0_transform_2 k0_off1_inb numel1_S1 (tbl m) (grid0.coords t) 2 * 2048 + 1 * f.val = f.val
    rw [e1]; exact place_zero _ _

/-- The second weights' block. -/
theorem wdn_at (k : Fin 1024) (f : Fin 1024) :
    iblk m hok c 3 t (ix3 0 k f) = m ((c.tc : Thread nD τ).loc main_arg5) (ix3 (ex m hok t) k f) := by
  have e1 := map3 m (grid0.coords t)
  refine Eq.trans ?_ (congrFun (V_v2 m c) _)
  refine congrArg (V m c main_v2) (funext fun a => Fin.ext ?_)
  fin_cases a
  · show cc0_transform_3 k0_off1_inb numel1_S1 (tbl m) (grid0.coords t) 0 * 1 + 1 * 0 = (expert m (grid0.coords t)).toNat
    rw [e1]; exact place_one _
  · show cc0_transform_3 k0_off1_inb numel1_S1 (tbl m) (grid0.coords t) 1 * 1024 + 1 * k.val = k.val
    rw [e1]; exact place_zero _ _
  · show cc0_transform_3 k0_off1_inb numel1_S1 (tbl m) (grid0.coords t) 2 * 1024 + 1 * f.val = f.val
    rw [e1]; exact place_zero _ _

/-- The second bias's block. -/
theorem bdn_at (f : Fin 1024) :
    iblk m hok c 4 t (ix3 0 0 f) = m ((c.tc : Thread nD τ).loc main_arg6) (ix2 (ex m hok t) f) := by
  have e1 := map4 m (grid0.coords t)
  refine Eq.trans ?_ ((congrFun (V_v3 m c) (ix3 (ex m hok t) 0 f)).trans (mid1024 _ _ _))
  refine congrArg (V m c main_v3) (funext fun a => Fin.ext ?_)
  fin_cases a
  · show cc0_transform_4 k0_off1_inb numel1_S1 (tbl m) (grid0.coords t) 0 * 1 + 1 * 0 = (expert m (grid0.coords t)).toNat
    rw [e1]; exact place_one _
  · show cc0_transform_4 k0_off1_inb numel1_S1 (tbl m) (grid0.coords t) 1 * 1 + 1 * 0 = 0
    rw [e1]; exact place_one _
  · show cc0_transform_4 k0_off1_inb numel1_S1 (tbl m) (grid0.coords t) 2 * 1024 + 1 * f.val = f.val
    rw [e1]; exact place_zero _ _

end Cert.MoeIdeal.Hand

end
-- ==== Proof.MoeIdeal.Value.lean ====
/- The experts' call's result, element by element: each row through its block's expert, zeros past the used blocks. -/
module

public import proofs.«01_k».proof.Proof.MoeIdeal.Reads

@[expose] public section

set_option maxRecDepth 16384

noncomputable section

namespace Cert.MoeIdeal.Hand

open Cert.MoeIdeal.Gen Cert.Moe.Math
open Idealize.ShloMosaic Idealize.ShloMosaic.TcCoe Idealize.ShloMosaic.Tactic

/-- The grid point of block `n`. -/
def pt (n : Fin 1056) : grid0.Coords := fun | 0 => ⟨n.val, n.isLt⟩

/-- A grid point is that of its block. -/
theorem pt_eq (i : grid0.Coords) (n : Fin 1056) (h : n.val = (i 0).val) : pt n = i := by
  funext a; fin_cases a; exact Fin.ext h

variable (m : (ℓ : Loc nD τ sig) → Buf (Elt Ideal) ℓ) (hok : Ok m) (c : Dev nD)

/-- The expert of block `n`. -/
abbrev exAt (n : Fin 1056) : Fin 32 := ⟨(expert m (pt n)).toNat, hok _⟩

/-- Row `r` of block `n` of the result. -/
def rowRes (n : Fin 1056) (r : Fin 270336) (d : Fin 1024) : EReal :=
  if (BitVec.ofNat 32 n.val).slt (used m) = true then
    ffn (fun k => m ((c.tc : Thread nD τ).loc main_arg2) (ix2 r k)) (fun k f => m ((c.tc : Thread nD τ).loc main_arg3) (ix3 (exAt m hok n) k f))
      (fun f => m ((c.tc : Thread nD τ).loc main_arg4) (ix2 (exAt m hok n) f)) (fun f d => m ((c.tc : Thread nD τ).loc main_arg5) (ix3 (exAt m hok n) f d))
      (fun d => m ((c.tc : Thread nD τ).loc main_arg6) (ix2 (exAt m hok n) d)) d
  else 0

/-- The whole result. -/
def res : S270336x1024.Idx → EReal := fun y =>
  rowRes m hok c ⟨(y 0).val / 256, by have h : (y 0).val < 270336 := (y 0).isLt; omega⟩ (y 0) (y 1)

/-- The result at a row of a block. -/
theorem res_at (n : Fin 1056) (p : Fin 256) (d : Fin 1024) (r : Fin 270336) (hr : r.val = n.val * 256 + p.val) :
    res m hok c (ix2 r d) = rowRes m hok c n r d := by
  have hp := p.isLt
  show rowRes m hok c ⟨r.val / 256, _⟩ r d = _
  have e : (⟨r.val / 256, by have h := r.isLt; omega⟩ : Fin 1056) = n := Fin.ext (by show r.val / 256 = n.val; omega)
  rw [e]

/-- The output window's blocks fill the array. -/
theorem covers5 : ((acfg m hok).win 5).Covers := by
  refine Pipeline.Window.covers_of_indexMap_surj _ rfl (by exact (by decide : ∀ a : Fin 2, 0 < S256x1024.size a)) fun β => ?_
  have h0 : (β (0 : Fin 2)).val < 1056 :=
    lt_of_lt_of_eq (β (0 : Fin 2)).isLt (by exact (by norm_num : (270336 + 256 - 1) / 256 = 1056))
  have h1 : (β (1 : Fin 2)).val < 1 :=
    lt_of_lt_of_eq (β (1 : Fin 2)).isLt (by exact (by norm_num : (1024 + 1024 - 1) / 1024 = 1))
  refine ⟨pt ⟨(β (0 : Fin 2)).val, h0⟩, fun a => ?_⟩
  have e : cc0_transform_5 (pt ⟨(β (0 : Fin 2)).val, h0⟩) = _ := map5 _
  refine (congrFun e a).trans ?_
  fin_cases a
  · rfl
  · show 0 = (β (1 : Fin 2)).val
    omega

/-- What the call leaves in its result. -/
theorem arr_eq : (dats m hok 0 c).arrAt 5 (acfg m hok).N = res m hok c := by
  refine (dats m hok 0 c).arrAt_eq_of_covers 5 _ (covers5 m hok) fun t hf y => ?_
  rw [after0_5]
  obtain ⟨p, hp⟩ : ∃ p : Fin 256, p = y (0 : Fin 2) := ⟨_, rfl⟩
  obtain ⟨d, hd⟩ : ∃ d : Fin 1024, d = y (1 : Fin 2) := ⟨_, rfl⟩
  have hn : (blkNo m hok t).val < 1056 := (blkNo m hok t).isLt
  have hxy : ((acfg m hok).win 5).xinj ((acfg m hok).grid.coords t) y = ix2 p d := by
    funext a; fin_cases a
    · exact hp.symm
    · exact hd.symm
  have hemb : (((acfg m hok).win 5).blk t).view.emb y = (ix2 ⟨(blkNo m hok t).val * 256 + p.val, by omega⟩ d : S270336x1024.Idx) := by
    have e1 := map5 (grid0.coords t)
    funext a; apply Fin.ext
    fin_cases a
    · show cc0_transform_5 (grid0.coords t) 0 * 256 + 1 * (y (0 : Fin 2)).val = (blkNo m hok t).val * 256 + p.val
      rw [e1, ← hp]; exact place _ _ _
    · show cc0_transform_5 (grid0.coords t) 1 * 1024 + 1 * (y (1 : Fin 2)).val = d.val
      rw [e1, ← hd]; exact place_zero _ _
  rw [hxy, hemb]
  refine (outBlk_at _ _ _ _ _ p d _ _).trans ?_
  refine Eq.trans ?_ (res_at m hok c (blkNo m hok t) p d _ rfl).symm
  have e2 : exAt m hok (blkNo m hok t) = ex m hok t := Fin.ext (by
    show (expert m (pt (blkNo m hok t))).toNat = _
    rw [pt_eq (grid0.coords t) (blkNo m hok t) rfl])
  unfold rowRes
  rw [e2]
  simp only [x_at, wgu_at, bgu_at, wdn_at, bdn_at]

end Cert.MoeIdeal.Hand

end
-- ==== Proof.MoeRef.Gather.lean ====
/- The rows the reference takes from the experts' weights. -/
module

public import proofs.«01_k».proof.Proof.Gen.MoeRefIdeal
public import Idealize.ShloMosaic.Lib.Pointwise
public import Idealize.ShloMosaic.Lib.WordCmp

@[expose] public section

set_option maxRecDepth 16384

noncomputable section

namespace Cert.MoeRefIdeal.Hand

open Cert.MoeRefIdeal Cert.MoeRefIdeal.Gen
open Idealize.ShloMosaic Idealize.ShloMosaic.TcCoe Idealize.ShloMosaic.WordCmp

variable (idx : IVec S1056x1 32) (n : Fin 1056) (b : Fin 32) (hb : idx (ix2 n 0) = BitVec.ofNat 32 b.val)

include hb in
/-- An expert's number, read signed and kept within the table, is itself. -/
theorem clamp : min (idx (ix2 n 0)).toInt.toNat (32 - 1) = b.val := by
  have h := b.isLt
  rw [hb, toInt_ofNat_of_lt (w := 32) (a := b.val) (by omega)]
  omega

include hb in
/-- The first weights of a block's expert. -/
theorem gather_gu (x : FVec Ideal S32x1024x2048 .f32) (k : Fin 1024) (f : Fin 2048) :
    Host.gather gather_S32x1024x2048_S1056x1_S1056x1024x2048_12_0_n_n_0_1_110242048 x idx (ix3 n k f) = x (ix3 b k f) := by
  refine congrArg x (funext fun a => Fin.ext ?_)
  match a with
  | ⟨0, _⟩ =>
    refine Eq.trans ?_ (clamp idx n b hb)
    show min (idx _).toInt.toNat (32 - 1) + 0 + 0 = _
    refine congrArg (fun i => min (idx i).toInt.toNat (32 - 1)) (funext fun a => Fin.ext ?_)
    match a with
    | ⟨0, _⟩ => rfl
    | ⟨1, _⟩ => rfl
  | ⟨1, _⟩ => show 0 + 0 + k.val = k.val; omega
  | ⟨2, _⟩ => show 0 + 0 + f.val = f.val; omega

include hb in
/-- The second weights of a block's expert. -/
theorem gather_dn (x : FVec Ideal S32x1024x1024 .f32) (k : Fin 1024) (f : Fin 1024) :
    Host.gather gather_S32x1024x1024_S1056x1_S1056x1024x1024_12_0_n_n_0_1_110241024 x idx (ix3 n k f) = x (ix3 b k f) := by
  refine congrArg x (funext fun a => Fin.ext ?_)
  match a with
  | ⟨0, _⟩ =>
    refine Eq.trans ?_ (clamp idx n b hb)
    show min (idx _).toInt.toNat (32 - 1) + 0 + 0 = _
    refine congrArg (fun i => min (idx i).toInt.toNat (32 - 1)) (funext fun a => Fin.ext ?_)
    match a with
    | ⟨0, _⟩ => rfl
    | ⟨1, _⟩ => rfl
  | ⟨1, _⟩ => show 0 + 0 + k.val = k.val; omega
  | ⟨2, _⟩ => show 0 + 0 + f.val = f.val; omega

include hb in
/-- The first bias of a block's expert. -/
theorem gather_bgu (x : FVec Ideal S32x2048 .f32) (f : Fin 2048) :
    Host.gather gather_S32x2048_S1056x1_S1056x2048_1_0_n_n_0_1_12048 x idx (ix2 n f) = x (ix2 b f) := by
  refine congrArg x (funext fun a => Fin.ext ?_)
  match a with
  | ⟨0, _⟩ =>
    refine Eq.trans ?_ (clamp idx n b hb)
    show min (idx _).toInt.toNat (32 - 1) + 0 + 0 = _
    refine congrArg (fun i => min (idx i).toInt.toNat (32 - 1)) (funext fun a => Fin.ext ?_)
    match a with
    | ⟨0, _⟩ => rfl
    | ⟨1, _⟩ => rfl
  | ⟨1, _⟩ => show 0 + 0 + f.val = f.val; omega

include hb in
/-- The second bias of a block's expert. -/
theorem gather_bdn (x : FVec Ideal S32x1024 .f32) (f : Fin 1024) :
    Host.gather gather_S32x1024_S1056x1_S1056x1024_1_0_n_n_0_1_11024 x idx (ix2 n f) = x (ix2 b f) := by
  refine congrArg x (funext fun a => Fin.ext ?_)
  match a with
  | ⟨0, _⟩ =>
    refine Eq.trans ?_ (clamp idx n b hb)
    show min (idx _).toInt.toNat (32 - 1) + 0 + 0 = _
    refine congrArg (fun i => min (idx i).toInt.toNat (32 - 1)) (funext fun a => Fin.ext ?_)
    match a with
    | ⟨0, _⟩ => rfl
    | ⟨1, _⟩ => rfl
  | ⟨1, _⟩ => show 0 + 0 + f.val = f.val; omega

end Cert.MoeRefIdeal.Hand

end
-- ==== Proof.MoeRef.Stages.lean ====
/- The reference experts cut into named stages, and each stage read at an index. -/
module

public import proofs.«01_k».proof.Proof.Gen.MoeRefIdeal.Run
public import proofs.«01_k».proof.Proof.MoeRef.Gather
public import proofs.«01_k».proof.Proof.MoeMath.Ffn
public import Idealize.ShloMosaic.Lib.Pointwise
public import Idealize.ShloMosaic.Lib.WordCmp

@[expose] public section

set_option maxRecDepth 16384

noncomputable section

namespace Cert.MoeRefIdeal.Hand

open Cert.MoeRefIdeal Cert.MoeRefIdeal.Gen Cert.Moe.Math
open Idealize.ShloMosaic Idealize.ShloMosaic.TcCoe Idealize.ShloMosaic.WordCmp

variable (be : IVec S1056 32) (nu : IVec S1 32) (x : FVec Ideal S270336x1024 .bf16) (w : FVec Ideal S32x1024x2048 .f32) (bg : FVec Ideal S32x2048 .f32)
  (w' : FVec Ideal S32x1024x1024 .f32) (b' : FVec Ideal S32x1024 .f32)

/-- The expert of each block, a negative number counting from the end. -/
def eid : IVec S1056x1 32 :=
  broadcastInDim S1056x1 ![0] bcast_S1056_S1056x1_0 (select (cmpi .slt be (broadcastInDim S1056 ![] bcast_S_S1056 (constantI S_ 32 0#32))) (addi be (broadcastInDim S1056 ![] bcast_S_S1056 (constantI S_ 32 32#32))) be)
/-- The first products with their biases. -/
def guR : FVec Ideal S1056x256x2048 .f32 :=
  addf (Host.dotGeneral dot_S1056x256x1024_S1056x1024x2048_S1056x256x2048_2_1_1_2_0_0 none (shapeCast _ (extf .f32 x bitsLt_bf16_f32) shapeCasts_S270336x1024_S1056x256x1024) (Host.gather gather_S32x1024x2048_S1056x1_S1056x1024x2048_12_0_n_n_0_1_110242048 w (eid be))) (broadcastInDim S1056x256x2048 ![0, 1, 2] bcast_S1056x1x2048_S1056x256x2048_0_1_2 (broadcastInDim S1056x1x2048 ![0, 2] bcast_S1056x2048_S1056x1x2048_0_2 (Host.gather gather_S32x2048_S1056x1_S1056x2048_1_0_n_n_0_1_12048 bg (eid be))))
/-- The gate, clipped. -/
def gateR (g : FVec Ideal S1056x256x2048 .f32) : FVec Ideal S1056x256x1024 .f32 :=
  minimumf (extractStridedSlice S1056x256x1024 ![0, 0, 0] g slices_S1056x256x2048_S1056x256x1024_0_0_0) (broadcastInDim S1056x256x1024 ![] bcast_S_S1056x256x1024 (constant S_ .f32 0x40E00000#32))
/-- The gate's sigmoid. -/
def sigR (g : FVec Ideal S1056x256x1024 .f32) : FVec Ideal S1056x256x1024 .f32 :=
  Host.divf (broadcastInDim S1056x256x1024 ![] bcast_S_S1056x256x1024 (constant S_ .f32 0x3F800000#32)) (addf (broadcastInDim S1056x256x1024 ![] bcast_S_S1056x256x1024 (constant S_ .f32 0x3F800000#32)) (Host.exp (Host.negf (mulf (broadcastInDim S1056x256x1024 ![] bcast_S_S1056x256x1024 (constant S_ .f32 0x3FD9DB23#32)) g))))
/-- The linear part, clipped. -/
def linR (g : FVec Ideal S1056x256x2048 .f32) : FVec Ideal S1056x256x1024 .f32 :=
  minimumf (broadcastInDim S1056x256x1024 ![] bcast_S_S1056x256x1024 (id (constant S_ .f32 0x40E00000#32))) (maximumf (broadcastInDim S1056x256x1024 ![] bcast_S_S1056x256x1024 (id (constant S_ .f32 0xC0E00000#32))) (extractStridedSlice S1056x256x1024 ![0, 0, 1024] g slices_S1056x256x2048_S1056x256x1024_0_0_1024))
/-- The activations. -/
def actR (g : FVec Ideal S1056x256x2048 .f32) : FVec Ideal S1056x256x1024 .f32 :=
  mulf (mulf (gateR g) (sigR (gateR g))) (addf (linR g) (broadcastInDim S1056x256x1024 ![] bcast_S_S1056x256x1024 (constant S_ .f32 0x3F800000#32)))
/-- The second products with their biases. -/
def dnR (a : FVec Ideal S1056x256x1024 .f32) : FVec Ideal S1056x256x1024 .f32 :=
  addf (Host.dotGeneral dot_S1056x256x1024_S1056x1024x1024_S1056x256x1024_2_1_1_2_0_0 none a (Host.gather gather_S32x1024x1024_S1056x1_S1056x1024x1024_12_0_n_n_0_1_110241024 w' (eid be))) (broadcastInDim S1056x256x1024 ![0, 1, 2] bcast_S1056x1x1024_S1056x256x1024_0_1_2 (broadcastInDim S1056x1x1024 ![0, 2] bcast_S1056x1024_S1056x1x1024_0_2 (Host.gather gather_S32x1024_S1056x1_S1056x1024_1_0_n_n_0_1_11024 b' (eid be))))
/-- Which blocks are used. -/
def usedR : IVec S1056x1x1 1 :=
  broadcastInDim S1056x1x1 ![0] bcast_S1056_S1056x1x1_0 (cmpi .slt (iotaInDim S1056 32 0) (broadcastInDim S1056 ![] bcast_S_S1056 (shapeCast S_ nu shapeCasts_S1_S_)))
/-- The result: zeros at the blocks that are not used. -/
def outR (y : FVec Ideal S1056x256x1024 .f32) : FVec Ideal S270336x1024 .f32 :=
  shapeCast _ (select (broadcastInDim S1056x256x1024 ![0, 1, 2] bcast_S1056x1x1_S1056x256x1024_0_1_2 (usedR nu)) y (broadcastInDim S1056x256x1024 ![] bcast_S_S1056x256x1024 (id (constant S_ .f32 0x00000000#32)))) shapeCasts_S1056x256x1024_S270336x1024

variable (n : Fin 1056) (b : Fin 32) (hb : be (ix1 n) = BitVec.ofNat 32 b.val) (p : Fin 256)

include hb in
/-- A block's expert. -/
theorem eid_at : eid be (ix2 n 0) = BitVec.ofNat 32 b.val := by
  have h : b.val < 32 := b.isLt
  have e : eid be (ix2 n 0) = Scalar.select (IntOp.cmpi .slt (be (ix1 n)) 0#32) (IntOp.addi (be (ix1 n)) 32#32) (be (ix1 n)) := by
    pointwise [eid]
  rw [e, hb]
  have h0 : IntOp.cmpi .slt (BitVec.ofNat 32 b.val) 0#32 = 0#1 := by
    have := cmpi_slt_ofNat (w := 32) (a := b.val) (b := 0) (by omega) (by omega)
    rw [this, decide_eq_false (by omega)]; rfl
  rw [h0]; rfl

/-- A row's place in the array. -/
abbrev rowAt : Fin 270336 := ⟨n.val * 256 + p.val, by omega⟩

include hb in
/-- The first product of a row. -/
theorem guR_at (f : Fin 2048) : guR be x w bg (ix3 n p f) =
    gu (fun k => x (ix2 (rowAt n p) k)) (fun k f => w (ix3 b k f)) (fun f => bg (ix2 b f)) f := by
  have e : guR be x w bg (ix3 n p f) = (∑ k, x (ix2 (rowAt n p) k) * Host.gather gather_S32x1024x2048_S1056x1_S1056x1024x2048_12_0_n_n_0_1_110242048 w (eid be) (ix3 n k f))
      + Host.gather gather_S32x2048_S1056x1_S1056x2048_1_0_n_n_0_1_12048 bg (eid be) (ix2 n f) := by
    pointwise [guR]
  rw [e, gather_bgu _ _ _ (eid_at be n b hb)]
  unfold gu
  congr 1
  exact Finset.sum_congr rfl fun k _ => by rw [gather_gu _ _ _ (eid_at be n b hb)]

/-- A constant named twice is itself. -/
theorem id7 : (id (constant (F := Ideal) S_ .f32 0x40E00000#32) : FVec Ideal S_ .f32) ix0 = Ideal.ofBits .f32 0x40E00000#32 := rfl
/-- A constant named twice is itself. -/
theorem idm7 : (id (constant (F := Ideal) S_ .f32 0xC0E00000#32) : FVec Ideal S_ .f32) ix0 = Ideal.ofBits .f32 0xC0E00000#32 := rfl

/-- An activation. -/
theorem actR_at (g : FVec Ideal S1056x256x2048 .f32) (f : Fin 1024) : actR g (ix3 n p f) = act (g (ix3 n p (lo f))) (g (ix3 n p (hi f))) := by
  pointwise [actR, gateR, sigR, linR, id7, idm7]
  rfl

include hb in
/-- The second product of a row. -/
theorem dnR_at (a : FVec Ideal S1056x256x1024 .f32) (d : Fin 1024) : dnR be w' b' a (ix3 n p d) =
    (∑ f, a (ix3 n p f) * w' (ix3 b f d)) + b' (ix2 b d) := by
  have e : dnR be w' b' a (ix3 n p d) = (∑ k, a (ix3 n p k) * Host.gather gather_S32x1024x1024_S1056x1_S1056x1024x1024_12_0_n_n_0_1_110241024 w' (eid be) (ix3 n k d))
      + Host.gather gather_S32x1024_S1056x1_S1056x1024_1_0_n_n_0_1_11024 b' (eid be) (ix2 n d) := by
    pointwise [dnR]
  rw [e, gather_bdn _ _ _ (eid_at be n b hb)]
  congr 1
  exact Finset.sum_congr rfl fun k _ => by rw [gather_dn _ _ _ (eid_at be n b hb)]

/-- The zero of an unused block. -/
theorem id0 : (id (constant (F := Ideal) S_ .f32 0x00000000#32) : FVec Ideal S_ .f32) ix0 = (0 : EReal) := by
  show Ideal.ofBits .f32 0x00000000#32 = 0
  simp [Ideal.ofBits, Ideal.ieee]

/-- Laying the blocks' rows one after another keeps the entries. -/
theorem rows_at (y : FVec Ideal S1056x256x1024 .f32) (d : Fin 1024) :
    shapeCast S270336x1024 y shapeCasts_S1056x256x1024_S270336x1024 (ix2 (rowAt n p) d) = y (ix3 n p d) := by
  have e : shapeCast S270336x1024 y shapeCasts_S1056x256x1024_S270336x1024 (ix2 (rowAt n p) d)
      = y (ix3 ⟨(n.val * 256 + p.val) / 256, by omega⟩ ⟨(n.val * 256 + p.val) % 256, by omega⟩ d) := by
    pointwise []
  rw [e]
  have e1 : (⟨(n.val * 256 + p.val) / 256, by omega⟩ : Fin 1056) = n := Fin.ext (by show (n.val * 256 + p.val) / 256 = n.val; omega)
  have e2 : (⟨(n.val * 256 + p.val) % 256, by omega⟩ : Fin 256) = p := Fin.ext (by show (n.val * 256 + p.val) % 256 = p.val; omega)
  rw [e1, e2]

/-- The result at an index. -/
theorem outR_at (y : FVec Ideal S1056x256x1024 .f32) (d : Fin 1024) : outR nu y (ix2 (rowAt n p) d) =
    if (BitVec.ofNat 32 n.val).slt (nu (ix1 0)) = true then y (ix3 n p d) else (0 : EReal) := by
  have e : outR nu y (ix2 (rowAt n p) d) = Scalar.select (IntOp.cmpi .slt (BitVec.ofNat 32 n.val) (nu (ix1 0))) (y (ix3 n p d)) (0 : EReal) := by
    have e1 : outR nu y (ix2 (rowAt n p) d) = select (broadcastInDim S1056x256x1024 ![0, 1, 2] bcast_S1056x1x1_S1056x256x1024_0_1_2 (usedR nu)) y (broadcastInDim S1056x256x1024 ![] bcast_S_S1056x256x1024 (id (constant S_ .f32 0x00000000#32))) (ix3 n p d) := by
      unfold outR
      exact rows_at n p _ d
    rw [e1]
    pointwise [usedR, id0]
  rw [e]
  cases h : BitVec.slt (BitVec.ofNat 32 n.val) (nu (ix1 0)) <;> simp [IntOp.cmpi, h, Scalar.select]

include hb in
/-- The reference's result at a row: the expert's layer on it, or zero. -/
theorem ref_at (d : Fin 1024) : outR nu (dnR be w' b' (actR (guR be x w bg))) (ix2 (rowAt n p) d) =
    if (BitVec.ofNat 32 n.val).slt (nu (ix1 0)) = true then
      ffn (fun k => x (ix2 (rowAt n p) k)) (fun k f => w (ix3 b k f)) (fun f => bg (ix2 b f)) (fun f d => w' (ix3 b f d)) (fun d => b' (ix2 b d)) d
    else (0 : EReal) := by
  rw [outR_at, dnR_at be w' b' n b hb]
  unfold ffn
  simp only [actR_at, guR_at be x w bg n b hb]

end Cert.MoeRefIdeal.Hand

end
-- ==== Proof.MoeRef.ResEq.lean ====
/- The reference experts' result as its named stages. -/
module

public import proofs.«01_k».proof.Proof.MoeRef.Stages

@[expose] public section

set_option maxRecDepth 16384

noncomputable section

namespace Cert.MoeRefIdeal.Hand

open Cert.MoeRefIdeal Cert.MoeRefIdeal.Gen
open Idealize.ShloMosaic Idealize.ShloMosaic.TcCoe

variable (m : (ℓ : Loc nD τ sig) → Buf (Elt Ideal) ℓ) (c : Dev nD)

/-- The reference's result is the last stage. -/
theorem res_eq : Value.res_main_v61 m c =
    outR (m ((c.tc : Thread nD τ).loc main_arg1)) (dnR (m ((c.tc : Thread nD τ).loc main_arg0)) (m ((c.tc : Thread nD τ).loc main_arg5)) (m ((c.tc : Thread nD τ).loc main_arg6))
      (actR (guR (m ((c.tc : Thread nD τ).loc main_arg0)) (m ((c.tc : Thread nD τ).loc main_arg2)) (m ((c.tc : Thread nD τ).loc main_arg3)) (m ((c.tc : Thread nD τ).loc main_arg4))))) := by
  unfold Value.res_main_v61
  rfl

end Cert.MoeRefIdeal.Hand

end
-- ==== Proof.MoeRef.Join.lean ====
/- The experts' result and the reference's are the same array of extended reals. -/
module

public import proofs.«01_k».proof.Proof.MoeIdeal.Value
public import proofs.«01_k».proof.Proof.MoeRef.ResEq

@[expose] public section

set_option maxRecDepth 16384

noncomputable section

namespace Cert.MoeIdeal.Hand

open Cert.MoeIdeal.Gen Cert.Moe.Math
open Idealize.ShloMosaic Idealize.ShloMosaic.TcCoe

variable (m : (ℓ : Loc nD τ sig) → Buf (Elt Ideal) ℓ) (hok : Ok m) (c : Dev nD)

/-- The table of experts, at a block. -/
theorem expert_pt (n : Fin 1056) : m ((c.tc : Thread nD τ).loc main_arg0) (ix1 n) = BitVec.ofNat 32 (exAt m hok n).val := by
  obtain rfl : c = 0 := Subsingleton.elim _ _
  have e : (at1056 (pt n) : S1056.Idx) = ix1 n := by funext a; fin_cases a; rfl
  show _ = BitVec.ofNat 32 (expert m (pt n)).toNat
  unfold expert
  rw [e]
  exact (BitVec.ofNat_toNat _ _).trans (BitVec.setWidth_eq _) |>.symm

/-- The number of used blocks, at the table's one index. -/
theorem used_pt : m ((c.tc : Thread nD τ).loc main_arg1) (ix1 0) = used m := by
  obtain rfl : c = 0 := Subsingleton.elim _ _
  have e : (at1 : S1.Idx) = ix1 0 := by funext a; fin_cases a; rfl
  unfold used
  rw [e]

/-- The reference's stages at the kernel's arguments give the kernel's result. -/
theorem ref_eq :
    Cert.MoeRefIdeal.Hand.outR (m ((c.tc : Thread nD τ).loc main_arg1))
      (Cert.MoeRefIdeal.Hand.dnR (m ((c.tc : Thread nD τ).loc main_arg0)) (m ((c.tc : Thread nD τ).loc main_arg5)) (m ((c.tc : Thread nD τ).loc main_arg6))
        (Cert.MoeRefIdeal.Hand.actR (Cert.MoeRefIdeal.Hand.guR (m ((c.tc : Thread nD τ).loc main_arg0)) (m ((c.tc : Thread nD τ).loc main_arg2))
          (m ((c.tc : Thread nD τ).loc main_arg3)) (m ((c.tc : Thread nD τ).loc main_arg4))))) = res m hok c := by
  funext y
  obtain ⟨n, p, d, rfl⟩ : ∃ (n : Fin 1056) (p : Fin 256) (d : Fin 1024), y = ix2 (Cert.MoeRefIdeal.Hand.rowAt n p) d := by
    have h : (y 0).val < 270336 := (y 0).isLt
    refine ⟨⟨(y 0).val / 256, by omega⟩, ⟨(y 0).val % 256, by omega⟩, y 1, ?_⟩
    funext a; apply Fin.ext; fin_cases a
    · show (y 0).val = (y 0).val / 256 * 256 + (y 0).val % 256
      omega
    · rfl
  rw [res_at m hok c n p d _ rfl]
  refine (Cert.MoeRefIdeal.Hand.ref_at _ _ _ _ _ _ _ n (exAt m hok n) (expert_pt m hok c n) p d).trans ?_
  rw [used_pt m c]
  rfl

end Cert.MoeIdeal.Hand

end
-- ==== Proof.Pre.Experts.lean ====
/- What the experts' precondition says of the arguments: every block's expert is one of the 32. -/
module

public import proofs.«01_k».proof.Proof.Gen.Pre_experts
public import Idealize.ShloMosaic.Lib.Pointwise
public import Idealize.ShloMosaic.Lib.ReduceAll
public import Idealize.ShloMosaic.Lib.WordCmp

@[expose] public section

set_option maxRecDepth 16384

noncomputable section

namespace Cert.Pre_experts.Hand

open Cert.Pre_experts Cert.Pre_experts.Gen
open Idealize.ShloMosaic Idealize.ShloMosaic.TcCoe Idealize.ShloMosaic.WordCmp

variable {F : FTy → Type} [FloatOps F]

/-- A conjunction of two truth bits is true only when both are. -/
theorem both_one : ∀ a b : BitVec 1, IntOp.andi a b = 1#1 → a = 1#1 ∧ b = 1#1 := by decide

/-- A word between 0 and 31, read signed, is below 32 read unsigned. -/
theorem lt_of_cmp (a : BitVec 32) (h0 : IntOp.cmpi .sge a 0#32 = 1#1) (h1 : IntOp.cmpi .slt a 32#32 = 1#1) : a.toNat < 32 := by
  have e0 : (0#32 : BitVec 32).sle a = true := by
    cases h : (0#32 : BitVec 32).sle a
    · simp [IntOp.cmpi, h] at h0
    · rfl
  have e1 : a.slt 32#32 = true := by
    cases h : a.slt 32#32
    · simp [IntOp.cmpi, h] at h1
    · rfl
  have h2 := BitVec.sle_iff_toInt_le.1 e0
  have h3 := BitVec.slt_iff_toInt_lt.1 e1
  have z0 : (0#32 : BitVec 32).toInt = 0 := by decide
  have z1 : (32#32 : BitVec 32).toInt = 32 := by decide
  have := BitVec.toInt_eq_toNat_cond a
  have := a.isLt
  split at * <;> omega

/-- The precondition read back: every block's expert is below 32. -/
theorem experts_lt (be : IVec S1056 32) (nu : IVec S1 32) (x : FVec F S270336x1024 .bf16) (w : FVec F S32x1024x2048 .f32) (b : FVec F S32x2048 .f32)
    (w' : FVec F S32x1024x1024 .f32) (b' : FVec F S32x1024 .f32) (h : fn (F := F) be nu x w b w' b' = fun _ => 1#1) (n : S1056.Idx) : (be n).toNat < 32 := by
  have : Subsingleton S_.Idx := ⟨fun i j => funext fun a => a.elim0⟩
  have h0 := Host.reduce_andi_all _ _ _ _ _ (congrFun h ix0) n
  obtain ⟨h1, h2⟩ := both_one _ _ h0
  exact lt_of_cmp _ h1 h2

end Cert.Pre_experts.Hand

end
-- ==== Proof.ProjMath.Row.lean ====
/- One normalised row and its products with columns of weights, on extended reals. -/
module

public import Idealize.ShloMosaic.PureOps.Ideal

@[expose] public section

noncomputable section

namespace Cert.Proj.Math

open Idealize.ShloMosaic

/-- A row divided by the root of its mean square plus epsilon, times the weights of the norm. -/
def row (x g : Fin 1024 → EReal) (d : Fin 1024) : EReal :=
  x d * Ideal.rsqrt (Ideal.div (∑ k, x k * x k) (Ideal.ofBits .f32 0x44800000#32) + Ideal.ofBits .f32 0x358637BD#32) * g d

/-- The normalised row times one column of the weights. -/
def proj (x g w : Fin 1024 → EReal) : EReal := ∑ d, row x g d * w d

end Cert.Proj.Math

end
-- ==== Proof.ProjIdeal.Block.lean ====
/- The blocks one grid point of the projections' call writes, element by element, on extended reals. -/
module

public import proofs.«01_k».proof.Proof.Gen.ProjIdeal.Frame
public import proofs.«01_k».proof.Proof.ProjMath.Row
public import Idealize.ShloMosaic.Lib.Pointwise

@[expose] public section

set_option maxRecDepth 16384

noncomputable section

namespace Cert.ProjIdeal.Hand

open Cert.ProjIdeal.Gen Cert.Proj.Math
open Idealize.ShloMosaic Idealize.ShloMosaic.TcCoe

/-! ## The products -/

variable (x0 : Vec Ideal S1x320x1024 .f32) (x1 : Vec Ideal S1x1024 .f32) (p : Fin 320)

/-- A normalised row of the block. -/
theorem pay5_at (d : Fin 1024) : k0_pay5 x0 x1 (ix2 p d) = row (fun k => x0 (ix3 0 p k)) (fun k => x1 (ix2 0 k)) d := by
  pointwise [k0_pay5]
  rfl

variable (h : FVec Ideal S320x1024 .bf16)

/-- A row times a column of 512. -/
theorem pay39_at (w : Vec Ideal S1024x512 .bf16) (j : Fin 512) : k0_pay39 h w (ix3 0 p j) = ∑ d, h (ix2 p d) * w (ix2 d j) := by
  pointwise [k0_pay39, k0_pay38]
/-- A row times a column of 128. -/
theorem pay69_at (w : Vec Ideal S1024x128 .bf16) (j : Fin 128) : k0_pay69 h w (ix3 0 p j) = ∑ d, h (ix2 p d) * w (ix2 d j) := by
  pointwise [k0_pay69, k0_pay68]
/-- The sigmoid of a row times a column of the first gates. -/
theorem pay3_at (w : Vec Ideal S1024x1024 .bf16) (j : Fin 1024) : k0_pay3 h w (ix3 0 p j) = Ideal.logistic (∑ d, h (ix2 p d) * w (ix2 d j)) := by
  pointwise [k0_pay3]
/-- The sigmoid of a row times a column of the second gates. -/
theorem pay4_at (w : Vec Ideal S1024x1024 .bf16) (j : Fin 1024) : k0_pay4 h w (ix3 0 p j) = Ideal.logistic (∑ d, h (ix2 p d) * w (ix2 d j)) := by
  pointwise [k0_pay4]

/-! ## The loads -/

/-- A load of a whole block is the block. -/
theorem ld0 : View.ld x0 r0_0 = x0 := by
  funext y
  refine congrArg x0 (funext fun a => Fin.ext ?_)
  fin_cases a <;> exact by show 0 + 1 * _ = _; omega
/-- A load of a whole block is the block. -/
theorem ld1 : View.ld x1 r0_1 = x1 := by
  funext y
  refine congrArg x1 (funext fun a => Fin.ext ?_)
  fin_cases a <;> exact by show 0 + 1 * _ = _; omega

variable (x2 : Vec Ideal S1024x5504 .bf16) (x3 : Vec Ideal S320x1152 .f32)

/-- The columns of the first attention's values. -/
theorem ld17 (d : Fin 1024) (j : Fin 512) : View.ld x2 r0_17 (ix2 d j) = x2 (ix2 d ⟨1024 + j.val, by omega⟩) := by
  refine congrArg x2 (funext fun a => Fin.ext ?_)
  fin_cases a
  · show 0 + 1 * d.val = d.val; omega
  · show 1024 + 1 * j.val = 1024 + j.val; omega
/-- The columns of the second attention's values. -/
theorem ld30 (d : Fin 1024) (j : Fin 128) : View.ld x2 r0_30 (ix2 d j) = x2 (ix2 d ⟨2688 + j.val, by omega⟩) := by
  refine congrArg x2 (funext fun a => Fin.ext ?_)
  fin_cases a
  · show 0 + 1 * d.val = d.val; omega
  · show 2688 + 1 * j.val = 2688 + j.val; omega
/-- The columns of the first gates. -/
theorem ld36 (d j : Fin 1024) : View.ld x2 r0_36 (ix2 d j) = x2 (ix2 d ⟨3456 + j.val, by omega⟩) := by
  refine congrArg x2 (funext fun a => Fin.ext ?_)
  fin_cases a
  · show 0 + 1 * d.val = d.val; omega
  · show 3456 + 1 * j.val = 3456 + j.val; omega
/-- The columns of the second gates. -/
theorem ld37 (d j : Fin 1024) : View.ld x2 r0_37 (ix2 d j) = x2 (ix2 d ⟨4480 + j.val, by omega⟩) := by
  refine congrArg x2 (funext fun a => Fin.ext ?_)
  fin_cases a
  · show 0 + 1 * d.val = d.val; omega
  · show 4480 + 1 * j.val = 4480 + j.val; omega

/-! ## The blocks written -/

/-- A block stored whole in one piece is that piece. -/
theorem whole {s : Shape} {φ : EltTy} (r : Rect s) (P : Vec Ideal r.shape φ) (f : Vec Ideal s φ) (hf : ∀ z, P z = f (r.idx z))
    (y : s.Idx) (hy : ∃ pc ∈ ([⟨r, P⟩] : List (View.Piece (Elt Ideal) s φ)), y ∈ pc.1.set) :
    View.canon [⟨r, P⟩] y = f y := by
  refine View.canon_apply_of_pieces f _ ?_ y hy
  intro pc hpc
  rcases List.mem_cons.mp hpc with rfl | hpc
  · exact hf
  nomatch hpc

/-- The normalised rows the point computes. -/
theorem pay79_eq : k0_pay79 x0 x1 x2 x3 = k0_pay5 x0 x1 := by
  unfold k0_pay79
  rw [ld0, ld1]

/-- The block of the first attention's values. -/
theorem out7_at (j : Fin 512) : out0_7 x0 x1 x2 x3 (ix3 0 p j) =
    proj (fun k => x0 (ix3 0 p k)) (fun k => x1 (ix2 0 k)) (fun k => x2 (ix2 k ⟨1024 + j.val, by omega⟩)) := by
  unfold out0_7
  rw [pay79_eq]
  refine (whole r0_18 _ (k0_pay39 (k0_pay5 x0 x1) (View.ld x2 r0_17)) (fun z => congrArg _ (funext fun a => Fin.ext ?_)) _ (cover0_7 _ _)).trans ?_
  · fin_cases a <;> exact by show _ = 0 + 1 * _; omega
  rw [pay39_at]
  unfold proj
  exact Finset.sum_congr rfl fun d _ => by rw [pay5_at, ld17]
/-- The block of the second attention's values. -/
theorem out12_at (j : Fin 128) : out0_12 x0 x1 x2 x3 (ix3 0 p j) =
    proj (fun k => x0 (ix3 0 p k)) (fun k => x1 (ix2 0 k)) (fun k => x2 (ix2 k ⟨2688 + j.val, by omega⟩)) := by
  unfold out0_12
  rw [pay79_eq]
  refine (whole r0_29 _ (k0_pay69 (k0_pay5 x0 x1) (View.ld x2 r0_30)) (fun z => congrArg _ (funext fun a => Fin.ext ?_)) _ (cover0_12 _ _)).trans ?_
  · fin_cases a <;> exact by show _ = 0 + 1 * _; omega
  rw [pay69_at]
  unfold proj
  exact Finset.sum_congr rfl fun d _ => by rw [pay5_at, ld30]
/-- The block of the first gates. -/
theorem out17_at (j : Fin 1024) : out0_17 x0 x1 x2 x3 (ix3 0 p j) =
    Ideal.logistic (proj (fun k => x0 (ix3 0 p k)) (fun k => x1 (ix2 0 k)) (fun k => x2 (ix2 k ⟨3456 + j.val, by omega⟩))) := by
  unfold out0_17
  rw [pay79_eq]
  refine (whole r0_0 _ (k0_pay3 (k0_pay5 x0 x1) (View.ld x2 r0_36)) (fun z => congrArg (k0_pay3 (k0_pay5 x0 x1) (View.ld x2 r0_36)) (funext fun a => Fin.ext ?_)) _ (cover0_17 _ _)).trans ?_
  · fin_cases a <;> exact by show _ = 0 + 1 * _; omega
  rw [pay3_at]
  unfold proj
  exact congrArg _ (Finset.sum_congr rfl fun d _ => by rw [pay5_at, ld36])
/-- The block of the second gates. -/
theorem out18_at (j : Fin 1024) : out0_18 x0 x1 x2 x3 (ix3 0 p j) =
    Ideal.logistic (proj (fun k => x0 (ix3 0 p k)) (fun k => x1 (ix2 0 k)) (fun k => x2 (ix2 k ⟨4480 + j.val, by omega⟩))) := by
  unfold out0_18
  rw [pay79_eq]
  refine (whole r0_0 _ (k0_pay4 (k0_pay5 x0 x1) (View.ld x2 r0_37)) (fun z => congrArg (k0_pay4 (k0_pay5 x0 x1) (View.ld x2 r0_37)) (funext fun a => Fin.ext ?_)) _ (cover0_18 _ _)).trans ?_
  · fin_cases a <;> exact by show _ = 0 + 1 * _; omega
  rw [pay4_at]
  unfold proj
  exact congrArg _ (Finset.sum_congr rfl fun d _ => by rw [pay5_at, ld37])

end Cert.ProjIdeal.Hand

end
-- ==== Proof.ProjIdeal.Reads.lean ====
/- What each window's block of the projections' call holds, element by element, at a symbolic grid point. -/
module

public import proofs.«01_k».proof.Proof.ProjIdeal.Block
public import Idealize.ShloMosaic.Lib.Pipeline.Covers
public import Idealize.ShloMosaic.Lib.Pipeline.Value

@[expose] public section

set_option maxRecDepth 16384

noncomputable section

namespace Cert.ProjIdeal.Hand

open Cert.ProjIdeal.Gen Cert.Proj.Math
open Idealize.ShloMosaic Idealize.ShloMosaic.TcCoe Idealize.ShloMosaic.Tactic

/-! ## The index maps -/

/-- A small number written as a 32-bit word and read back is itself. -/
theorem word_nat {n : Nat} (h : n < 1024) : (BitVec.ofNat 32 n).toNat = n := by
  rw [BitVec.toNat_ofNat]; exact Nat.mod_eq_of_lt (by omega)
/-- The batch coordinate. -/
theorem c0_lt (i : grid0.Coords) : (i 0).val < 8 := (i 0).isLt
/-- The row block's coordinate. -/
theorem c1_lt (i : grid0.Coords) : (i 1).val < 26 := (i 1).isLt

/-- Where the block of the rows sits. -/
theorem map0 (i : grid0.Coords) : cc0_transform_0 i = ![(i 0).val, (i 1).val, 0] := by
  have h0 := c0_lt i; have h1 := c1_lt i
  funext a; fin_cases a
  · exact word_nat (show (i 0).val < 1024 by omega)
  · exact word_nat (show (i 1).val < 1024 by omega)
  · rfl
/-- Where the block of the first attention's values sits. -/
theorem map7 (i : grid0.Coords) : cc0_transform_7 i = ![(i 0).val, (i 1).val, 0] := by
  have h0 := c0_lt i; have h1 := c1_lt i
  funext a; fin_cases a
  · exact word_nat (show (i 0).val < 1024 by omega)
  · exact word_nat (show (i 1).val < 1024 by omega)
  · rfl
/-- Where the block of the second attention's values sits. -/
theorem map12 (i : grid0.Coords) : cc0_transform_12 i = ![(i 0).val, (i 1).val, 0] := by
  have h0 := c0_lt i; have h1 := c1_lt i
  funext a; fin_cases a
  · exact word_nat (show (i 0).val < 1024 by omega)
  · exact word_nat (show (i 1).val < 1024 by omega)
  · rfl
/-- Where the block of the first gates sits. -/
theorem map17 (i : grid0.Coords) : cc0_transform_17 i = ![(i 0).val, (i 1).val, 0] := by
  have h0 := c0_lt i; have h1 := c1_lt i
  funext a; fin_cases a
  · exact word_nat (show (i 0).val < 1024 by omega)
  · exact word_nat (show (i 1).val < 1024 by omega)
  · rfl
/-- Where the block of the second gates sits. -/
theorem map18 (i : grid0.Coords) : cc0_transform_18 i = ![(i 0).val, (i 1).val, 0] := by
  have h0 := c0_lt i; have h1 := c1_lt i
  funext a; fin_cases a
  · exact word_nat (show (i 0).val < 1024 by omega)
  · exact word_nat (show (i 1).val < 1024 by omega)
  · rfl
/-- Where the block of the norm's weights sits. -/
theorem map1 (i : grid0.Coords) : cc0_transform_1 i = ![0, 0] := rfl
/-- Where the block of the projections' weights sits. -/
theorem map2 (i : grid0.Coords) : cc0_transform_2 i = ![0, 0] := rfl

/-- A block of size one starts at its index. -/
theorem place_one (n : Nat) : n * 1 + 1 * 0 = n := by omega
/-- The first block starts at zero. -/
theorem place_zero (s j : Nat) : 0 * s + 1 * j = j := by omega
/-- An element's place: its block's index times the block's size, plus its own. -/
theorem place (n s j : Nat) : n * s + 1 * j = n * s + j := by omega

/-! ## The weights as the call finds them -/

variable (m : (ℓ : Loc nD τ sig) → Buf (Elt Ideal) ℓ) (c : Dev nD)

/-- The norm's weights with a unit axis. -/
theorem V_v129 : V m c main_v129 = shapeCast S1x1024 (m ((c.tc : Thread nD τ).loc main_arg2)) shapeCasts_S1024_S1x1024 := by
  show StableHlo.after hostOps0 _ (Proc.devRef .tc main_v129) = _
  after_results_simp
  rfl
/-- Columns 1024 to 1535 of the weights. -/
theorem V_v2 : V m c main_v2 = extractStridedSlice S1024x512 ![0, 1024] (m ((c.tc : Thread nD τ).loc main_arg3)) slices_S1024x4648_S1024x512_0_1024 := by
  show StableHlo.after hostOps0 _ (Proc.devRef .tc main_v2) = _
  after_results_simp
/-- Columns 2176 to 2303 of the weights. -/
theorem V_v5 : V m c main_v5 = extractStridedSlice S1024x128 ![0, 2176] (m ((c.tc : Thread nD τ).loc main_arg3)) slices_S1024x4648_S1024x128_0_2176 := by
  show StableHlo.after hostOps0 _ (Proc.devRef .tc main_v5) = _
  after_results_simp
/-- Columns 2600 to 3623 of the weights. -/
theorem V_v9 : V m c main_v9 = extractStridedSlice S1024x1024 ![0, 2600] (m ((c.tc : Thread nD τ).loc main_arg3)) slices_S1024x4648_S1024x1024_0_2600 := by
  show StableHlo.after hostOps0 _ (Proc.devRef .tc main_v9) = _
  after_results_simp
/-- Columns 3624 to 4647 of the weights. -/
theorem V_v10 : V m c main_v10 = extractStridedSlice S1024x1024 ![0, 3624] (m ((c.tc : Thread nD τ).loc main_arg3)) slices_S1024x4648_S1024x1024_0_3624 := by
  show StableHlo.after hostOps0 _ (Proc.devRef .tc main_v10) = _
  after_results_simp
/-- The first half of the columns the call reads, piece by piece. -/
theorem V_v25 : V m c main_v25 = concatenate S1024x2368 1 [⟨S1024x512, V m c main_v0⟩, ⟨S1024x512, V m c main_v1⟩, ⟨S1024x512, V m c main_v2⟩, ⟨S1024x64, V m c main_v12⟩, ⟨S1024x64, V m c main_v11⟩, ⟨S1024x64, V m c main_v13⟩, ⟨S1024x64, V m c main_v11⟩, ⟨S1024x64, V m c main_v14⟩, ⟨S1024x64, V m c main_v11⟩, ⟨S1024x64, V m c main_v15⟩, ⟨S1024x64, V m c main_v11⟩, ⟨S1024x64, V m c main_v11⟩, ⟨S1024x64, V m c main_v16⟩, ⟨S1024x64, V m c main_v11⟩, ⟨S1024x64, V m c main_v17⟩, ⟨S1024x64, V m c main_v11⟩] concatenates_S1024x512_S1024x512_S1024x512_S1024x64_S1024x64_S1024x64_S1024x64_S1024x64_S1024x64_S1024x64_S1024x64_S1024x64_S1024x64_S1024x64_S1024x64_S1024x64_S1024x2368_d1 := by
  show StableHlo.after hostOps0 (fun b => m (c, b)) (Proc.devRef .tc main_v25) = concatenate S1024x2368 1 [⟨S1024x512, StableHlo.after hostOps0 (fun b => m (c, b)) (Proc.devRef .tc main_v0)⟩, ⟨S1024x512, StableHlo.after hostOps0 (fun b => m (c, b)) (Proc.devRef .tc main_v1)⟩, ⟨S1024x512, StableHlo.after hostOps0 (fun b => m (c, b)) (Proc.devRef .tc main_v2)⟩, ⟨S1024x64, StableHlo.after hostOps0 (fun b => m (c, b)) (Proc.devRef .tc main_v12)⟩, ⟨S1024x64, StableHlo.after hostOps0 (fun b => m (c, b)) (Proc.devRef .tc main_v11)⟩, ⟨S1024x64, StableHlo.after hostOps0 (fun b => m (c, b)) (Proc.devRef .tc main_v13)⟩, ⟨S1024x64, StableHlo.after hostOps0 (fun b => m (c, b)) (Proc.devRef .tc main_v11)⟩, ⟨S1024x64, StableHlo.after hostOps0 (fun b => m (c, b)) (Proc.devRef .tc main_v14)⟩, ⟨S1024x64, StableHlo.after hostOps0 (fun b => m (c, b)) (Proc.devRef .tc main_v11)⟩, ⟨S1024x64, StableHlo.after hostOps0 (fun b => m (c, b)) (Proc.devRef .tc main_v15)⟩, ⟨S1024x64, StableHlo.after hostOps0 (fun b => m (c, b)) (Proc.devRef .tc main_v11)⟩, ⟨S1024x64, StableHlo.after hostOps0 (fun b => m (c, b)) (Proc.devRef .tc main_v11)⟩, ⟨S1024x64, StableHlo.after hostOps0 (fun b => m (c, b)) (Proc.devRef .tc main_v16)⟩, ⟨S1024x64, StableHlo.after hostOps0 (fun b => m (c, b)) (Proc.devRef .tc main_v11)⟩, ⟨S1024x64, StableHlo.after hostOps0 (fun b => m (c, b)) (Proc.devRef .tc main_v17)⟩, ⟨S1024x64, StableHlo.after hostOps0 (fun b => m (c, b)) (Proc.devRef .tc main_v11)⟩] concatenates_S1024x512_S1024x512_S1024x512_S1024x64_S1024x64_S1024x64_S1024x64_S1024x64_S1024x64_S1024x64_S1024x64_S1024x64_S1024x64_S1024x64_S1024x64_S1024x64_S1024x2368_d1
  after_results_simp
  rfl
/-- The second half of the columns the call reads, piece by piece. -/
theorem V_v26 : V m c main_v26 = concatenate S1024x3136 1 [⟨S1024x64, V m c main_v18⟩, ⟨S1024x64, V m c main_v11⟩, ⟨S1024x64, V m c main_v19⟩, ⟨S1024x128, V m c main_v4⟩, ⟨S1024x128, V m c main_v5⟩, ⟨S1024x256, V m c main_v6⟩, ⟨S1024x128, V m c main_v21⟩, ⟨S1024x256, V m c main_v24⟩, ⟨S1024x1024, V m c main_v9⟩, ⟨S1024x1024, V m c main_v10⟩] concatenates_S1024x64_S1024x64_S1024x64_S1024x128_S1024x128_S1024x256_S1024x128_S1024x256_S1024x1024_S1024x1024_S1024x3136_d1 := by
  show StableHlo.after hostOps0 (fun b => m (c, b)) (Proc.devRef .tc main_v26) = concatenate S1024x3136 1 [⟨S1024x64, StableHlo.after hostOps0 (fun b => m (c, b)) (Proc.devRef .tc main_v18)⟩, ⟨S1024x64, StableHlo.after hostOps0 (fun b => m (c, b)) (Proc.devRef .tc main_v11)⟩, ⟨S1024x64, StableHlo.after hostOps0 (fun b => m (c, b)) (Proc.devRef .tc main_v19)⟩, ⟨S1024x128, StableHlo.after hostOps0 (fun b => m (c, b)) (Proc.devRef .tc main_v4)⟩, ⟨S1024x128, StableHlo.after hostOps0 (fun b => m (c, b)) (Proc.devRef .tc main_v5)⟩, ⟨S1024x256, StableHlo.after hostOps0 (fun b => m (c, b)) (Proc.devRef .tc main_v6)⟩, ⟨S1024x128, StableHlo.after hostOps0 (fun b => m (c, b)) (Proc.devRef .tc main_v21)⟩, ⟨S1024x256, StableHlo.after hostOps0 (fun b => m (c, b)) (Proc.devRef .tc main_v24)⟩, ⟨S1024x1024, StableHlo.after hostOps0 (fun b => m (c, b)) (Proc.devRef .tc main_v9)⟩, ⟨S1024x1024, StableHlo.after hostOps0 (fun b => m (c, b)) (Proc.devRef .tc main_v10)⟩] concatenates_S1024x64_S1024x64_S1024x64_S1024x128_S1024x128_S1024x256_S1024x128_S1024x256_S1024x1024_S1024x1024_S1024x3136_d1
  after_results_simp
  rfl
/-- The columns the call reads: the two halves; the change of format keeps every value. -/
theorem V_v28 : V m c main_v28 = concatenate S1024x5504 1 [⟨S1024x2368, V m c main_v25⟩, ⟨S1024x3136, V m c main_v26⟩] concatenates_S1024x2368_S1024x3136_S1024x5504_d1 := by
  show StableHlo.after hostOps0 (fun b => m (c, b)) (Proc.devRef .tc main_v28) = concatenate S1024x5504 1 [⟨S1024x2368, StableHlo.after hostOps0 (fun b => m (c, b)) (Proc.devRef .tc main_v25)⟩, ⟨S1024x3136, StableHlo.after hostOps0 (fun b => m (c, b)) (Proc.devRef .tc main_v26)⟩] concatenates_S1024x2368_S1024x3136_S1024x5504_d1
  after_results_simp
  rfl

/-- The columns of the first attention's values, from where the weights have them. -/
theorem va_col (d : Fin 1024) (j : Fin 512) :
    V m c main_v28 (ix2 d ⟨1024 + j.val, by omega⟩) = m ((c.tc : Thread nD τ).loc main_arg3) (ix2 d ⟨1024 + j.val, by omega⟩) := by
  have e1 := concatenate_apply_piece (t := S1024x5504) 1 [⟨S1024x2368, V m c main_v25⟩, ⟨S1024x3136, V m c main_v26⟩] concatenates_S1024x2368_S1024x3136_S1024x5504_d1
    (ix2 d ⟨1024 + j.val, by omega⟩) 0 (by exact (by decide : 0 < 2)) S1024x2368 (V m c main_v25) rfl rfl 0 rfl
    (ix2 d ⟨1024 + j.val, by omega⟩) (fun b hb => by
      fin_cases b
      · rfl
      · exact absurd rfl hb) (by show 0 + (1024 + j.val) = 1024 + j.val; omega)
  have e2 := concatenate_apply_piece (t := S1024x2368) 1 [⟨S1024x512, V m c main_v0⟩, ⟨S1024x512, V m c main_v1⟩, ⟨S1024x512, V m c main_v2⟩, ⟨S1024x64, V m c main_v12⟩, ⟨S1024x64, V m c main_v11⟩, ⟨S1024x64, V m c main_v13⟩, ⟨S1024x64, V m c main_v11⟩, ⟨S1024x64, V m c main_v14⟩, ⟨S1024x64, V m c main_v11⟩, ⟨S1024x64, V m c main_v15⟩, ⟨S1024x64, V m c main_v11⟩, ⟨S1024x64, V m c main_v11⟩, ⟨S1024x64, V m c main_v16⟩, ⟨S1024x64, V m c main_v11⟩, ⟨S1024x64, V m c main_v17⟩, ⟨S1024x64, V m c main_v11⟩] concatenates_S1024x512_S1024x512_S1024x512_S1024x64_S1024x64_S1024x64_S1024x64_S1024x64_S1024x64_S1024x64_S1024x64_S1024x64_S1024x64_S1024x64_S1024x64_S1024x64_S1024x2368_d1
    (ix2 d ⟨1024 + j.val, by omega⟩) 2 (by exact (by decide : 2 < 16)) S1024x512 (V m c main_v2) rfl rfl 1024 rfl
    (ix2 d j) (fun b hb => by
      fin_cases b
      · rfl
      · exact absurd rfl hb) rfl
  refine (congrFun (V_v28 m c) _).trans (e1.trans ((congrFun (V_v25 m c) _).trans (e2.trans ((congrFun (V_v2 m c) _).trans ?_))))
  pointwise []
/-- The columns of the second attention's values, from where the weights have them. -/
theorem vb_col (d : Fin 1024) (j : Fin 128) :
    V m c main_v28 (ix2 d ⟨2688 + j.val, by omega⟩) = m ((c.tc : Thread nD τ).loc main_arg3) (ix2 d ⟨2176 + j.val, by omega⟩) := by
  have e1 := concatenate_apply_piece (t := S1024x5504) 1 [⟨S1024x2368, V m c main_v25⟩, ⟨S1024x3136, V m c main_v26⟩] concatenates_S1024x2368_S1024x3136_S1024x5504_d1
    (ix2 d ⟨2688 + j.val, by omega⟩) 1 (by exact (by decide : 1 < 2)) S1024x3136 (V m c main_v26) rfl rfl 2368 rfl
    (ix2 d ⟨320 + j.val, by omega⟩) (fun b hb => by
      fin_cases b
      · rfl
      · exact absurd rfl hb) (by show 2368 + (320 + j.val) = 2688 + j.val; omega)
  have e2 := concatenate_apply_piece (t := S1024x3136) 1 [⟨S1024x64, V m c main_v18⟩, ⟨S1024x64, V m c main_v11⟩, ⟨S1024x64, V m c main_v19⟩, ⟨S1024x128, V m c main_v4⟩, ⟨S1024x128, V m c main_v5⟩, ⟨S1024x256, V m c main_v6⟩, ⟨S1024x128, V m c main_v21⟩, ⟨S1024x256, V m c main_v24⟩, ⟨S1024x1024, V m c main_v9⟩, ⟨S1024x1024, V m c main_v10⟩] concatenates_S1024x64_S1024x64_S1024x64_S1024x128_S1024x128_S1024x256_S1024x128_S1024x256_S1024x1024_S1024x1024_S1024x3136_d1
    (ix2 d ⟨320 + j.val, by omega⟩) 4 (by exact (by decide : 4 < 10)) S1024x128 (V m c main_v5) rfl rfl 320 rfl
    (ix2 d j) (fun b hb => by
      fin_cases b
      · rfl
      · exact absurd rfl hb) rfl
  refine (congrFun (V_v28 m c) _).trans (e1.trans ((congrFun (V_v26 m c) _).trans (e2.trans ((congrFun (V_v5 m c) _).trans ?_))))
  pointwise []
/-- The columns of the first gates, from where the weights have them. -/
theorem ga_col (d : Fin 1024) (j : Fin 1024) :
    V m c main_v28 (ix2 d ⟨3456 + j.val, by omega⟩) = m ((c.tc : Thread nD τ).loc main_arg3) (ix2 d ⟨2600 + j.val, by omega⟩) := by
  have e1 := concatenate_apply_piece (t := S1024x5504) 1 [⟨S1024x2368, V m c main_v25⟩, ⟨S1024x3136, V m c main_v26⟩] concatenates_S1024x2368_S1024x3136_S1024x5504_d1
    (ix2 d ⟨3456 + j.val, by omega⟩) 1 (by exact (by decide : 1 < 2)) S1024x3136 (V m c main_v26) rfl rfl 2368 rfl
    (ix2 d ⟨1088 + j.val, by omega⟩) (fun b hb => by
      fin_cases b
      · rfl
      · exact absurd rfl hb) (by show 2368 + (1088 + j.val) = 3456 + j.val; omega)
  have e2 := concatenate_apply_piece (t := S1024x3136) 1 [⟨S1024x64, V m c main_v18⟩, ⟨S1024x64, V m c main_v11⟩, ⟨S1024x64, V m c main_v19⟩, ⟨S1024x128, V m c main_v4⟩, ⟨S1024x128, V m c main_v5⟩, ⟨S1024x256, V m c main_v6⟩, ⟨S1024x128, V m c main_v21⟩, ⟨S1024x256, V m c main_v24⟩, ⟨S1024x1024, V m c main_v9⟩, ⟨S1024x1024, V m c main_v10⟩] concatenates_S1024x64_S1024x64_S1024x64_S1024x128_S1024x128_S1024x256_S1024x128_S1024x256_S1024x1024_S1024x1024_S1024x3136_d1
    (ix2 d ⟨1088 + j.val, by omega⟩) 8 (by exact (by decide : 8 < 10)) S1024x1024 (V m c main_v9) rfl rfl 1088 rfl
    (ix2 d j) (fun b hb => by
      fin_cases b
      · rfl
      · exact absurd rfl hb) rfl
  refine (congrFun (V_v28 m c) _).trans (e1.trans ((congrFun (V_v26 m c) _).trans (e2.trans ((congrFun (V_v9 m c) _).trans ?_))))
  pointwise []
/-- The columns of the second gates, from where the weights have them. -/
theorem gb_col (d : Fin 1024) (j : Fin 1024) :
    V m c main_v28 (ix2 d ⟨4480 + j.val, by omega⟩) = m ((c.tc : Thread nD τ).loc main_arg3) (ix2 d ⟨3624 + j.val, by omega⟩) := by
  have e1 := concatenate_apply_piece (t := S1024x5504) 1 [⟨S1024x2368, V m c main_v25⟩, ⟨S1024x3136, V m c main_v26⟩] concatenates_S1024x2368_S1024x3136_S1024x5504_d1
    (ix2 d ⟨4480 + j.val, by omega⟩) 1 (by exact (by decide : 1 < 2)) S1024x3136 (V m c main_v26) rfl rfl 2368 rfl
    (ix2 d ⟨2112 + j.val, by omega⟩) (fun b hb => by
      fin_cases b
      · rfl
      · exact absurd rfl hb) (by show 2368 + (2112 + j.val) = 4480 + j.val; omega)
  have e2 := concatenate_apply_piece (t := S1024x3136) 1 [⟨S1024x64, V m c main_v18⟩, ⟨S1024x64, V m c main_v11⟩, ⟨S1024x64, V m c main_v19⟩, ⟨S1024x128, V m c main_v4⟩, ⟨S1024x128, V m c main_v5⟩, ⟨S1024x256, V m c main_v6⟩, ⟨S1024x128, V m c main_v21⟩, ⟨S1024x256, V m c main_v24⟩, ⟨S1024x1024, V m c main_v9⟩, ⟨S1024x1024, V m c main_v10⟩] concatenates_S1024x64_S1024x64_S1024x64_S1024x128_S1024x128_S1024x256_S1024x128_S1024x256_S1024x1024_S1024x1024_S1024x3136_d1
    (ix2 d ⟨2112 + j.val, by omega⟩) 9 (by exact (by decide : 9 < 10)) S1024x1024 (V m c main_v10) rfl rfl 2112 rfl
    (ix2 d j) (fun b hb => by
      fin_cases b
      · rfl
      · exact absurd rfl hb) rfl
  refine (congrFun (V_v28 m c) _).trans (e1.trans ((congrFun (V_v26 m c) _).trans (e2.trans ((congrFun (V_v10 m c) _).trans ?_))))
  pointwise []

/-! ## The blocks -/

variable (t : Fin cfg0.N)

/-- The batch of point `t`. -/
abbrev bat : Fin 8 := grid0.coords t 0
/-- The row block of point `t`. -/
abbrev rb : Fin 26 := grid0.coords t 1

/-- The rows' block. -/
theorem x_at (p : Fin 320) (k : Fin 1024) :
    iblk m c 0 t (ix3 0 p k) = m ((c.tc : Thread nD τ).loc main_arg0) (ix3 (bat t) ⟨(rb t).val * 320 + p.val, by have := (rb t).isLt; omega⟩ k) := by
  have e1 := map0 (grid0.coords t)
  refine Eq.trans ?_ (congrFun (V_main_arg0 m c) _)
  refine congrArg (V m c main_arg0) (funext fun a => Fin.ext ?_)
  fin_cases a
  · show cc0_transform_0 (grid0.coords t) 0 * 1 + 1 * 0 = (bat t).val
    rw [e1]; exact place_one _
  · show cc0_transform_0 (grid0.coords t) 1 * 320 + 1 * p.val = (rb t).val * 320 + p.val
    rw [e1]; exact place _ _ _
  · show cc0_transform_0 (grid0.coords t) 2 * 1024 + 1 * k.val = k.val
    rw [e1]; exact place_zero _ _

/-- A unit axis in front keeps the entries. -/
theorem front (x : FVec Ideal S1024 .f32) (k : Fin 1024) : shapeCast S1x1024 x shapeCasts_S1024_S1x1024 (ix2 0 k) = x (ix1 k) := by
  pointwise []

/-- The norm's weights' block. -/
theorem g_at (k : Fin 1024) : iblk m c 1 t (ix2 0 k) = m ((c.tc : Thread nD τ).loc main_arg2) (ix1 k) := by
  refine Eq.trans ?_ ((congrFun (V_v129 m c) (ix2 0 k)).trans (front _ _))
  refine congrArg (V m c main_v129) (funext fun a => Fin.ext ?_)
  fin_cases a
  · rfl
  · show 0 * 1024 + 1 * k.val = k.val
    exact place_zero _ _

/-- The projections' weights' block is all of them. -/
theorem w_at (d : Fin 1024) (j : Fin 5504) : iblk m c 2 t (ix2 d j) = V m c main_v28 (ix2 d j) := by
  refine congrArg (V m c main_v28) (funext fun a => Fin.ext ?_)
  fin_cases a
  · show 0 * 1024 + 1 * d.val = d.val
    exact place_zero _ _
  · show 0 * 5504 + 1 * j.val = j.val
    exact place_zero _ _

end Cert.ProjIdeal.Hand

end
-- ==== Proof.ProjRef.Stages.lean ====
/- The reference projections cut into named stages, and each stage read at an index. -/
module

public import proofs.«01_k».proof.Proof.Gen.ProjRefIdeal.Run
public import proofs.«01_k».proof.Proof.ProjMath.Row
public import Idealize.ShloMosaic.Lib.Pointwise

@[expose] public section

set_option maxRecDepth 16384

noncomputable section

namespace Cert.ProjRefIdeal.Hand

open Cert.ProjRefIdeal Cert.ProjRefIdeal.Gen Cert.Proj.Math
open Idealize.ShloMosaic Idealize.ShloMosaic.TcCoe

variable (x : FVec Ideal S8x8320x1024 .f32) (g : FVec Ideal S1024 .f32) (w : FVec Ideal S1024x4648 .f32)

/-- The normalised rows. -/
def hR : FVec Ideal S8x8320x1024 .f32 :=
  mulf (mulf x (broadcastInDim S8x8320x1024 ![0, 1, 2] bcast_S8x8320x1_S8x8320x1024_0_1_2 (Host.rsqrt (addf (Host.divf (broadcastInDim S8x8320x1 ![0, 1] bcast_S8x8320_S8x8320x1_0_1 (Host.reduceAdd (mulf x x) (constant S_ .f32 0x00000000#32) reducesTo_S8x8320x1024_S8x8320_d2 h_S_)) (broadcastInDim S8x8320x1 ![] bcast_S_S8x8320x1 (constant S_ .f32 0x44800000#32))) (broadcastInDim S8x8320x1 ![] bcast_S_S8x8320x1 (constant S_ .f32 0x358637BD#32)))))) (broadcastInDim S8x8320x1024 ![0, 1, 2] bcast_S1x1x1024_S8x8320x1024_0_1_2 (broadcastInDim S1x1x1024 ![2] bcast_S1024_S1x1x1024_2 g))
/-- All the products. -/
def zR : FVec Ideal S8x8320x4648 .f32 :=
  Host.dotGeneral dot_S8x8320x1024_S1024x4648_S8x8320x4648_2_0_01_1_n_n none (hR x g) w
/-- The first attention's values. -/
def vaR : FVec Ideal S8x8320x512 .f32 := extractStridedSlice S8x8320x512 ![0, 0, 1024] (zR x g w) slices_S8x8320x4648_S8x8320x512_0_0_1024
/-- The second attention's values. -/
def vbR : FVec Ideal S8x8320x128 .f32 := extractStridedSlice S8x8320x128 ![0, 0, 2176] (zR x g w) slices_S8x8320x4648_S8x8320x128_0_0_2176
/-- A sigmoid, spelt out. -/
def sigR (z : FVec Ideal S8x8320x1024 .f32) : FVec Ideal S8x8320x1024 .f32 :=
  Host.divf (broadcastInDim S8x8320x1024 ![] bcast_S_S8x8320x1024 (constant S_ .f32 0x3F800000#32)) (addf (broadcastInDim S8x8320x1024 ![] bcast_S_S8x8320x1024 (constant S_ .f32 0x3F800000#32)) (Host.exp (Host.negf z)))
/-- The first attention's gates. -/
def gaR : FVec Ideal S8x8320x1024 .f32 := sigR (extractStridedSlice S8x8320x1024 ![0, 0, 2600] (zR x g w) slices_S8x8320x4648_S8x8320x1024_0_0_2600)
/-- The second attention's gates. -/
def gbR : FVec Ideal S8x8320x1024 .f32 := sigR (extractStridedSlice S8x8320x1024 ![0, 0, 3624] (zR x g w) slices_S8x8320x4648_S8x8320x1024_0_0_3624)

variable (b : Fin 8) (n : Fin 8320)

/-- A normalised row. -/
theorem hR_at (d : Fin 1024) : hR x g (ix3 b n d) = row (fun k => x (ix3 b n k)) (fun k => g (ix1 k)) d := by
  pointwise [hR]
  rfl

/-- A product. -/
theorem zR_at (j : Fin 4648) : zR x g w (ix3 b n j) = proj (fun k => x (ix3 b n k)) (fun k => g (ix1 k)) (fun k => w (ix2 k j)) := by
  have e : zR x g w (ix3 b n j) = ∑ d, hR x g (ix3 b n d) * w (ix2 d j) := by
    pointwise [zR]
  rw [e]
  unfold proj
  exact Finset.sum_congr rfl fun d _ => by rw [hR_at]

/-- A sigmoid at an index. -/
theorem sigR_at (z : FVec Ideal S8x8320x1024 .f32) (j : Fin 1024) : sigR z (ix3 b n j) = Ideal.logistic (z (ix3 b n j)) := by
  pointwise [sigR]
  rfl

/-- The first attention's values at an index. -/
theorem vaR_at (j : Fin 512) : vaR x g w (ix3 b n j) = zR x g w (ix3 b n ⟨1024 + j.val, by omega⟩) := by
  pointwise [vaR]
/-- The second attention's values at an index. -/
theorem vbR_at (j : Fin 128) : vbR x g w (ix3 b n j) = zR x g w (ix3 b n ⟨2176 + j.val, by omega⟩) := by
  pointwise [vbR]
/-- The first attention's gates at an index. -/
theorem gaR_at (j : Fin 1024) : gaR x g w (ix3 b n j) = Ideal.logistic (zR x g w (ix3 b n ⟨2600 + j.val, by omega⟩)) := by
  unfold gaR
  rw [sigR_at]
  refine congrArg Ideal.logistic ?_
  pointwise []
/-- The second attention's gates at an index. -/
theorem gbR_at (j : Fin 1024) : gbR x g w (ix3 b n j) = Ideal.logistic (zR x g w (ix3 b n ⟨3624 + j.val, by omega⟩)) := by
  unfold gbR
  rw [sigR_at]
  refine congrArg Ideal.logistic ?_
  pointwise []

end Cert.ProjRefIdeal.Hand

end
-- ==== Proof.ProjIdeal.Value.lean ====
/- The four results the projections' call leaves, and the reference's, as the same arrays of extended reals. -/
module

public import proofs.«01_k».proof.Proof.ProjIdeal.Reads
public import proofs.«01_k».proof.Proof.ProjRef.Stages

@[expose] public section

set_option maxRecDepth 16384

noncomputable section

namespace Cert.ProjIdeal.Hand

open Cert.ProjIdeal.Gen Cert.Proj.Math
open Idealize.ShloMosaic Idealize.ShloMosaic.TcCoe

variable (m : (ℓ : Loc nD τ sig) → Buf (Elt Ideal) ℓ) (c : Dev nD)

/-! ## The first attention's values -/

/-- What the call leaves in the first attention's values. -/
def res7 : S8x8320x512.Idx → EReal := fun y =>
  proj (fun k => m ((c.tc : Thread nD τ).loc main_arg0) (ix3 (y 0) (y 1) k)) (fun k => m ((c.tc : Thread nD τ).loc main_arg2) (ix1 k)) (fun k => m ((c.tc : Thread nD τ).loc main_arg3) (ix2 k ⟨1024 + (y 2).val, by have h : (y 2).val < 512 := (y 2).isLt; omega⟩))

/-- The window's blocks fill the array. -/
theorem covers7 : (cfg0.win 7).Covers := by
  refine Pipeline.Window.covers_of_indexMap_surj _ rfl (by decide) fun β => ?_
  have h0 : (β 0).val < 8 := (β 0).isLt
  have h1 : (β 1).val < 26 := (β 1).isLt
  have h2 : (β 2).val < 1 := (β 2).isLt
  let i : grid0.Coords := fun | 0 => ⟨(β 0).val, h0⟩ | 1 => ⟨(β 1).val, h1⟩
  refine ⟨i, fun a => ?_⟩
  have e : cc0_transform_7 i = ![(i 0).val, (i 1).val, 0] := map7 i
  refine (congrFun e a).trans ?_
  fin_cases a
  · rfl
  · rfl
  · show 0 = (β 2).val
    omega

variable (t : Fin cfg0.N)

/-- What a point leaves in its block. -/
theorem blk7 (p : Fin 320) (j : Fin 512) (n : Fin 8320) (hn : n.val = (rb t).val * 320 + p.val) :
    out0_7 (iblk m c 0 t) (iblk m c 1 t) (iblk m c 2 t) (iblk m c 3 t) (ix3 0 p j) = res7 m c (ix3 (bat t) n j) := by
  have hr : (rb t).val < 26 := (rb t).isLt
  have e0 : n = ⟨(rb t).val * 320 + p.val, by omega⟩ := Fin.ext hn
  rw [e0]
  refine (out7_at (iblk m c 0 t) (iblk m c 1 t) p (iblk m c 2 t) (iblk m c 3 t) j).trans ?_
  unfold res7
  rw [funext (x_at m c t p), funext (g_at m c t), funext fun k => (w_at m c t k ⟨1024 + j.val, by omega⟩).trans (va_col m c k j)]
  rfl

/-- Where an element of the block sits in the array. -/
theorem emb7 (y : ((cfg0.win 7).xblock (cfg0.grid.coords t)).Idx) (p : Fin 320) (hp : p = y 1) (j : Fin 512) (hj : j = y 2) (n : Fin 8320) (hn : n.val = (rb t).val * 320 + p.val) :
    ((cfg0.win 7).blk t).view.emb y = (ix3 (bat t) n j : S8x8320x512.Idx) := by
  have hy0 : y 0 = (0 : Fin 1) := Subsingleton.elim (α := Fin 1) _ _
  have e1 : cc0_transform_7 (grid0.coords t) = _ := map7 (grid0.coords t)
  funext a; apply Fin.ext
  fin_cases a
  · show cc0_transform_7 (grid0.coords t) 0 * 1 + 1 * (y 0).val = (bat t).val
    rw [e1, hy0]; exact place_one _
  · show cc0_transform_7 (grid0.coords t) 1 * 320 + 1 * (y 1).val = n.val
    rw [e1, ← hp, hn]; exact place _ _ _
  · show cc0_transform_7 (grid0.coords t) 2 * 512 + 1 * (y 2).val = j.val
    rw [e1, ← hj]; exact place_zero _ _

/-- An element of the block, as the block's own index. -/
theorem inj7 (y : ((cfg0.win 7).xblock (cfg0.grid.coords t)).Idx) (p : Fin 320) (hp : p = y 1) (j : Fin 512) (hj : j = y 2) :
    (cfg0.win 7).xinj (cfg0.grid.coords t) y = (ix3 0 p j : S1x320x512.Idx) := by
  have hy0 : y 0 = (0 : Fin 1) := Subsingleton.elim (α := Fin 1) _ _
  funext a; fin_cases a
  · exact hy0
  · exact hp.symm
  · exact hj.symm

/-- The array the call leaves. -/
theorem arr_eq7 : (dats m 0 c).arrAt 7 cfg0.N = res7 m c := by
  refine (dats m 0 c).arrAt_eq_of_covers 7 _ covers7 fun t hf y => ?_
  obtain ⟨p, hp⟩ : ∃ p : Fin 320, p = y 1 := ⟨_, rfl⟩
  obtain ⟨j, hj⟩ : ∃ j : Fin 512, j = y 2 := ⟨_, rfl⟩
  have hr : (rb t).val < 26 := (rb t).isLt
  rw [after0_7]
  rw [inj7 t y p hp j hj, emb7 t y p hp j hj ⟨(rb t).val * 320 + p.val, by omega⟩ rfl]
  exact (cast_eq _ _).trans (blk7 m c t p j _ rfl)

/-- The reference's values are the same. -/
theorem ref_eq7 : Cert.ProjRefIdeal.Hand.vaR (m ((c.tc : Thread nD τ).loc main_arg0)) (m ((c.tc : Thread nD τ).loc main_arg2)) (m ((c.tc : Thread nD τ).loc main_arg3)) = res7 m c := by
  funext y
  obtain ⟨b, n, j, rfl⟩ : ∃ (b : Fin 8) (n : Fin 8320) (j : Fin 512), y = ix3 b n j := ⟨y 0, y 1, y 2, by funext a; fin_cases a <;> rfl⟩
  refine (Cert.ProjRefIdeal.Hand.vaR_at _ _ _ b n j).trans ?_
  rw [Cert.ProjRefIdeal.Hand.zR_at]
  rfl

/-! ## The second attention's values -/

/-- What the call leaves in the second attention's values. -/
def res12 : S8x8320x128.Idx → EReal := fun y =>
  proj (fun k => m ((c.tc : Thread nD τ).loc main_arg0) (ix3 (y 0) (y 1) k)) (fun k => m ((c.tc : Thread nD τ).loc main_arg2) (ix1 k)) (fun k => m ((c.tc : Thread nD τ).loc main_arg3) (ix2 k ⟨2176 + (y 2).val, by have h : (y 2).val < 128 := (y 2).isLt; omega⟩))

/-- The window's blocks fill the array. -/
theorem covers12 : (cfg0.win 12).Covers := by
  refine Pipeline.Window.covers_of_indexMap_surj _ rfl (by decide) fun β => ?_
  have h0 : (β 0).val < 8 := (β 0).isLt
  have h1 : (β 1).val < 26 := (β 1).isLt
  have h2 : (β 2).val < 1 := (β 2).isLt
  let i : grid0.Coords := fun | 0 => ⟨(β 0).val, h0⟩ | 1 => ⟨(β 1).val, h1⟩
  refine ⟨i, fun a => ?_⟩
  have e : cc0_transform_12 i = ![(i 0).val, (i 1).val, 0] := map12 i
  refine (congrFun e a).trans ?_
  fin_cases a
  · rfl
  · rfl
  · show 0 = (β 2).val
    omega

variable (t : Fin cfg0.N)

/-- What a point leaves in its block. -/
theorem blk12 (p : Fin 320) (j : Fin 128) (n : Fin 8320) (hn : n.val = (rb t).val * 320 + p.val) :
    out0_12 (iblk m c 0 t) (iblk m c 1 t) (iblk m c 2 t) (iblk m c 3 t) (ix3 0 p j) = res12 m c (ix3 (bat t) n j) := by
  have hr : (rb t).val < 26 := (rb t).isLt
  have e0 : n = ⟨(rb t).val * 320 + p.val, by omega⟩ := Fin.ext hn
  rw [e0]
  refine (out12_at (iblk m c 0 t) (iblk m c 1 t) p (iblk m c 2 t) (iblk m c 3 t) j).trans ?_
  unfold res12
  rw [funext (x_at m c t p), funext (g_at m c t), funext fun k => (w_at m c t k ⟨2688 + j.val, by omega⟩).trans (vb_col m c k j)]
  rfl

/-- Where an element of the block sits in the array. -/
theorem emb12 (y : ((cfg0.win 12).xblock (cfg0.grid.coords t)).Idx) (p : Fin 320) (hp : p = y 1) (j : Fin 128) (hj : j = y 2) (n : Fin 8320) (hn : n.val = (rb t).val * 320 + p.val) :
    ((cfg0.win 12).blk t).view.emb y = (ix3 (bat t) n j : S8x8320x128.Idx) := by
  have hy0 : y 0 = (0 : Fin 1) := Subsingleton.elim (α := Fin 1) _ _
  have e1 : cc0_transform_12 (grid0.coords t) = _ := map12 (grid0.coords t)
  funext a; apply Fin.ext
  fin_cases a
  · show cc0_transform_12 (grid0.coords t) 0 * 1 + 1 * (y 0).val = (bat t).val
    rw [e1, hy0]; exact place_one _
  · show cc0_transform_12 (grid0.coords t) 1 * 320 + 1 * (y 1).val = n.val
    rw [e1, ← hp, hn]; exact place _ _ _
  · show cc0_transform_12 (grid0.coords t) 2 * 128 + 1 * (y 2).val = j.val
    rw [e1, ← hj]; exact place_zero _ _

/-- An element of the block, as the block's own index. -/
theorem inj12 (y : ((cfg0.win 12).xblock (cfg0.grid.coords t)).Idx) (p : Fin 320) (hp : p = y 1) (j : Fin 128) (hj : j = y 2) :
    (cfg0.win 12).xinj (cfg0.grid.coords t) y = (ix3 0 p j : S1x320x128.Idx) := by
  have hy0 : y 0 = (0 : Fin 1) := Subsingleton.elim (α := Fin 1) _ _
  funext a; fin_cases a
  · exact hy0
  · exact hp.symm
  · exact hj.symm

/-- The array the call leaves. -/
theorem arr_eq12 : (dats m 0 c).arrAt 12 cfg0.N = res12 m c := by
  refine (dats m 0 c).arrAt_eq_of_covers 12 _ covers12 fun t hf y => ?_
  obtain ⟨p, hp⟩ : ∃ p : Fin 320, p = y 1 := ⟨_, rfl⟩
  obtain ⟨j, hj⟩ : ∃ j : Fin 128, j = y 2 := ⟨_, rfl⟩
  have hr : (rb t).val < 26 := (rb t).isLt
  rw [after0_12]
  rw [inj12 t y p hp j hj, emb12 t y p hp j hj ⟨(rb t).val * 320 + p.val, by omega⟩ rfl]
  exact (cast_eq _ _).trans (blk12 m c t p j _ rfl)

/-- The reference's values are the same. -/
theorem ref_eq12 : Cert.ProjRefIdeal.Hand.vbR (m ((c.tc : Thread nD τ).loc main_arg0)) (m ((c.tc : Thread nD τ).loc main_arg2)) (m ((c.tc : Thread nD τ).loc main_arg3)) = res12 m c := by
  funext y
  obtain ⟨b, n, j, rfl⟩ : ∃ (b : Fin 8) (n : Fin 8320) (j : Fin 128), y = ix3 b n j := ⟨y 0, y 1, y 2, by funext a; fin_cases a <;> rfl⟩
  refine (Cert.ProjRefIdeal.Hand.vbR_at _ _ _ b n j).trans ?_
  rw [Cert.ProjRefIdeal.Hand.zR_at]
  rfl

/-! ## The first attention's gates -/

/-- What the call leaves in the first attention's gates. -/
def res17 : S8x8320x1024.Idx → EReal := fun y =>
  Ideal.logistic (proj (fun k => m ((c.tc : Thread nD τ).loc main_arg0) (ix3 (y 0) (y 1) k)) (fun k => m ((c.tc : Thread nD τ).loc main_arg2) (ix1 k)) (fun k => m ((c.tc : Thread nD τ).loc main_arg3) (ix2 k ⟨2600 + (y 2).val, by have h : (y 2).val < 1024 := (y 2).isLt; omega⟩)))

/-- The window's blocks fill the array. -/
theorem covers17 : (cfg0.win 17).Covers := by
  refine Pipeline.Window.covers_of_indexMap_surj _ rfl (by decide) fun β => ?_
  have h0 : (β 0).val < 8 := (β 0).isLt
  have h1 : (β 1).val < 26 := (β 1).isLt
  have h2 : (β 2).val < 1 := (β 2).isLt
  let i : grid0.Coords := fun | 0 => ⟨(β 0).val, h0⟩ | 1 => ⟨(β 1).val, h1⟩
  refine ⟨i, fun a => ?_⟩
  have e : cc0_transform_17 i = ![(i 0).val, (i 1).val, 0] := map17 i
  refine (congrFun e a).trans ?_
  fin_cases a
  · rfl
  · rfl
  · show 0 = (β 2).val
    omega

variable (t : Fin cfg0.N)

/-- What a point leaves in its block. -/
theorem blk17 (p : Fin 320) (j : Fin 1024) (n : Fin 8320) (hn : n.val = (rb t).val * 320 + p.val) :
    out0_17 (iblk m c 0 t) (iblk m c 1 t) (iblk m c 2 t) (iblk m c 3 t) (ix3 0 p j) = res17 m c (ix3 (bat t) n j) := by
  have hr : (rb t).val < 26 := (rb t).isLt
  have e0 : n = ⟨(rb t).val * 320 + p.val, by omega⟩ := Fin.ext hn
  rw [e0]
  refine (out17_at (iblk m c 0 t) (iblk m c 1 t) p (iblk m c 2 t) (iblk m c 3 t) j).trans ?_
  unfold res17
  rw [funext (x_at m c t p), funext (g_at m c t), funext fun k => (w_at m c t k ⟨3456 + j.val, by omega⟩).trans (ga_col m c k j)]
  rfl

/-- Where an element of the block sits in the array. -/
theorem emb17 (y : ((cfg0.win 17).xblock (cfg0.grid.coords t)).Idx) (p : Fin 320) (hp : p = y 1) (j : Fin 1024) (hj : j = y 2) (n : Fin 8320) (hn : n.val = (rb t).val * 320 + p.val) :
    ((cfg0.win 17).blk t).view.emb y = (ix3 (bat t) n j : S8x8320x1024.Idx) := by
  have hy0 : y 0 = (0 : Fin 1) := Subsingleton.elim (α := Fin 1) _ _
  have e1 : cc0_transform_17 (grid0.coords t) = _ := map17 (grid0.coords t)
  funext a; apply Fin.ext
  fin_cases a
  · show cc0_transform_17 (grid0.coords t) 0 * 1 + 1 * (y 0).val = (bat t).val
    rw [e1, hy0]; exact place_one _
  · show cc0_transform_17 (grid0.coords t) 1 * 320 + 1 * (y 1).val = n.val
    rw [e1, ← hp, hn]; exact place _ _ _
  · show cc0_transform_17 (grid0.coords t) 2 * 1024 + 1 * (y 2).val = j.val
    rw [e1, ← hj]; exact place_zero _ _

/-- An element of the block, as the block's own index. -/
theorem inj17 (y : ((cfg0.win 17).xblock (cfg0.grid.coords t)).Idx) (p : Fin 320) (hp : p = y 1) (j : Fin 1024) (hj : j = y 2) :
    (cfg0.win 17).xinj (cfg0.grid.coords t) y = (ix3 0 p j : S1x320x1024.Idx) := by
  have hy0 : y 0 = (0 : Fin 1) := Subsingleton.elim (α := Fin 1) _ _
  funext a; fin_cases a
  · exact hy0
  · exact hp.symm
  · exact hj.symm

/-- The array the call leaves. -/
theorem arr_eq17 : (dats m 0 c).arrAt 17 cfg0.N = res17 m c := by
  refine (dats m 0 c).arrAt_eq_of_covers 17 _ covers17 fun t hf y => ?_
  obtain ⟨p, hp⟩ : ∃ p : Fin 320, p = y 1 := ⟨_, rfl⟩
  obtain ⟨j, hj⟩ : ∃ j : Fin 1024, j = y 2 := ⟨_, rfl⟩
  have hr : (rb t).val < 26 := (rb t).isLt
  rw [after0_17]
  rw [inj17 t y p hp j hj, emb17 t y p hp j hj ⟨(rb t).val * 320 + p.val, by omega⟩ rfl]
  exact (cast_eq _ _).trans (blk17 m c t p j _ rfl)

/-- The reference's values are the same. -/
theorem ref_eq17 : Cert.ProjRefIdeal.Hand.gaR (m ((c.tc : Thread nD τ).loc main_arg0)) (m ((c.tc : Thread nD τ).loc main_arg2)) (m ((c.tc : Thread nD τ).loc main_arg3)) = res17 m c := by
  funext y
  obtain ⟨b, n, j, rfl⟩ : ∃ (b : Fin 8) (n : Fin 8320) (j : Fin 1024), y = ix3 b n j := ⟨y 0, y 1, y 2, by funext a; fin_cases a <;> rfl⟩
  refine (Cert.ProjRefIdeal.Hand.gaR_at _ _ _ b n j).trans ?_
  rw [Cert.ProjRefIdeal.Hand.zR_at]
  rfl

/-! ## The second attention's gates -/

/-- What the call leaves in the second attention's gates. -/
def res18 : S8x8320x1024.Idx → EReal := fun y =>
  Ideal.logistic (proj (fun k => m ((c.tc : Thread nD τ).loc main_arg0) (ix3 (y 0) (y 1) k)) (fun k => m ((c.tc : Thread nD τ).loc main_arg2) (ix1 k)) (fun k => m ((c.tc : Thread nD τ).loc main_arg3) (ix2 k ⟨3624 + (y 2).val, by have h : (y 2).val < 1024 := (y 2).isLt; omega⟩)))

/-- The window's blocks fill the array. -/
theorem covers18 : (cfg0.win 18).Covers := by
  refine Pipeline.Window.covers_of_indexMap_surj _ rfl (by decide) fun β => ?_
  have h0 : (β 0).val < 8 := (β 0).isLt
  have h1 : (β 1).val < 26 := (β 1).isLt
  have h2 : (β 2).val < 1 := (β 2).isLt
  let i : grid0.Coords := fun | 0 => ⟨(β 0).val, h0⟩ | 1 => ⟨(β 1).val, h1⟩
  refine ⟨i, fun a => ?_⟩
  have e : cc0_transform_18 i = ![(i 0).val, (i 1).val, 0] := map18 i
  refine (congrFun e a).trans ?_
  fin_cases a
  · rfl
  · rfl
  · show 0 = (β 2).val
    omega

variable (t : Fin cfg0.N)

/-- What a point leaves in its block. -/
theorem blk18 (p : Fin 320) (j : Fin 1024) (n : Fin 8320) (hn : n.val = (rb t).val * 320 + p.val) :
    out0_18 (iblk m c 0 t) (iblk m c 1 t) (iblk m c 2 t) (iblk m c 3 t) (ix3 0 p j) = res18 m c (ix3 (bat t) n j) := by
  have hr : (rb t).val < 26 := (rb t).isLt
  have e0 : n = ⟨(rb t).val * 320 + p.val, by omega⟩ := Fin.ext hn
  rw [e0]
  refine (out18_at (iblk m c 0 t) (iblk m c 1 t) p (iblk m c 2 t) (iblk m c 3 t) j).trans ?_
  unfold res18
  rw [funext (x_at m c t p), funext (g_at m c t), funext fun k => (w_at m c t k ⟨4480 + j.val, by omega⟩).trans (gb_col m c k j)]
  rfl

/-- Where an element of the block sits in the array. -/
theorem emb18 (y : ((cfg0.win 18).xblock (cfg0.grid.coords t)).Idx) (p : Fin 320) (hp : p = y 1) (j : Fin 1024) (hj : j = y 2) (n : Fin 8320) (hn : n.val = (rb t).val * 320 + p.val) :
    ((cfg0.win 18).blk t).view.emb y = (ix3 (bat t) n j : S8x8320x1024.Idx) := by
  have hy0 : y 0 = (0 : Fin 1) := Subsingleton.elim (α := Fin 1) _ _
  have e1 : cc0_transform_18 (grid0.coords t) = _ := map18 (grid0.coords t)
  funext a; apply Fin.ext
  fin_cases a
  · show cc0_transform_18 (grid0.coords t) 0 * 1 + 1 * (y 0).val = (bat t).val
    rw [e1, hy0]; exact place_one _
  · show cc0_transform_18 (grid0.coords t) 1 * 320 + 1 * (y 1).val = n.val
    rw [e1, ← hp, hn]; exact place _ _ _
  · show cc0_transform_18 (grid0.coords t) 2 * 1024 + 1 * (y 2).val = j.val
    rw [e1, ← hj]; exact place_zero _ _

/-- An element of the block, as the block's own index. -/
theorem inj18 (y : ((cfg0.win 18).xblock (cfg0.grid.coords t)).Idx) (p : Fin 320) (hp : p = y 1) (j : Fin 1024) (hj : j = y 2) :
    (cfg0.win 18).xinj (cfg0.grid.coords t) y = (ix3 0 p j : S1x320x1024.Idx) := by
  have hy0 : y 0 = (0 : Fin 1) := Subsingleton.elim (α := Fin 1) _ _
  funext a; fin_cases a
  · exact hy0
  · exact hp.symm
  · exact hj.symm

/-- The array the call leaves. -/
theorem arr_eq18 : (dats m 0 c).arrAt 18 cfg0.N = res18 m c := by
  refine (dats m 0 c).arrAt_eq_of_covers 18 _ covers18 fun t hf y => ?_
  obtain ⟨p, hp⟩ : ∃ p : Fin 320, p = y 1 := ⟨_, rfl⟩
  obtain ⟨j, hj⟩ : ∃ j : Fin 1024, j = y 2 := ⟨_, rfl⟩
  have hr : (rb t).val < 26 := (rb t).isLt
  rw [after0_18]
  rw [inj18 t y p hp j hj, emb18 t y p hp j hj ⟨(rb t).val * 320 + p.val, by omega⟩ rfl]
  exact (cast_eq _ _).trans (blk18 m c t p j _ rfl)

/-- The reference's values are the same. -/
theorem ref_eq18 : Cert.ProjRefIdeal.Hand.gbR (m ((c.tc : Thread nD τ).loc main_arg0)) (m ((c.tc : Thread nD τ).loc main_arg2)) (m ((c.tc : Thread nD τ).loc main_arg3)) = res18 m c := by
  funext y
  obtain ⟨b, n, j, rfl⟩ : ∃ (b : Fin 8) (n : Fin 8320) (j : Fin 1024), y = ix3 b n j := ⟨y 0, y 1, y 2, by funext a; fin_cases a <;> rfl⟩
  refine (Cert.ProjRefIdeal.Hand.gbR_at _ _ _ b n j).trans ?_
  rw [Cert.ProjRefIdeal.Hand.zR_at]
  rfl

end Cert.ProjIdeal.Hand

end
-- ==== Proof.PostMath.Row.lean ====
/- One row of the layer's middle, from the two attentions' results to the normalised sum, on extended reals. -/
module

public import Idealize.ShloMosaic.PureOps.Ideal

@[expose] public section

noncomputable section

namespace Cert.Post.Math

open Idealize.ShloMosaic

/-- The two gated projections of one row added up. -/
def mix (ga gb : Fin 1024 → EReal) (oa ob : Fin 512 → EReal) (wa wb : Fin 512 → Fin 1024 → EReal) (k : Fin 1024) : EReal :=
  ga k * ∑ s, oa s * wa s k + gb k * ∑ s, ob s * wb s k

/-- The row plus the output projection of the mixed rows. -/
def sumRow (x ga gb : Fin 1024 → EReal) (oa ob : Fin 512 → EReal) (wa wb : Fin 512 → Fin 1024 → EReal)
    (wo : Fin 1024 → Fin 1024 → EReal) (j : Fin 1024) : EReal :=
  x j + ∑ k, mix ga gb oa ob wa wb k * wo k j

/-- A row divided by the root of its mean square plus epsilon, times the weights of the norm. -/
def normRow (x g : Fin 1024 → EReal) (d : Fin 1024) : EReal :=
  x d * Ideal.rsqrt (Ideal.div (∑ k, x k * x k) (Ideal.ofBits .f32 0x44800000#32) + Ideal.ofBits .f32 0x358637BD#32) * g d

/-- Where column `s` of the heads' results sits in the layout of 128 columns a head: the first half for the first four heads,
the second half for the others. -/
def spread (s : Fin 512) : Fin 1024 := ⟨64 * (2 * (s.val / 64) + s.val / 256) + s.val % 64, by have := s.isLt; omega⟩

/-- Different columns sit at different places. -/
theorem spread_injective : Function.Injective spread := by
  intro s t h
  have e : 64 * (2 * (s.val / 64) + s.val / 256) + s.val % 64 = 64 * (2 * (t.val / 64) + t.val / 256) + t.val % 64 := congrArg Fin.val h
  apply Fin.ext
  have := s.isLt; have := t.isLt
  omega

/-- A place that no column takes is in the half its head does not use. -/
theorem off_spread (r : Fin 1024) (h : r ∉ Set.range spread) : (r.val / 64) % 2 ≠ r.val / 512 := by
  intro e
  have hr := r.isLt
  have h1 : (64 * (r.val / 128) + r.val % 64) / 64 = r.val / 128 := by omega
  have h2 : (64 * (r.val / 128) + r.val % 64) / 256 = r.val / 512 := by omega
  have h3 : (64 * (r.val / 128) + r.val % 64) % 64 = r.val % 64 := by omega
  refine h ⟨⟨64 * (r.val / 128) + r.val % 64, by omega⟩, Fin.ext ?_⟩
  show 64 * (2 * ((64 * (r.val / 128) + r.val % 64) / 64) + (64 * (r.val / 128) + r.val % 64) / 256) + (64 * (r.val / 128) + r.val % 64) % 64 = r.val
  rw [h1, h2, h3, ← e]
  omega

/-- A product over the wide layout, whose weights are zero in the half not used, is the product over the columns alone. -/
theorem sum_spread (a wide : Fin 1024 → EReal) (w : Fin 512 → EReal) (hw : ∀ s, wide (spread s) = w s)
    (h0 : ∀ r : Fin 1024, (r.val / 64) % 2 ≠ r.val / 512 → wide r = 0) : ∑ r, a r * wide r = ∑ s, a (spread s) * w s := by
  refine (Fintype.sum_of_injective spread spread_injective (fun s => a (spread s) * w s) (fun r => a r * wide r) ?_ ?_).symm
  · intro r hr
    show a r * wide r = 0
    rw [h0 r (off_spread r hr), mul_zero]
  · intro s
    show a (spread s) * w s = a (spread s) * wide (spread s)
    rw [hw]

end Cert.Post.Math

end
-- ==== Proof.PostIdeal.Block.lean ====
/- The two blocks one grid point of the post call writes, element by element, on extended reals. -/
module

public import proofs.«01_k».proof.Proof.Gen.PostIdeal.Frame
public import proofs.«01_k».proof.Proof.PostMath.Row
public import Idealize.ShloMosaic.Lib.Pipeline.Value
public import Idealize.ShloMosaic.Lib.Pointwise

@[expose] public section

set_option maxRecDepth 16384

noncomputable section

namespace Cert.PostIdeal.Hand

open Cert.PostIdeal.Gen Cert.Post.Math
open Idealize.ShloMosaic Idealize.ShloMosaic.TcCoe Idealize.ShloMosaic.Tactic

/-! ## The body's values -/

variable (x0 : Vec Ideal S1x512x1024 .f32) (x1 : Vec Ideal S1x512x512 .bf16) (x2 : Vec Ideal S1x512x1024 .bf16)
  (x3 x4 : Vec Ideal S1x512x1024 .f32) (x5 : Vec Ideal S512x1024 .bf16) (x6 x7 : Vec Ideal S1024x1024 .bf16) (x8 : Vec Ideal S1x1024 .f32)
  (x9 : Vec Ideal S1024x128 .bf16) (x10 : Vec Ideal S1x128 .f32) (p : Fin 512)

/-- The sum's row: the second attention's product still over the wide layout. -/
theorem pay2_at (j : Fin 1024) : k0_pay2 x1 x5 x2 x6 x3 x4 x0 x7 (ix2 p j) =
    x0 (ix3 0 p j) + ∑ k, (x3 (ix3 0 p k) * (∑ s, x1 (ix3 0 p s) * x5 (ix2 s k)) + x4 (ix3 0 p k) * (∑ r, x2 (ix3 0 p r) * x6 (ix2 r k))) * x7 (ix2 k j) := by
  pointwise [k0_pay2]
/-- The stored sum. -/
theorem pay3_at (j : Fin 1024) : k0_pay3 x1 x5 x2 x6 x3 x4 x0 x7 (ix3 0 p j) = k0_pay2 x1 x5 x2 x6 x3 x4 x0 x7 (ix2 p j) := by
  pointwise [k0_pay3]
/-- The row's sum of squares. -/
theorem pay4_at : k0_pay4 x1 x5 x2 x6 x3 x4 x0 x7 (ix1 p) = ∑ k, k0_pay2 x1 x5 x2 x6 x3 x4 x0 x7 (ix2 p k) * k0_pay2 x1 x5 x2 x6 x3 x4 x0 x7 (ix2 p k) := by
  pointwise [k0_pay4]
/-- The stored normalised row. -/
theorem pay6_at (z : FVec Ideal S512x1024 .f32) (q : FVec Ideal S512 .f32) (j : Fin 1024) : k0_pay6 z q x8 (ix3 0 p j) =
    z (ix2 p j) * Ideal.rsqrt (Ideal.div (q (ix1 p)) (Ideal.ofBits .f32 0x44800000#32) + Ideal.ofBits .f32 0x358637BD#32) * x8 (ix2 0 j) := by
  pointwise [k0_pay6, k0_pay5]
  try rfl

/-! ## What a point leaves -/

/-- The origin of a matrix. -/
theorem hz2 : (![0, 0] : Fin 2 → Nat) = fun _ => 0 := funext fun a => by fin_cases a <;> rfl
/-- The origin of a stack. -/
theorem hz3 : (![0, 0, 0] : Fin 3 → Nat) = fun _ => 0 := funext fun a => by fin_cases a <;> rfl

variable (c : Dev nD) (i : grid0.Coords)
  (arg2 : Memref sig .tc .vmem S1x512x1024 .f32) (harg2 : arg2.IsWhole) (arg3 : Memref sig .tc .vmem S1x512x512 .bf16) (harg3 : arg3.IsWhole)
  (arg4 : Memref sig .tc .vmem S1x512x1024 .bf16) (harg4 : arg4.IsWhole) (arg5 : Memref sig .tc .vmem S1x512x1024 .f32) (harg5 : arg5.IsWhole)
  (arg6 : Memref sig .tc .vmem S1x512x1024 .f32) (harg6 : arg6.IsWhole) (arg7 : Memref sig .tc .vmem S512x1024 .bf16) (harg7 : arg7.IsWhole)
  (arg8 : Memref sig .tc .vmem S1024x1024 .bf16) (harg8 : arg8.IsWhole) (arg9 : Memref sig .tc .vmem S1024x1024 .bf16) (harg9 : arg9.IsWhole)
  (arg10 : Memref sig .tc .vmem S1x1024 .f32) (harg10 : arg10.IsWhole) (arg11 : Memref sig .tc .vmem S1024x128 .bf16) (harg11 : arg11.IsWhole)
  (arg12 : Memref sig .tc .vmem S1x128 .f32) (harg12 : arg12.IsWhole) (arg13 : Memref sig .tc .vmem S1x512x1024 .f32) (harg13 : arg13.IsWhole)
  (arg14 : Memref sig .tc .vmem S1x512x1024 .bf16) (harg14 : arg14.IsWhole) (arg15 : Memref sig .tc .vmem S1x512x128 .f32) (harg15 : arg15.IsWhole)

/-- The first output's block: the sum. -/
theorem out11_eq : out0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 =
    k0_pay3 x1 x5 x2 x6 x3 x4 x0 x7 := by
  unfold out0_A_11
  rw [View.read_writes_junk_eq_canon]
  unfold kernelRun0_A
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, View.ld_unit_zero (S := S1x512x1024) hz3, View.ld_unit_zero (S := S1x512x512) hz3,
    View.ld_unit_zero (S := S512x1024) hz2, View.ld_unit_zero (S := S1024x1024) hz2]
/-- The second output's block: the normalised sum. -/
theorem out12_eq : out0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 =
    k0_pay6 (k0_pay2 x1 x5 x2 x6 x3 x4 x0 x7) (k0_pay4 x1 x5 x2 x6 x3 x4 x0 x7) x8 := by
  unfold out0_A_12
  rw [View.read_writes_junk_eq_canon]
  unfold kernelRun0_A
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread, View.ld_unit_zero (S := S1x512x1024) hz3,
    View.ld_unit_zero (S := S1x512x512) hz3, View.ld_unit_zero (S := S512x1024) hz2, View.ld_unit_zero (S := S1024x1024) hz2,
    View.ld_unit_zero (S := S1x1024) hz2]

/-- The sum's row, when the second projection's rows of the unused halves are zero. -/
theorem pay2_row (w : Fin 512 → Fin 1024 → EReal) (hw : ∀ s k, x6 (ix2 (spread s) k) = w s k)
    (h0 : ∀ (r : Fin 1024) (k : Fin 1024), (r.val / 64) % 2 ≠ r.val / 512 → x6 (ix2 r k) = 0) (j : Fin 1024) :
    k0_pay2 x1 x5 x2 x6 x3 x4 x0 x7 (ix2 p j) =
    sumRow (fun k => x0 (ix3 0 p k)) (fun k => x3 (ix3 0 p k)) (fun k => x4 (ix3 0 p k)) (fun s => x1 (ix3 0 p s)) (fun s => x2 (ix3 0 p (spread s)))
      (fun s k => x5 (ix2 s k)) w (fun k j => x7 (ix2 k j)) j := by
  rw [pay2_at]
  unfold sumRow mix
  refine congrArg (x0 (ix3 0 p j) + ·) (Finset.sum_congr rfl fun k _ => ?_)
  rw [sum_spread (fun r => x2 (ix3 0 p r)) (fun r => x6 (ix2 r k)) (fun s => w s k) (fun s => hw s k) (fun r hr => h0 r k hr)]

end Cert.PostIdeal.Hand

end
-- ==== Proof.PostIdeal.Wide.lean ====
/- The second attention's projection as the post call finds it: its rows spread over the wide layout, zero in between. -/
module

public import proofs.«01_k».proof.Proof.PostIdeal.Block

@[expose] public section

set_option maxRecDepth 16384

noncomputable section

namespace Cert.PostIdeal.Hand

open Cert.PostIdeal.Gen Cert.Post.Math
open Idealize.ShloMosaic Idealize.ShloMosaic.TcCoe Idealize.ShloMosaic.Tactic

variable (m : (ℓ : Loc nD τ sig) → Buf (Elt Ideal) ℓ) (c : Dev nD)

/-- The rows of zeros. -/
theorem V_v0 : V m c main_v0 = broadcastInDim S64x1024 ![] bcast_S_S64x1024 (constant (F := Ideal) S_ .f32 0x00000000#32) := by
  show StableHlo.after hostOps0 _ (Proc.devRef .tc main_v0) = _
  after_results_simp
/-- A row of zeros is zero. -/
theorem zero_at (d : Fin 64) (j : Fin 1024) : V m c main_v0 (ix2 d j) = (0 : EReal) := by
  refine (congrFun (V_v0 m c) _).trans ?_
  pointwise []
/-- The rows of head 0. -/
theorem V_v1 : V m c main_v1 = extractStridedSlice S64x1024 ![0, 0] (m ((c.tc : Thread nD τ).loc main_arg6)) slices_S512x1024_S64x1024_0_0 := by
  show StableHlo.after hostOps0 _ (Proc.devRef .tc main_v1) = _
  after_results_simp
/-- The rows of head 1. -/
theorem V_v2 : V m c main_v2 = extractStridedSlice S64x1024 ![64, 0] (m ((c.tc : Thread nD τ).loc main_arg6)) slices_S512x1024_S64x1024_64_0 := by
  show StableHlo.after hostOps0 _ (Proc.devRef .tc main_v2) = _
  after_results_simp
/-- The rows of head 2. -/
theorem V_v3 : V m c main_v3 = extractStridedSlice S64x1024 ![128, 0] (m ((c.tc : Thread nD τ).loc main_arg6)) slices_S512x1024_S64x1024_128_0 := by
  show StableHlo.after hostOps0 _ (Proc.devRef .tc main_v3) = _
  after_results_simp
/-- The rows of head 3. -/
theorem V_v4 : V m c main_v4 = extractStridedSlice S64x1024 ![192, 0] (m ((c.tc : Thread nD τ).loc main_arg6)) slices_S512x1024_S64x1024_192_0 := by
  show StableHlo.after hostOps0 _ (Proc.devRef .tc main_v4) = _
  after_results_simp
/-- The rows of head 4. -/
theorem V_v5 : V m c main_v5 = extractStridedSlice S64x1024 ![256, 0] (m ((c.tc : Thread nD τ).loc main_arg6)) slices_S512x1024_S64x1024_256_0 := by
  show StableHlo.after hostOps0 _ (Proc.devRef .tc main_v5) = _
  after_results_simp
/-- The rows of head 5. -/
theorem V_v6 : V m c main_v6 = extractStridedSlice S64x1024 ![320, 0] (m ((c.tc : Thread nD τ).loc main_arg6)) slices_S512x1024_S64x1024_320_0 := by
  show StableHlo.after hostOps0 _ (Proc.devRef .tc main_v6) = _
  after_results_simp
/-- The rows of head 6. -/
theorem V_v7 : V m c main_v7 = extractStridedSlice S64x1024 ![384, 0] (m ((c.tc : Thread nD τ).loc main_arg6)) slices_S512x1024_S64x1024_384_0 := by
  show StableHlo.after hostOps0 _ (Proc.devRef .tc main_v7) = _
  after_results_simp
/-- The rows of head 7. -/
theorem V_v8 : V m c main_v8 = extractStridedSlice S64x1024 ![448, 0] (m ((c.tc : Thread nD τ).loc main_arg6)) slices_S512x1024_S64x1024_448_0 := by
  show StableHlo.after hostOps0 _ (Proc.devRef .tc main_v8) = _
  after_results_simp
/-- The wide projection, piece by piece; the change of format keeps every value. -/
theorem V_v10 : V m c main_v10 = concatenate S1024x1024 0 [⟨S64x1024, V m c main_v1⟩, ⟨S64x1024, V m c main_v0⟩, ⟨S64x1024, V m c main_v2⟩, ⟨S64x1024, V m c main_v0⟩, ⟨S64x1024, V m c main_v3⟩, ⟨S64x1024, V m c main_v0⟩, ⟨S64x1024, V m c main_v4⟩, ⟨S64x1024, V m c main_v0⟩, ⟨S64x1024, V m c main_v0⟩, ⟨S64x1024, V m c main_v5⟩, ⟨S64x1024, V m c main_v0⟩, ⟨S64x1024, V m c main_v6⟩, ⟨S64x1024, V m c main_v0⟩, ⟨S64x1024, V m c main_v7⟩, ⟨S64x1024, V m c main_v0⟩, ⟨S64x1024, V m c main_v8⟩] concatenates_S64x1024_S64x1024_S64x1024_S64x1024_S64x1024_S64x1024_S64x1024_S64x1024_S64x1024_S64x1024_S64x1024_S64x1024_S64x1024_S64x1024_S64x1024_S64x1024_S1024x1024_d0 := by
  show StableHlo.after hostOps0 (fun b => m (c, b)) (Proc.devRef .tc main_v10) = concatenate S1024x1024 0 [⟨S64x1024, StableHlo.after hostOps0 (fun b => m (c, b)) (Proc.devRef .tc main_v1)⟩, ⟨S64x1024, StableHlo.after hostOps0 (fun b => m (c, b)) (Proc.devRef .tc main_v0)⟩, ⟨S64x1024, StableHlo.after hostOps0 (fun b => m (c, b)) (Proc.devRef .tc main_v2)⟩, ⟨S64x1024, StableHlo.after hostOps0 (fun b => m (c, b)) (Proc.devRef .tc main_v0)⟩, ⟨S64x1024, StableHlo.after hostOps0 (fun b => m (c, b)) (Proc.devRef .tc main_v3)⟩, ⟨S64x1024, StableHlo.after hostOps0 (fun b => m (c, b)) (Proc.devRef .tc main_v0)⟩, ⟨S64x1024, StableHlo.after hostOps0 (fun b => m (c, b)) (Proc.devRef .tc main_v4)⟩, ⟨S64x1024, StableHlo.after hostOps0 (fun b => m (c, b)) (Proc.devRef .tc main_v0)⟩, ⟨S64x1024, StableHlo.after hostOps0 (fun b => m (c, b)) (Proc.devRef .tc main_v0)⟩, ⟨S64x1024, StableHlo.after hostOps0 (fun b => m (c, b)) (Proc.devRef .tc main_v5)⟩, ⟨S64x1024, StableHlo.after hostOps0 (fun b => m (c, b)) (Proc.devRef .tc main_v0)⟩, ⟨S64x1024, StableHlo.after hostOps0 (fun b => m (c, b)) (Proc.devRef .tc main_v6)⟩, ⟨S64x1024, StableHlo.after hostOps0 (fun b => m (c, b)) (Proc.devRef .tc main_v0)⟩, ⟨S64x1024, StableHlo.after hostOps0 (fun b => m (c, b)) (Proc.devRef .tc main_v7)⟩, ⟨S64x1024, StableHlo.after hostOps0 (fun b => m (c, b)) (Proc.devRef .tc main_v0)⟩, ⟨S64x1024, StableHlo.after hostOps0 (fun b => m (c, b)) (Proc.devRef .tc main_v8)⟩] concatenates_S64x1024_S64x1024_S64x1024_S64x1024_S64x1024_S64x1024_S64x1024_S64x1024_S64x1024_S64x1024_S64x1024_S64x1024_S64x1024_S64x1024_S64x1024_S64x1024_S1024x1024_d0
  after_results_simp
  rfl

variable (z v1 v2 v3 v4 v5 v6 v7 v8 : FVec Ideal S64x1024 .bf16) (r : Fin 1024) (d : Fin 64) (j : Fin 1024)

/-- The heights of a number of pieces, added up. -/
theorem heights (k : Nat) : ((List.replicate k S64x1024).map fun s => if h : s.rank = S1024x1024.rank then s.size ((0 : Fin S1024x1024.rank).cast h.symm) else 0).sum = 64 * k := by
  have e : (if h : S64x1024.rank = S1024x1024.rank then S64x1024.size ((0 : Fin S1024x1024.rank).cast h.symm) else 0) = 64 := dif_pos rfl
  rw [List.map_replicate, e]
  simp [Nat.mul_comm]
/-- Rows 0 to 63 of the pieces put together. -/
theorem cat0 (hr : r.val = 0 + d.val) : concatenate S1024x1024 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0 (ix2 r j) = v1 (ix2 d j) := by
  exact concatenate_apply_piece (t := S1024x1024) 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0
    (ix2 r j) 0 (by exact (by decide : 0 < 16)) S64x1024 v1 rfl rfl 0 (heights 0)
    (ix2 d j) (fun a ha => by
      fin_cases a
      · exact absurd rfl ha
      · rfl) (by show 0 + d.val = r.val; omega)
/-- Rows 64 to 127 of the pieces put together. -/
theorem cat1 (hr : r.val = 64 + d.val) : concatenate S1024x1024 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0 (ix2 r j) = z (ix2 d j) := by
  exact concatenate_apply_piece (t := S1024x1024) 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0
    (ix2 r j) 1 (by exact (by decide : 1 < 16)) S64x1024 z rfl rfl 64 (heights 1)
    (ix2 d j) (fun a ha => by
      fin_cases a
      · exact absurd rfl ha
      · rfl) (by show 64 + d.val = r.val; omega)
/-- Rows 128 to 191 of the pieces put together. -/
theorem cat2 (hr : r.val = 128 + d.val) : concatenate S1024x1024 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0 (ix2 r j) = v2 (ix2 d j) := by
  exact concatenate_apply_piece (t := S1024x1024) 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0
    (ix2 r j) 2 (by exact (by decide : 2 < 16)) S64x1024 v2 rfl rfl 128 (heights 2)
    (ix2 d j) (fun a ha => by
      fin_cases a
      · exact absurd rfl ha
      · rfl) (by show 128 + d.val = r.val; omega)
/-- Rows 192 to 255 of the pieces put together. -/
theorem cat3 (hr : r.val = 192 + d.val) : concatenate S1024x1024 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0 (ix2 r j) = z (ix2 d j) := by
  exact concatenate_apply_piece (t := S1024x1024) 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0
    (ix2 r j) 3 (by exact (by decide : 3 < 16)) S64x1024 z rfl rfl 192 (heights 3)
    (ix2 d j) (fun a ha => by
      fin_cases a
      · exact absurd rfl ha
      · rfl) (by show 192 + d.val = r.val; omega)
/-- Rows 256 to 319 of the pieces put together. -/
theorem cat4 (hr : r.val = 256 + d.val) : concatenate S1024x1024 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0 (ix2 r j) = v3 (ix2 d j) := by
  exact concatenate_apply_piece (t := S1024x1024) 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0
    (ix2 r j) 4 (by exact (by decide : 4 < 16)) S64x1024 v3 rfl rfl 256 (heights 4)
    (ix2 d j) (fun a ha => by
      fin_cases a
      · exact absurd rfl ha
      · rfl) (by show 256 + d.val = r.val; omega)
/-- Rows 320 to 383 of the pieces put together. -/
theorem cat5 (hr : r.val = 320 + d.val) : concatenate S1024x1024 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0 (ix2 r j) = z (ix2 d j) := by
  exact concatenate_apply_piece (t := S1024x1024) 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0
    (ix2 r j) 5 (by exact (by decide : 5 < 16)) S64x1024 z rfl rfl 320 (heights 5)
    (ix2 d j) (fun a ha => by
      fin_cases a
      · exact absurd rfl ha
      · rfl) (by show 320 + d.val = r.val; omega)
/-- Rows 384 to 447 of the pieces put together. -/
theorem cat6 (hr : r.val = 384 + d.val) : concatenate S1024x1024 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0 (ix2 r j) = v4 (ix2 d j) := by
  exact concatenate_apply_piece (t := S1024x1024) 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0
    (ix2 r j) 6 (by exact (by decide : 6 < 16)) S64x1024 v4 rfl rfl 384 (heights 6)
    (ix2 d j) (fun a ha => by
      fin_cases a
      · exact absurd rfl ha
      · rfl) (by show 384 + d.val = r.val; omega)
/-- Rows 448 to 511 of the pieces put together. -/
theorem cat7 (hr : r.val = 448 + d.val) : concatenate S1024x1024 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0 (ix2 r j) = z (ix2 d j) := by
  exact concatenate_apply_piece (t := S1024x1024) 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0
    (ix2 r j) 7 (by exact (by decide : 7 < 16)) S64x1024 z rfl rfl 448 (heights 7)
    (ix2 d j) (fun a ha => by
      fin_cases a
      · exact absurd rfl ha
      · rfl) (by show 448 + d.val = r.val; omega)
/-- Rows 512 to 575 of the pieces put together. -/
theorem cat8 (hr : r.val = 512 + d.val) : concatenate S1024x1024 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0 (ix2 r j) = z (ix2 d j) := by
  exact concatenate_apply_piece (t := S1024x1024) 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0
    (ix2 r j) 8 (by exact (by decide : 8 < 16)) S64x1024 z rfl rfl 512 (heights 8)
    (ix2 d j) (fun a ha => by
      fin_cases a
      · exact absurd rfl ha
      · rfl) (by show 512 + d.val = r.val; omega)
/-- Rows 576 to 639 of the pieces put together. -/
theorem cat9 (hr : r.val = 576 + d.val) : concatenate S1024x1024 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0 (ix2 r j) = v5 (ix2 d j) := by
  exact concatenate_apply_piece (t := S1024x1024) 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0
    (ix2 r j) 9 (by exact (by decide : 9 < 16)) S64x1024 v5 rfl rfl 576 (heights 9)
    (ix2 d j) (fun a ha => by
      fin_cases a
      · exact absurd rfl ha
      · rfl) (by show 576 + d.val = r.val; omega)
/-- Rows 640 to 703 of the pieces put together. -/
theorem cat10 (hr : r.val = 640 + d.val) : concatenate S1024x1024 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0 (ix2 r j) = z (ix2 d j) := by
  exact concatenate_apply_piece (t := S1024x1024) 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0
    (ix2 r j) 10 (by exact (by decide : 10 < 16)) S64x1024 z rfl rfl 640 (heights 10)
    (ix2 d j) (fun a ha => by
      fin_cases a
      · exact absurd rfl ha
      · rfl) (by show 640 + d.val = r.val; omega)
/-- Rows 704 to 767 of the pieces put together. -/
theorem cat11 (hr : r.val = 704 + d.val) : concatenate S1024x1024 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0 (ix2 r j) = v6 (ix2 d j) := by
  exact concatenate_apply_piece (t := S1024x1024) 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0
    (ix2 r j) 11 (by exact (by decide : 11 < 16)) S64x1024 v6 rfl rfl 704 (heights 11)
    (ix2 d j) (fun a ha => by
      fin_cases a
      · exact absurd rfl ha
      · rfl) (by show 704 + d.val = r.val; omega)
/-- Rows 768 to 831 of the pieces put together. -/
theorem cat12 (hr : r.val = 768 + d.val) : concatenate S1024x1024 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0 (ix2 r j) = z (ix2 d j) := by
  exact concatenate_apply_piece (t := S1024x1024) 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0
    (ix2 r j) 12 (by exact (by decide : 12 < 16)) S64x1024 z rfl rfl 768 (heights 12)
    (ix2 d j) (fun a ha => by
      fin_cases a
      · exact absurd rfl ha
      · rfl) (by show 768 + d.val = r.val; omega)
/-- Rows 832 to 895 of the pieces put together. -/
theorem cat13 (hr : r.val = 832 + d.val) : concatenate S1024x1024 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0 (ix2 r j) = v7 (ix2 d j) := by
  exact concatenate_apply_piece (t := S1024x1024) 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0
    (ix2 r j) 13 (by exact (by decide : 13 < 16)) S64x1024 v7 rfl rfl 832 (heights 13)
    (ix2 d j) (fun a ha => by
      fin_cases a
      · exact absurd rfl ha
      · rfl) (by show 832 + d.val = r.val; omega)
/-- Rows 896 to 959 of the pieces put together. -/
theorem cat14 (hr : r.val = 896 + d.val) : concatenate S1024x1024 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0 (ix2 r j) = z (ix2 d j) := by
  exact concatenate_apply_piece (t := S1024x1024) 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0
    (ix2 r j) 14 (by exact (by decide : 14 < 16)) S64x1024 z rfl rfl 896 (heights 14)
    (ix2 d j) (fun a ha => by
      fin_cases a
      · exact absurd rfl ha
      · rfl) (by show 896 + d.val = r.val; omega)
/-- Rows 960 to 1023 of the pieces put together. -/
theorem cat15 (hr : r.val = 960 + d.val) : concatenate S1024x1024 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0 (ix2 r j) = v8 (ix2 d j) := by
  exact concatenate_apply_piece (t := S1024x1024) 0 [⟨S64x1024, v1⟩, ⟨S64x1024, z⟩, ⟨S64x1024, v2⟩, ⟨S64x1024, z⟩, ⟨S64x1024, v3⟩, ⟨S64x1024, z⟩, ⟨S64x1024, v4⟩, ⟨S64x1024, z⟩, ⟨S64x1024, z⟩, ⟨S64x1024, v5⟩, ⟨S64x1024, z⟩, ⟨S64x1024, v6⟩, ⟨S64x1024, z⟩, ⟨S64x1024, v7⟩, ⟨S64x1024, z⟩, ⟨S64x1024, v8⟩] concatenates_S64x1024_S64x1024_S64x1024_S64x1024_S64x1024_S64x1024_S64x1024_S64x1024_S64x1024_S64x1024_S64x1024_S64x1024_S64x1024_S64x1024_S64x1024_S64x1024_S1024x1024_d0
    (ix2 r j) 15 (by exact (by decide : 15 < 16)) S64x1024 v8 rfl rfl 960 (heights 15)
    (ix2 d j) (fun a ha => by
      fin_cases a
      · exact absurd rfl ha
      · rfl) (by show 960 + d.val = r.val; omega)
/-- The wide rows that hold head 0's. -/
theorem wide0 (hr : r.val = 0 + d.val) (s : Fin 512) (hs : s.val = 0 + d.val) : V m c main_v10 (ix2 r j) = m ((c.tc : Thread nD τ).loc main_arg6) (ix2 s j) := by
  refine (congrFun (V_v10 m c) _).trans ((cat0 (V m c main_v0) (V m c main_v1) (V m c main_v2) (V m c main_v3) (V m c main_v4) (V m c main_v5) (V m c main_v6) (V m c main_v7) (V m c main_v8) r d j hr).trans ((congrFun (V_v1 m c) _).trans ?_))
  refine congrArg (m ((c.tc : Thread nD τ).loc main_arg6)) (funext fun a => Fin.ext ?_)
  fin_cases a
  · exact hs.symm
  · show 0 + j.val = j.val; omega
/-- Wide rows of an unused half. -/
theorem wide1 (hr : r.val = 64 + d.val) : V m c main_v10 (ix2 r j) = (0 : EReal) := by
  exact (congrFun (V_v10 m c) _).trans ((cat1 (V m c main_v0) (V m c main_v1) (V m c main_v2) (V m c main_v3) (V m c main_v4) (V m c main_v5) (V m c main_v6) (V m c main_v7) (V m c main_v8) r d j hr).trans (zero_at m c d j))
/-- The wide rows that hold head 1's. -/
theorem wide2 (hr : r.val = 128 + d.val) (s : Fin 512) (hs : s.val = 64 + d.val) : V m c main_v10 (ix2 r j) = m ((c.tc : Thread nD τ).loc main_arg6) (ix2 s j) := by
  refine (congrFun (V_v10 m c) _).trans ((cat2 (V m c main_v0) (V m c main_v1) (V m c main_v2) (V m c main_v3) (V m c main_v4) (V m c main_v5) (V m c main_v6) (V m c main_v7) (V m c main_v8) r d j hr).trans ((congrFun (V_v2 m c) _).trans ?_))
  refine congrArg (m ((c.tc : Thread nD τ).loc main_arg6)) (funext fun a => Fin.ext ?_)
  fin_cases a
  · exact hs.symm
  · show 0 + j.val = j.val; omega
/-- Wide rows of an unused half. -/
theorem wide3 (hr : r.val = 192 + d.val) : V m c main_v10 (ix2 r j) = (0 : EReal) := by
  exact (congrFun (V_v10 m c) _).trans ((cat3 (V m c main_v0) (V m c main_v1) (V m c main_v2) (V m c main_v3) (V m c main_v4) (V m c main_v5) (V m c main_v6) (V m c main_v7) (V m c main_v8) r d j hr).trans (zero_at m c d j))
/-- The wide rows that hold head 2's. -/
theorem wide4 (hr : r.val = 256 + d.val) (s : Fin 512) (hs : s.val = 128 + d.val) : V m c main_v10 (ix2 r j) = m ((c.tc : Thread nD τ).loc main_arg6) (ix2 s j) := by
  refine (congrFun (V_v10 m c) _).trans ((cat4 (V m c main_v0) (V m c main_v1) (V m c main_v2) (V m c main_v3) (V m c main_v4) (V m c main_v5) (V m c main_v6) (V m c main_v7) (V m c main_v8) r d j hr).trans ((congrFun (V_v3 m c) _).trans ?_))
  refine congrArg (m ((c.tc : Thread nD τ).loc main_arg6)) (funext fun a => Fin.ext ?_)
  fin_cases a
  · exact hs.symm
  · show 0 + j.val = j.val; omega
/-- Wide rows of an unused half. -/
theorem wide5 (hr : r.val = 320 + d.val) : V m c main_v10 (ix2 r j) = (0 : EReal) := by
  exact (congrFun (V_v10 m c) _).trans ((cat5 (V m c main_v0) (V m c main_v1) (V m c main_v2) (V m c main_v3) (V m c main_v4) (V m c main_v5) (V m c main_v6) (V m c main_v7) (V m c main_v8) r d j hr).trans (zero_at m c d j))
/-- The wide rows that hold head 3's. -/
theorem wide6 (hr : r.val = 384 + d.val) (s : Fin 512) (hs : s.val = 192 + d.val) : V m c main_v10 (ix2 r j) = m ((c.tc : Thread nD τ).loc main_arg6) (ix2 s j) := by
  refine (congrFun (V_v10 m c) _).trans ((cat6 (V m c main_v0) (V m c main_v1) (V m c main_v2) (V m c main_v3) (V m c main_v4) (V m c main_v5) (V m c main_v6) (V m c main_v7) (V m c main_v8) r d j hr).trans ((congrFun (V_v4 m c) _).trans ?_))
  refine congrArg (m ((c.tc : Thread nD τ).loc main_arg6)) (funext fun a => Fin.ext ?_)
  fin_cases a
  · exact hs.symm
  · show 0 + j.val = j.val; omega
/-- Wide rows of an unused half. -/
theorem wide7 (hr : r.val = 448 + d.val) : V m c main_v10 (ix2 r j) = (0 : EReal) := by
  exact (congrFun (V_v10 m c) _).trans ((cat7 (V m c main_v0) (V m c main_v1) (V m c main_v2) (V m c main_v3) (V m c main_v4) (V m c main_v5) (V m c main_v6) (V m c main_v7) (V m c main_v8) r d j hr).trans (zero_at m c d j))
/-- Wide rows of an unused half. -/
theorem wide8 (hr : r.val = 512 + d.val) : V m c main_v10 (ix2 r j) = (0 : EReal) := by
  exact (congrFun (V_v10 m c) _).trans ((cat8 (V m c main_v0) (V m c main_v1) (V m c main_v2) (V m c main_v3) (V m c main_v4) (V m c main_v5) (V m c main_v6) (V m c main_v7) (V m c main_v8) r d j hr).trans (zero_at m c d j))
/-- The wide rows that hold head 4's. -/
theorem wide9 (hr : r.val = 576 + d.val) (s : Fin 512) (hs : s.val = 256 + d.val) : V m c main_v10 (ix2 r j) = m ((c.tc : Thread nD τ).loc main_arg6) (ix2 s j) := by
  refine (congrFun (V_v10 m c) _).trans ((cat9 (V m c main_v0) (V m c main_v1) (V m c main_v2) (V m c main_v3) (V m c main_v4) (V m c main_v5) (V m c main_v6) (V m c main_v7) (V m c main_v8) r d j hr).trans ((congrFun (V_v5 m c) _).trans ?_))
  refine congrArg (m ((c.tc : Thread nD τ).loc main_arg6)) (funext fun a => Fin.ext ?_)
  fin_cases a
  · exact hs.symm
  · show 0 + j.val = j.val; omega
/-- Wide rows of an unused half. -/
theorem wide10 (hr : r.val = 640 + d.val) : V m c main_v10 (ix2 r j) = (0 : EReal) := by
  exact (congrFun (V_v10 m c) _).trans ((cat10 (V m c main_v0) (V m c main_v1) (V m c main_v2) (V m c main_v3) (V m c main_v4) (V m c main_v5) (V m c main_v6) (V m c main_v7) (V m c main_v8) r d j hr).trans (zero_at m c d j))
/-- The wide rows that hold head 5's. -/
theorem wide11 (hr : r.val = 704 + d.val) (s : Fin 512) (hs : s.val = 320 + d.val) : V m c main_v10 (ix2 r j) = m ((c.tc : Thread nD τ).loc main_arg6) (ix2 s j) := by
  refine (congrFun (V_v10 m c) _).trans ((cat11 (V m c main_v0) (V m c main_v1) (V m c main_v2) (V m c main_v3) (V m c main_v4) (V m c main_v5) (V m c main_v6) (V m c main_v7) (V m c main_v8) r d j hr).trans ((congrFun (V_v6 m c) _).trans ?_))
  refine congrArg (m ((c.tc : Thread nD τ).loc main_arg6)) (funext fun a => Fin.ext ?_)
  fin_cases a
  · exact hs.symm
  · show 0 + j.val = j.val; omega
/-- Wide rows of an unused half. -/
theorem wide12 (hr : r.val = 768 + d.val) : V m c main_v10 (ix2 r j) = (0 : EReal) := by
  exact (congrFun (V_v10 m c) _).trans ((cat12 (V m c main_v0) (V m c main_v1) (V m c main_v2) (V m c main_v3) (V m c main_v4) (V m c main_v5) (V m c main_v6) (V m c main_v7) (V m c main_v8) r d j hr).trans (zero_at m c d j))
/-- The wide rows that hold head 6's. -/
theorem wide13 (hr : r.val = 832 + d.val) (s : Fin 512) (hs : s.val = 384 + d.val) : V m c main_v10 (ix2 r j) = m ((c.tc : Thread nD τ).loc main_arg6) (ix2 s j) := by
  refine (congrFun (V_v10 m c) _).trans ((cat13 (V m c main_v0) (V m c main_v1) (V m c main_v2) (V m c main_v3) (V m c main_v4) (V m c main_v5) (V m c main_v6) (V m c main_v7) (V m c main_v8) r d j hr).trans ((congrFun (V_v7 m c) _).trans ?_))
  refine congrArg (m ((c.tc : Thread nD τ).loc main_arg6)) (funext fun a => Fin.ext ?_)
  fin_cases a
  · exact hs.symm
  · show 0 + j.val = j.val; omega
/-- Wide rows of an unused half. -/
theorem wide14 (hr : r.val = 896 + d.val) : V m c main_v10 (ix2 r j) = (0 : EReal) := by
  exact (congrFun (V_v10 m c) _).trans ((cat14 (V m c main_v0) (V m c main_v1) (V m c main_v2) (V m c main_v3) (V m c main_v4) (V m c main_v5) (V m c main_v6) (V m c main_v7) (V m c main_v8) r d j hr).trans (zero_at m c d j))
/-- The wide rows that hold head 7's. -/
theorem wide15 (hr : r.val = 960 + d.val) (s : Fin 512) (hs : s.val = 448 + d.val) : V m c main_v10 (ix2 r j) = m ((c.tc : Thread nD τ).loc main_arg6) (ix2 s j) := by
  refine (congrFun (V_v10 m c) _).trans ((cat15 (V m c main_v0) (V m c main_v1) (V m c main_v2) (V m c main_v3) (V m c main_v4) (V m c main_v5) (V m c main_v6) (V m c main_v7) (V m c main_v8) r d j hr).trans ((congrFun (V_v8 m c) _).trans ?_))
  refine congrArg (m ((c.tc : Thread nD τ).loc main_arg6)) (funext fun a => Fin.ext ?_)
  fin_cases a
  · exact hs.symm
  · show 0 + j.val = j.val; omega

/-- The wide projection at a column's place is the projection at the column. -/
theorem wide_spread (s : Fin 512) : V m c main_v10 (ix2 (spread s) j) = m ((c.tc : Thread nD τ).loc main_arg6) (ix2 s j) := by
  have hs := s.isLt
  have hc : s.val / 64 = 0 ∨ s.val / 64 = 1 ∨ s.val / 64 = 2 ∨ s.val / 64 = 3 ∨ s.val / 64 = 4 ∨ s.val / 64 = 5 ∨ s.val / 64 = 6 ∨ s.val / 64 = 7 := by omega
  have hd : s.val % 64 < 64 := by omega
  rcases hc with h | h | h | h | h | h | h | h
  · exact wide0 m c (spread s) ⟨s.val % 64, hd⟩ j (by show 64 * (2 * (s.val / 64) + s.val / 256) + s.val % 64 = 0 + s.val % 64; omega) s (by show s.val = 0 + s.val % 64; omega)
  · exact wide2 m c (spread s) ⟨s.val % 64, hd⟩ j (by show 64 * (2 * (s.val / 64) + s.val / 256) + s.val % 64 = 128 + s.val % 64; omega) s (by show s.val = 64 + s.val % 64; omega)
  · exact wide4 m c (spread s) ⟨s.val % 64, hd⟩ j (by show 64 * (2 * (s.val / 64) + s.val / 256) + s.val % 64 = 256 + s.val % 64; omega) s (by show s.val = 128 + s.val % 64; omega)
  · exact wide6 m c (spread s) ⟨s.val % 64, hd⟩ j (by show 64 * (2 * (s.val / 64) + s.val / 256) + s.val % 64 = 384 + s.val % 64; omega) s (by show s.val = 192 + s.val % 64; omega)
  · exact wide9 m c (spread s) ⟨s.val % 64, hd⟩ j (by show 64 * (2 * (s.val / 64) + s.val / 256) + s.val % 64 = 576 + s.val % 64; omega) s (by show s.val = 256 + s.val % 64; omega)
  · exact wide11 m c (spread s) ⟨s.val % 64, hd⟩ j (by show 64 * (2 * (s.val / 64) + s.val / 256) + s.val % 64 = 704 + s.val % 64; omega) s (by show s.val = 320 + s.val % 64; omega)
  · exact wide13 m c (spread s) ⟨s.val % 64, hd⟩ j (by show 64 * (2 * (s.val / 64) + s.val / 256) + s.val % 64 = 832 + s.val % 64; omega) s (by show s.val = 384 + s.val % 64; omega)
  · exact wide15 m c (spread s) ⟨s.val % 64, hd⟩ j (by show 64 * (2 * (s.val / 64) + s.val / 256) + s.val % 64 = 960 + s.val % 64; omega) s (by show s.val = 448 + s.val % 64; omega)
/-- The wide projection is zero in the unused halves. -/
theorem wide_zero (hr : (r.val / 64) % 2 ≠ r.val / 512) : V m c main_v10 (ix2 r j) = (0 : EReal) := by
  have hb := r.isLt
  have hc : r.val / 64 = 1 ∨ r.val / 64 = 3 ∨ r.val / 64 = 5 ∨ r.val / 64 = 7 ∨ r.val / 64 = 8 ∨ r.val / 64 = 10 ∨ r.val / 64 = 12 ∨ r.val / 64 = 14 := by omega
  have hd : r.val % 64 < 64 := by omega
  rcases hc with h | h | h | h | h | h | h | h
  · exact wide1 m c r ⟨r.val % 64, hd⟩ j (by show r.val = 64 + r.val % 64; omega)
  · exact wide3 m c r ⟨r.val % 64, hd⟩ j (by show r.val = 192 + r.val % 64; omega)
  · exact wide5 m c r ⟨r.val % 64, hd⟩ j (by show r.val = 320 + r.val % 64; omega)
  · exact wide7 m c r ⟨r.val % 64, hd⟩ j (by show r.val = 448 + r.val % 64; omega)
  · exact wide8 m c r ⟨r.val % 64, hd⟩ j (by show r.val = 512 + r.val % 64; omega)
  · exact wide10 m c r ⟨r.val % 64, hd⟩ j (by show r.val = 640 + r.val % 64; omega)
  · exact wide12 m c r ⟨r.val % 64, hd⟩ j (by show r.val = 768 + r.val % 64; omega)
  · exact wide14 m c r ⟨r.val % 64, hd⟩ j (by show r.val = 896 + r.val % 64; omega)

end Cert.PostIdeal.Hand

end
-- ==== Proof.PostIdeal.Reads.lean ====
/- What each window's block of the post call holds, element by element, at a symbolic grid point. -/
module

public import proofs.«01_k».proof.Proof.PostIdeal.Wide
public import Idealize.ShloMosaic.Lib.Pipeline.Covers
public import Idealize.ShloMosaic.Lib.Pipeline.Value

@[expose] public section

set_option maxRecDepth 16384

noncomputable section

namespace Cert.PostIdeal.Hand

open Cert.PostIdeal.Gen Cert.Post.Math
open Idealize.ShloMosaic Idealize.ShloMosaic.TcCoe Idealize.ShloMosaic.Tactic

/-! ## The index maps -/

/-- A small number written as a 32-bit word and read back is itself. -/
theorem word_nat {n : Nat} (h : n < 1024) : (BitVec.ofNat 32 n).toNat = n := by
  rw [BitVec.toNat_ofNat]; exact Nat.mod_eq_of_lt (by omega)
/-- The batch coordinate. -/
theorem c0_lt (i : grid0.Coords) : (i 0).val < 8 := (i 0).isLt
/-- The row block's coordinate. -/
theorem c1_lt (i : grid0.Coords) : (i 1).val < 16 := (i 1).isLt

/-- Where the block of the rows sits. -/
theorem map0 (i : grid0.Coords) : cc0_transform_0 i = ![(i 0).val, (i 1).val, 0] := by
  have h0 := c0_lt i; have h1 := c1_lt i
  funext a; fin_cases a
  · exact word_nat (show (i 0).val < 1024 by omega)
  · exact word_nat (show (i 1).val < 1024 by omega)
  · rfl
/-- Where the block of the first attention's results sits. -/
theorem map1 (i : grid0.Coords) : cc0_transform_1 i = ![(i 0).val, (i 1).val, 0] := by
  have h0 := c0_lt i; have h1 := c1_lt i
  funext a; fin_cases a
  · exact word_nat (show (i 0).val < 1024 by omega)
  · exact word_nat (show (i 1).val < 1024 by omega)
  · rfl
/-- Where the block of the second attention's results sits. -/
theorem map2 (i : grid0.Coords) : cc0_transform_2 i = ![(i 0).val, (i 1).val, 0] := by
  have h0 := c0_lt i; have h1 := c1_lt i
  funext a; fin_cases a
  · exact word_nat (show (i 0).val < 1024 by omega)
  · exact word_nat (show (i 1).val < 1024 by omega)
  · rfl
/-- Where the block of the first gates sits. -/
theorem map3 (i : grid0.Coords) : cc0_transform_3 i = ![(i 0).val, (i 1).val, 0] := by
  have h0 := c0_lt i; have h1 := c1_lt i
  funext a; fin_cases a
  · exact word_nat (show (i 0).val < 1024 by omega)
  · exact word_nat (show (i 1).val < 1024 by omega)
  · rfl
/-- Where the block of the second gates sits. -/
theorem map4 (i : grid0.Coords) : cc0_transform_4 i = ![(i 0).val, (i 1).val, 0] := by
  have h0 := c0_lt i; have h1 := c1_lt i
  funext a; fin_cases a
  · exact word_nat (show (i 0).val < 1024 by omega)
  · exact word_nat (show (i 1).val < 1024 by omega)
  · rfl
/-- Where the block of the sum sits. -/
theorem map11 (i : grid0.Coords) : cc0_transform_11 i = ![(i 0).val, (i 1).val, 0] := by
  have h0 := c0_lt i; have h1 := c1_lt i
  funext a; fin_cases a
  · exact word_nat (show (i 0).val < 1024 by omega)
  · exact word_nat (show (i 1).val < 1024 by omega)
  · rfl
/-- Where the block of the normalised sum sits. -/
theorem map12 (i : grid0.Coords) : cc0_transform_12 i = ![(i 0).val, (i 1).val, 0] := by
  have h0 := c0_lt i; have h1 := c1_lt i
  funext a; fin_cases a
  · exact word_nat (show (i 0).val < 1024 by omega)
  · exact word_nat (show (i 1).val < 1024 by omega)
  · rfl

/-- A block of size one starts at its index. -/
theorem place_one (n : Nat) : n * 1 + 1 * 0 = n := by omega
/-- The first block starts at zero. -/
theorem place_zero (s j : Nat) : 0 * s + 1 * j = j := by omega
/-- An element's place: its block's index times the block's size, plus its own. -/
theorem place (n s j : Nat) : n * s + 1 * j = n * s + j := by omega

/-! ## The weights as the call finds them -/

variable (m : (ℓ : Loc nD τ sig) → Buf (Elt Ideal) ℓ) (c : Dev nD)

/-- The first projection in the narrow format. -/
theorem V_v17 : V m c main_v17 = truncf (F := Ideal) .bf16 (m ((c.tc : Thread nD τ).loc main_arg5)) bitsLt_bf16_f32 := by
  show StableHlo.after hostOps0 _ (Proc.devRef .tc main_v17) = _
  after_results_simp
  try rfl
/-- The output projection in the narrow format. -/
theorem V_v18 : V m c main_v18 = truncf (F := Ideal) .bf16 (m ((c.tc : Thread nD τ).loc main_arg7)) bitsLt_bf16_f32 := by
  show StableHlo.after hostOps0 _ (Proc.devRef .tc main_v18) = _
  after_results_simp
  try rfl
/-- The norm's weights with a unit axis. -/
theorem V_v19 : V m c main_v19 = shapeCast S1x1024 (m ((c.tc : Thread nD τ).loc main_arg8)) shapeCasts_S1024_S1x1024 := by
  show StableHlo.after hostOps0 _ (Proc.devRef .tc main_v19) = _
  after_results_simp
  rfl

/-! ## The blocks -/

variable (t : Fin cfg0.N)

/-- The batch of point `t`. -/
abbrev bat : Fin 8 := grid0.coords t 0
/-- The row block of point `t`. -/
abbrev rb : Fin 16 := grid0.coords t 1

/-- The block of the rows. -/
theorem x_at (p : Fin 512) (k : Fin 1024) :
    iblk m c 0 t (ix3 0 p k) = m ((c.tc : Thread nD τ).loc main_arg0) (ix3 (bat t) ⟨(rb t).val * 512 + p.val, by have := (rb t).isLt; omega⟩ k) := by
  have e1 := map0 (grid0.coords t)
  refine Eq.trans ?_ (congrFun (V_main_arg0 m c) _)
  refine congrArg (V m c main_arg0) (funext fun a => Fin.ext ?_)
  fin_cases a
  · show cc0_transform_0 (grid0.coords t) 0 * 1 + 1 * 0 = (bat t).val
    rw [e1]; exact place_one _
  · show cc0_transform_0 (grid0.coords t) 1 * 512 + 1 * p.val = (rb t).val * 512 + p.val
    rw [e1]; exact place _ _ _
  · show cc0_transform_0 (grid0.coords t) 2 * 1024 + 1 * k.val = k.val
    rw [e1]; exact place_zero _ _
/-- The block of the first attention's results. -/
theorem oa_at (p : Fin 512) (k : Fin 512) :
    iblk m c 1 t (ix3 0 p k) = m ((c.tc : Thread nD τ).loc main_arg1) (ix3 (bat t) ⟨(rb t).val * 512 + p.val, by have := (rb t).isLt; omega⟩ k) := by
  have e1 := map1 (grid0.coords t)
  refine Eq.trans ?_ (congrFun (V_main_arg1 m c) _)
  refine congrArg (V m c main_arg1) (funext fun a => Fin.ext ?_)
  fin_cases a
  · show cc0_transform_1 (grid0.coords t) 0 * 1 + 1 * 0 = (bat t).val
    rw [e1]; exact place_one _
  · show cc0_transform_1 (grid0.coords t) 1 * 512 + 1 * p.val = (rb t).val * 512 + p.val
    rw [e1]; exact place _ _ _
  · show cc0_transform_1 (grid0.coords t) 2 * 512 + 1 * k.val = k.val
    rw [e1]; exact place_zero _ _
/-- The block of the second attention's results. -/
theorem ob_at (p : Fin 512) (k : Fin 1024) :
    iblk m c 2 t (ix3 0 p k) = m ((c.tc : Thread nD τ).loc main_arg2) (ix3 (bat t) ⟨(rb t).val * 512 + p.val, by have := (rb t).isLt; omega⟩ k) := by
  have e1 := map2 (grid0.coords t)
  refine Eq.trans ?_ (congrFun (V_main_arg2 m c) _)
  refine congrArg (V m c main_arg2) (funext fun a => Fin.ext ?_)
  fin_cases a
  · show cc0_transform_2 (grid0.coords t) 0 * 1 + 1 * 0 = (bat t).val
    rw [e1]; exact place_one _
  · show cc0_transform_2 (grid0.coords t) 1 * 512 + 1 * p.val = (rb t).val * 512 + p.val
    rw [e1]; exact place _ _ _
  · show cc0_transform_2 (grid0.coords t) 2 * 1024 + 1 * k.val = k.val
    rw [e1]; exact place_zero _ _
/-- The block of the first gates. -/
theorem ga_at (p : Fin 512) (k : Fin 1024) :
    X0_3 m c t (ix3 0 p k) = m ((c.tc : Thread nD τ).loc main_arg3) (ix3 (bat t) ⟨(rb t).val * 512 + p.val, by have := (rb t).isLt; omega⟩ k) := by
  have e1 := map3 (grid0.coords t)
  unfold X0_3 Pipeline.Window.fill
  rw [dif_pos (moved0_3 t _)]
  refine Eq.trans ?_ (congrFun (V_main_arg3 m c) _)
  refine congrArg (V m c main_arg3) (funext fun a => Fin.ext ?_)
  fin_cases a
  · show cc0_transform_3 (grid0.coords t) 0 * 1 + 1 * 0 = (bat t).val
    rw [e1]; exact place_one _
  · show cc0_transform_3 (grid0.coords t) 1 * 512 + 1 * p.val = (rb t).val * 512 + p.val
    rw [e1]; exact place _ _ _
  · show cc0_transform_3 (grid0.coords t) 2 * 1024 + 1 * k.val = k.val
    rw [e1]; exact place_zero _ _
/-- The block of the second gates. -/
theorem gb_at (p : Fin 512) (k : Fin 1024) :
    X0_4 m c t (ix3 0 p k) = m ((c.tc : Thread nD τ).loc main_arg4) (ix3 (bat t) ⟨(rb t).val * 512 + p.val, by have := (rb t).isLt; omega⟩ k) := by
  have e1 := map4 (grid0.coords t)
  unfold X0_4 Pipeline.Window.fill
  rw [dif_pos (moved0_4 t _)]
  refine Eq.trans ?_ (congrFun (V_main_arg4 m c) _)
  refine congrArg (V m c main_arg4) (funext fun a => Fin.ext ?_)
  fin_cases a
  · show cc0_transform_4 (grid0.coords t) 0 * 1 + 1 * 0 = (bat t).val
    rw [e1]; exact place_one _
  · show cc0_transform_4 (grid0.coords t) 1 * 512 + 1 * p.val = (rb t).val * 512 + p.val
    rw [e1]; exact place _ _ _
  · show cc0_transform_4 (grid0.coords t) 2 * 1024 + 1 * k.val = k.val
    rw [e1]; exact place_zero _ _
/-- The first projection's block is all of it. -/
theorem wa_at (d : Fin 512) (j : Fin 1024) : iblk m c 5 t (ix2 d j) = m ((c.tc : Thread nD τ).loc main_arg5) (ix2 d j) := by
  refine Eq.trans ?_ (congrFun (V_v17 m c) (ix2 d j))
  refine congrArg (V m c main_v17) (funext fun a => Fin.ext ?_)
  fin_cases a
  · show 0 * 512 + 1 * d.val = d.val
    exact place_zero _ _
  · show 0 * 1024 + 1 * j.val = j.val
    exact place_zero _ _
/-- The output projection's block is all of it. -/
theorem wo_at (d : Fin 1024) (j : Fin 1024) : iblk m c 7 t (ix2 d j) = m ((c.tc : Thread nD τ).loc main_arg7) (ix2 d j) := by
  refine Eq.trans ?_ (congrFun (V_v18 m c) (ix2 d j))
  refine congrArg (V m c main_v18) (funext fun a => Fin.ext ?_)
  fin_cases a
  · show 0 * 1024 + 1 * d.val = d.val
    exact place_zero _ _
  · show 0 * 1024 + 1 * j.val = j.val
    exact place_zero _ _
/-- The wide projection's block is all of it. -/
theorem wide_at (r j : Fin 1024) : iblk m c 6 t (ix2 r j) = V m c main_v10 (ix2 r j) := by
  refine congrArg (V m c main_v10) (funext fun a => Fin.ext ?_)
  fin_cases a
  · show 0 * 1024 + 1 * r.val = r.val
    exact place_zero _ _
  · show 0 * 1024 + 1 * j.val = j.val
    exact place_zero _ _
/-- A unit axis in front keeps the entries. -/
theorem front (x : FVec Ideal S1024 .f32) (k : Fin 1024) : shapeCast S1x1024 x shapeCasts_S1024_S1x1024 (ix2 0 k) = x (ix1 k) := by
  pointwise []
/-- The norm's weights' block. -/
theorem g_at (k : Fin 1024) : iblk m c 8 t (ix2 0 k) = m ((c.tc : Thread nD τ).loc main_arg8) (ix1 k) := by
  refine Eq.trans ?_ ((congrFun (V_v19 m c) (ix2 0 k)).trans (front _ _))
  refine congrArg (V m c main_v19) (funext fun a => Fin.ext ?_)
  fin_cases a
  · rfl
  · show 0 * 1024 + 1 * k.val = k.val
    exact place_zero _ _

end Cert.PostIdeal.Hand

end
-- ==== Proof.PostRef.Stages.lean ====
/- The reference's middle cut into named stages, and each stage read at an index. -/
module

public import proofs.«01_k».proof.Proof.Gen.PostRefIdeal.Run
public import proofs.«01_k».proof.Proof.PostMath.Row
public import Idealize.ShloMosaic.Lib.Pipeline.Value
public import Idealize.ShloMosaic.Lib.Pointwise

@[expose] public section

set_option maxRecDepth 16384

noncomputable section

namespace Cert.PostRefIdeal.Hand

open Cert.PostRefIdeal Cert.PostRefIdeal.Gen Cert.Post.Math
open Idealize.ShloMosaic Idealize.ShloMosaic.TcCoe

/-! ## The heads' results, half by half -/

variable (ob : FVec Ideal S8x8192x1024 .bf16)

/-- Each head's own half of its 128 columns, side by side. -/
def obR : FVec Ideal S8x8192x512 .f32 :=
  concatenate S8x8192x512 2 [⟨S8x8192x64, extractStridedSlice S8x8192x64 ![0, 0, 0] (extf .f32 ob bitsLt_bf16_f32) slices_S8x8192x1024_S8x8192x64_0_0_0⟩, ⟨S8x8192x64, extractStridedSlice S8x8192x64 ![0, 0, 128] (extf .f32 ob bitsLt_bf16_f32) slices_S8x8192x1024_S8x8192x64_0_0_128⟩, ⟨S8x8192x64, extractStridedSlice S8x8192x64 ![0, 0, 256] (extf .f32 ob bitsLt_bf16_f32) slices_S8x8192x1024_S8x8192x64_0_0_256⟩, ⟨S8x8192x64, extractStridedSlice S8x8192x64 ![0, 0, 384] (extf .f32 ob bitsLt_bf16_f32) slices_S8x8192x1024_S8x8192x64_0_0_384⟩, ⟨S8x8192x64, extractStridedSlice S8x8192x64 ![0, 0, 576] (extf .f32 ob bitsLt_bf16_f32) slices_S8x8192x1024_S8x8192x64_0_0_576⟩, ⟨S8x8192x64, extractStridedSlice S8x8192x64 ![0, 0, 704] (extf .f32 ob bitsLt_bf16_f32) slices_S8x8192x1024_S8x8192x64_0_0_704⟩, ⟨S8x8192x64, extractStridedSlice S8x8192x64 ![0, 0, 832] (extf .f32 ob bitsLt_bf16_f32) slices_S8x8192x1024_S8x8192x64_0_0_832⟩, ⟨S8x8192x64, extractStridedSlice S8x8192x64 ![0, 0, 960] (extf .f32 ob bitsLt_bf16_f32) slices_S8x8192x1024_S8x8192x64_0_0_960⟩] concatenates_S8x8192x64_S8x8192x64_S8x8192x64_S8x8192x64_S8x8192x64_S8x8192x64_S8x8192x64_S8x8192x64_S8x8192x512_d2

variable (b : Fin 8) (n : Fin 8192) (s : Fin 512) (d : Fin 64)

/-- The columns of head 0. -/
theorem obR_at0 (hs : s.val = 0 + d.val) : obR ob (ix3 b n s) = ob (ix3 b n (spread s)) := by
  have hd := d.isLt
  have e := concatenate_apply_piece (t := S8x8192x512) 2 [⟨S8x8192x64, extractStridedSlice S8x8192x64 ![0, 0, 0] (extf .f32 ob bitsLt_bf16_f32) slices_S8x8192x1024_S8x8192x64_0_0_0⟩, ⟨S8x8192x64, extractStridedSlice S8x8192x64 ![0, 0, 128] (extf .f32 ob bitsLt_bf16_f32) slices_S8x8192x1024_S8x8192x64_0_0_128⟩, ⟨S8x8192x64, extractStridedSlice S8x8192x64 ![0, 0, 256] (extf .f32 ob bitsLt_bf16_f32) slices_S8x8192x1024_S8x8192x64_0_0_256⟩, ⟨S8x8192x64, extractStridedSlice S8x8192x64 ![0, 0, 384] (extf .f32 ob bitsLt_bf16_f32) slices_S8x8192x1024_S8x8192x64_0_0_384⟩, ⟨S8x8192x64, extractStridedSlice S8x8192x64 ![0, 0, 576] (extf .f32 ob bitsLt_bf16_f32) slices_S8x8192x1024_S8x8192x64_0_0_576⟩, ⟨S8x8192x64, extractStridedSlice S8x8192x64 ![0, 0, 704] (extf .f32 ob bitsLt_bf16_f32) slices_S8x8192x1024_S8x8192x64_0_0_704⟩, ⟨S8x8192x64, extractStridedSlice S8x8192x64 ![0, 0, 832] (extf .f32 ob bitsLt_bf16_f32) slices_S8x8192x1024_S8x8192x64_0_0_832⟩, ⟨S8x8192x64, extractStridedSlice S8x8192x64 ![0, 0, 960] (extf .f32 ob bitsLt_bf16_f32) slices_S8x8192x1024_S8x8192x64_0_0_960⟩] concatenates_S8x8192x64_S8x8192x64_S8x8192x64_S8x8192x64_S8x8192x64_S8x8192x64_S8x8192x64_S8x8192x64_S8x8192x512_d2
    (ix3 b n s) 0 (by exact (by decide : 0 < 8)) S8x8192x64 (extractStridedSlice S8x8192x64 ![0, 0, 0] (extf .f32 ob bitsLt_bf16_f32) slices_S8x8192x1024_S8x8192x64_0_0_0) rfl rfl 0 rfl
    (ix3 b n d) (fun a ha => by
      fin_cases a
      · rfl
      · rfl
      · exact absurd rfl ha) (by show 0 + d.val = s.val; omega)
  refine e.trans ?_
  have e2 : (⟨0 + d.val, by omega⟩ : Fin 1024) = spread s := Fin.ext (by show 0 + d.val = 64 * (2 * (s.val / 64) + s.val / 256) + s.val % 64; omega)
  rw [← e2]
  refine congrArg ob (funext fun a => Fin.ext ?_)
  fin_cases a
  · show 0 + b.val = b.val; omega
  · show 0 + n.val = n.val; omega
  · rfl
/-- The columns of head 1. -/
theorem obR_at1 (hs : s.val = 64 + d.val) : obR ob (ix3 b n s) = ob (ix3 b n (spread s)) := by
  have hd := d.isLt
  have e := concatenate_apply_piece (t := S8x8192x512) 2 [⟨S8x8192x64, extractStridedSlice S8x8192x64 ![0, 0, 0] (extf .f32 ob bitsLt_bf16_f32) slices_S8x8192x1024_S8x8192x64_0_0_0⟩, ⟨S8x8192x64, extractStridedSlice S8x8192x64 ![0, 0, 128] (extf .f32 ob bitsLt_bf16_f32) slices_S8x8192x1024_S8x8192x64_0_0_128⟩, ⟨S8x8192x64, extractStridedSlice S8x8192x64 ![0, 0, 256] (extf .f32 ob bitsLt_bf16_f32) slices_S8x8192x1024_S8x8192x64_0_0_256⟩, ⟨S8x8192x64, extractStridedSlice S8x8192x64 ![0, 0, 384] (extf .f32 ob bitsLt_bf16_f32) slices_S8x8192x1024_S8x8192x64_0_0_384⟩, ⟨S8x8192x64, extractStridedSlice S8x8192x64 ![0, 0, 576] (extf .f32 ob bitsLt_bf16_f32) slices_S8x8192x1024_S8x8192x64_0_0_576⟩, ⟨S8x8192x64, extractStridedSlice S8x8192x64 ![0, 0, 704] (extf .f32 ob bitsLt_bf16_f32) slices_S8x8192x1024_S8x8192x64_0_0_704⟩, ⟨S8x8192x64, extractStridedSlice S8x8192x64 ![0, 0, 832] (extf .f32 ob bitsLt_bf16_f32) slices_S8x8192x1024_S8x8192x64_0_0_832⟩, ⟨S8x8192x64, extractStridedSlice S8x8192x64 ![0, 0, 960] (extf .f32 ob bitsLt_bf16_f32) slices_S8x8192x1024_S8x8192x64_0_0_960⟩] concatenates_S8x8192x64_S8x8192x64_S8x8192x64_S8x8192x64_S8x8192x64_S8x8192x64_S8x8192x64_S8x8192x64_S8x8192x512_d2
    (ix3 b n s) 1 (by exact (by decide : 1 < 8)) S8x8192x64 (extractStridedSlice S8x8192x64 ![0, 0, 128] (extf .f32 ob bitsLt_bf16_f32) slices_S8x8192x1024_S8x8192x64_0_0_128) rfl rfl 64 rfl
    (ix3 b n d) (fun a ha => by
      fin_cases a
      · rfl
      · rfl
      · exact absurd rfl ha) (by show 64 + d.val = s.val; omega)
  refine e.trans ?_
  have e2 : (⟨128 + d.val, by omega⟩ : Fin 1024) = spread s := Fin.ext (by show 128 + d.val = 64 * (2 * (s.val / 64) + s.val / 256) + s.val % 64; omega)
  rw [← e2]
  refine congrArg ob (funext fun a => Fin.ext ?_)
  fin_cases a
  · show 0 + b.val = b.val; omega
  · show 0 + n.val = n.val; omega
  · rfl
/-- The columns of head 2. -/
theorem obR_at2 (hs : s.val = 128 + d.val) : obR ob (ix3 b n s) = ob (ix3 b n (spread s)) := by
  have hd := d.isLt
  have e := concatenate_apply_piece (t := S8x8192x512) 2 [⟨S8x8192x64, extractStridedSlice S8x8192x64 ![0, 0, 0] (extf .f32 ob bitsLt_bf16_f32) slices_S8x8192x1024_S8x8192x64_0_0_0⟩, ⟨S8x8192x64, extractStridedSlice S8x8192x64 ![0, 0, 128] (extf .f32 ob bitsLt_bf16_f32) slices_S8x8192x1024_S8x8192x64_0_0_128⟩, ⟨S8x8192x64, extractStridedSlice S8x8192x64 ![0, 0, 256] (extf .f32 ob bitsLt_bf16_f32) slices_S8x8192x1024_S8x8192x64_0_0_256⟩, ⟨S8x8192x64, extractStridedSlice S8x8192x64 ![0, 0, 384] (extf .f32 ob bitsLt_bf16_f32) slices_S8x8192x1024_S8x8192x64_0_0_384⟩, ⟨S8x8192x64, extractStridedSlice S8x8192x64 ![0, 0, 576] (extf .f32 ob bitsLt_bf16_f32) slices_S8x8192x1024_S8x8192x64_0_0_576⟩, ⟨S8x8192x64, extractStridedSlice S8x8192x64 ![0, 0, 704] (extf .f32 ob bitsLt_bf16_f32) slices_S8x8192x1024_S8x8192x64_0_0_704⟩, ⟨S8x8192x64, extractStridedSlice S8x8192x64 ![0, 0, 832] (extf .f32 ob bitsLt_bf16_f32) slices_S8x8192x1024_S8x8192x64_0_0_832⟩, ⟨S8x8192x64, extractStridedSlice S8x8192x64 ![0, 0, 960] (extf .f32 ob bitsLt_bf16_f32) slices_S8x8192x1024_S8x8192x64_0_0_960⟩] concatenates_S8x8192x64_S8x8192x64_S8x8192x64_S8x8192x64_S8x8192x64_S8x8192x64_S8x8192x64_S8x8192x64_S8x8192x512_d2
    (ix3 b n s) 2 (by exact (by decide : 2 < 8)) S8x8192x64 (extractStridedSlice S8x8192x64 ![0, 0, 256] (extf .f32 ob bitsLt_bf16_f32) slices_S8x8192x1024_S8x8192x64_0_0_256) rfl rfl 128 rfl
    (ix3 b n d) (fun a ha => by
      fin_cases a
      · rfl
      · rfl
      · exact absurd rfl ha) (by show 128 + d.val = s.val; omega)
  refine e.trans ?_
  have e2 : (⟨256 + d.val, by omega⟩ : Fin 1024) = spread s := Fin.ext (by show 256 + d.val = 64 * (2 * (s.val / 64) + s.val / 256) + s.val % 64; omega)
  rw [← e2]
  refine congrArg ob (funext fun a => Fin.ext ?_)
  fin_cases a
  · show 0 + b.val = b.val; omega
  · show 0 + n.val = n.val; omega
  · rfl
/-- The columns of head 3. -/
theorem obR_at3 (hs : s.val = 192 + d.val) : obR ob (ix3 b n s) = ob (ix3 b n (spread s)) := by
  have hd := d.isLt
  have e := concatenate_apply_piece (t := S8x8192x512) 2 [⟨S8x8192x64, extractStridedSlice S8x8192x64 ![0, 0, 0] (extf .f32 ob bitsLt_bf16_f32) slices_S8x8192x1024_S8x8192x64_0_0_0⟩, ⟨S8x8192x64, extractStridedSlice S8x8192x64 ![0, 0, 128] (extf .f32 ob bitsLt_bf16_f32) slices_S8x8192x1024_S8x8192x64_0_0_128⟩, ⟨S8x8192x64, extractStridedSlice S8x8192x64 ![0, 0, 256] (extf .f32 ob bitsLt_bf16_f32) slices_S8x8192x1024_S8x8192x64_0_0_256⟩, ⟨S8x8192x64, extractStridedSlice S8x8192x64 ![0, 0, 384] (extf .f32 ob bitsLt_bf16_f32) slices_S8x8192x1024_S8x8192x64_0_0_384⟩, ⟨S8x8192x64, extractStridedSlice S8x8192x64 ![0, 0, 576] (extf .f32 ob bitsLt_bf16_f32) slices_S8x8192x1024_S8x8192x64_0_0_576⟩, ⟨S8x8192x64, extractStridedSlice S8x8192x64 ![0, 0, 704] (extf .f32 ob bitsLt_bf16_f32) slices_S8x8192x1024_S8x8192x64_0_0_704⟩, ⟨S8x8192x64, extractStridedSlice S8x8192x64 ![0, 0, 832] (extf .f32 ob bitsLt_bf16_f32) slices_S8x8192x1024_S8x8192x64_0_0_832⟩, ⟨S8x8192x64, extractStridedSlice S8x8192x64 ![0, 0, 960] (extf .f32 ob bitsLt_bf16_f32) slices_S8x8192x1024_S8x8192x64_0_0_960⟩] concatenates_S8x8192x64_S8x8192x64_S8x8192x64_S8x8192x64_S8x8192x64_S8x8192x64_S8x8192x64_S8x8192x64_S8x8192x512_d2
    (ix3 b n s) 3 (by exact (by decide : 3 < 8)) S8x8192x64 (extractStridedSlice S8x8192x64 ![0, 0, 384] (extf .f32 ob bitsLt_bf16_f32) slices_S8x8192x1024_S8x8192x64_0_0_384) rfl rfl 192 rfl
    (ix3 b n d) (fun a ha => by
      fin_cases a
      · rfl
      · rfl
      · exact absurd rfl ha) (by show 192 + d.val = s.val; omega)
  refine e.trans ?_
  have e2 : (⟨384 + d.val, by omega⟩ : Fin 1024) = spread s := Fin.ext (by show 384 + d.val = 64 * (2 * (s.val / 64) + s.val / 256) + s.val % 64; omega)
  rw [← e2]
  refine congrArg ob (funext fun a => Fin.ext ?_)
  fin_cases a
  · show 0 + b.val = b.val; omega
  · show 0 + n.val = n.val; omega
  · rfl
/-- The columns of head 4. -/
theorem obR_at4 (hs : s.val = 256 + d.val) : obR ob (ix3 b n s) = ob (ix3 b n (spread s)) := by
  have hd := d.isLt
  have e := concatenate_apply_piece (t := S8x8192x512) 2 [⟨S8x8192x64, extractStridedSlice S8x8192x64 ![0, 0, 0] (extf .f32 ob bitsLt_bf16_f32) slices_S8x8192x1024_S8x8192x64_0_0_0⟩, ⟨S8x8192x64, extractStridedSlice S8x8192x64 ![0, 0, 128] (extf .f32 ob bitsLt_bf16_f32) slices_S8x8192x1024_S8x8192x64_0_0_128⟩, ⟨S8x8192x64, extractStridedSlice S8x8192x64 ![0, 0, 256] (extf .f32 ob bitsLt_bf16_f32) slices_S8x8192x1024_S8x8192x64_0_0_256⟩, ⟨S8x8192x64, extractStridedSlice S8x8192x64 ![0, 0, 384] (extf .f32 ob bitsLt_bf16_f32) slices_S8x8192x1024_S8x8192x64_0_0_384⟩, ⟨S8x8192x64, extractStridedSlice S8x8192x64 ![0, 0, 576] (extf .f32 ob bitsLt_bf16_f32) slices_S8x8192x1024_S8x8192x64_0_0_576⟩, ⟨S8x8192x64, extractStridedSlice S8x8192x64 ![0, 0, 704] (extf .f32 ob bitsLt_bf16_f32) slices_S8x8192x1024_S8x8192x64_0_0_704⟩, ⟨S8x8192x64, extractStridedSlice S8x8192x64 ![0, 0, 832] (extf .f32 ob bitsLt_bf16_f32) slices_S8x8192x1024_S8x8192x64_0_0_832⟩, ⟨S8x8192x64, extractStridedSlice S8x8192x64 ![0, 0, 960] (extf .f32 ob bitsLt_bf16_f32) slices_S8x8192x1024_S8x8192x64_0_0_960⟩] concatenates_S8x8192x64_S8x8192x64_S8x8192x64_S8x8192x64_S8x8192x64_S8x8192x64_S8x8192x64_S8x8192x64_S8x8192x512_d2
    (ix3 b n s) 4 (by exact (by decide : 4 < 8)) S8x8192x64 (extractStridedSlice S8x8192x64 ![0, 0, 576] (extf .f32 ob bitsLt_bf16_f32) slices_S8x8192x1024_S8x8192x64_0_0_576) rfl rfl 256 rfl
    (ix3 b n d) (fun a ha => by
      fin_cases a
      · rfl
      · rfl
      · exact absurd rfl ha) (by show 256 + d.val = s.val; omega)
  refine e.trans ?_
  have e2 : (⟨576 + d.val, by omega⟩ : Fin 1024) = spread s := Fin.ext (by show 576 + d.val = 64 * (2 * (s.val / 64) + s.val / 256) + s.val % 64; omega)
  rw [← e2]
  refine congrArg ob (funext fun a => Fin.ext ?_)
  fin_cases a
  · show 0 + b.val = b.val; omega
  · show 0 + n.val = n.val; omega
  · rfl
/-- The columns of head 5. -/
theorem obR_at5 (hs : s.val = 320 + d.val) : obR ob (ix3 b n s) = ob (ix3 b n (spread s)) := by
  have hd := d.isLt
  have e := concatenate_apply_piece (t := S8x8192x512) 2 [⟨S8x8192x64, extractStridedSlice S8x8192x64 ![0, 0, 0] (extf .f32 ob bitsLt_bf16_f32) slices_S8x8192x1024_S8x8192x64_0_0_0⟩, ⟨S8x8192x64, extractStridedSlice S8x8192x64 ![0, 0, 128] (extf .f32 ob bitsLt_bf16_f32) slices_S8x8192x1024_S8x8192x64_0_0_128⟩, ⟨S8x8192x64, extractStridedSlice S8x8192x64 ![0, 0, 256] (extf .f32 ob bitsLt_bf16_f32) slices_S8x8192x1024_S8x8192x64_0_0_256⟩, ⟨S8x8192x64, extractStridedSlice S8x8192x64 ![0, 0, 384] (extf .f32 ob bitsLt_bf16_f32) slices_S8x8192x1024_S8x8192x64_0_0_384⟩, ⟨S8x8192x64, extractStridedSlice S8x8192x64 ![0, 0, 576] (extf .f32 ob bitsLt_bf16_f32) slices_S8x8192x1024_S8x8192x64_0_0_576⟩, ⟨S8x8192x64, extractStridedSlice S8x8192x64 ![0, 0, 704] (extf .f32 ob bitsLt_bf16_f32) slices_S8x8192x1024_S8x8192x64_0_0_704⟩, ⟨S8x8192x64, extractStridedSlice S8x8192x64 ![0, 0, 832] (extf .f32 ob bitsLt_bf16_f32) slices_S8x8192x1024_S8x8192x64_0_0_832⟩, ⟨S8x8192x64, extractStridedSlice S8x8192x64 ![0, 0, 960] (extf .f32 ob bitsLt_bf16_f32) slices_S8x8192x1024_S8x8192x64_0_0_960⟩] concatenates_S8x8192x64_S8x8192x64_S8x8192x64_S8x8192x64_S8x8192x64_S8x8192x64_S8x8192x64_S8x8192x64_S8x8192x512_d2
    (ix3 b n s) 5 (by exact (by decide : 5 < 8)) S8x8192x64 (extractStridedSlice S8x8192x64 ![0, 0, 704] (extf .f32 ob bitsLt_bf16_f32) slices_S8x8192x1024_S8x8192x64_0_0_704) rfl rfl 320 rfl
    (ix3 b n d) (fun a ha => by
      fin_cases a
      · rfl
      · rfl
      · exact absurd rfl ha) (by show 320 + d.val = s.val; omega)
  refine e.trans ?_
  have e2 : (⟨704 + d.val, by omega⟩ : Fin 1024) = spread s := Fin.ext (by show 704 + d.val = 64 * (2 * (s.val / 64) + s.val / 256) + s.val % 64; omega)
  rw [← e2]
  refine congrArg ob (funext fun a => Fin.ext ?_)
  fin_cases a
  · show 0 + b.val = b.val; omega
  · show 0 + n.val = n.val; omega
  · rfl
/-- The columns of head 6. -/
theorem obR_at6 (hs : s.val = 384 + d.val) : obR ob (ix3 b n s) = ob (ix3 b n (spread s)) := by
  have hd := d.isLt
  have e := concatenate_apply_piece (t := S8x8192x512) 2 [⟨S8x8192x64, extractStridedSlice S8x8192x64 ![0, 0, 0] (extf .f32 ob bitsLt_bf16_f32) slices_S8x8192x1024_S8x8192x64_0_0_0⟩, ⟨S8x8192x64, extractStridedSlice S8x8192x64 ![0, 0, 128] (extf .f32 ob bitsLt_bf16_f32) slices_S8x8192x1024_S8x8192x64_0_0_128⟩, ⟨S8x8192x64, extractStridedSlice S8x8192x64 ![0, 0, 256] (extf .f32 ob bitsLt_bf16_f32) slices_S8x8192x1024_S8x8192x64_0_0_256⟩, ⟨S8x8192x64, extractStridedSlice S8x8192x64 ![0, 0, 384] (extf .f32 ob bitsLt_bf16_f32) slices_S8x8192x1024_S8x8192x64_0_0_384⟩, ⟨S8x8192x64, extractStridedSlice S8x8192x64 ![0, 0, 576] (extf .f32 ob bitsLt_bf16_f32) slices_S8x8192x1024_S8x8192x64_0_0_576⟩, ⟨S8x8192x64, extractStridedSlice S8x8192x64 ![0, 0, 704] (extf .f32 ob bitsLt_bf16_f32) slices_S8x8192x1024_S8x8192x64_0_0_704⟩, ⟨S8x8192x64, extractStridedSlice S8x8192x64 ![0, 0, 832] (extf .f32 ob bitsLt_bf16_f32) slices_S8x8192x1024_S8x8192x64_0_0_832⟩, ⟨S8x8192x64, extractStridedSlice S8x8192x64 ![0, 0, 960] (extf .f32 ob bitsLt_bf16_f32) slices_S8x8192x1024_S8x8192x64_0_0_960⟩] concatenates_S8x8192x64_S8x8192x64_S8x8192x64_S8x8192x64_S8x8192x64_S8x8192x64_S8x8192x64_S8x8192x64_S8x8192x512_d2
    (ix3 b n s) 6 (by exact (by decide : 6 < 8)) S8x8192x64 (extractStridedSlice S8x8192x64 ![0, 0, 832] (extf .f32 ob bitsLt_bf16_f32) slices_S8x8192x1024_S8x8192x64_0_0_832) rfl rfl 384 rfl
    (ix3 b n d) (fun a ha => by
      fin_cases a
      · rfl
      · rfl
      · exact absurd rfl ha) (by show 384 + d.val = s.val; omega)
  refine e.trans ?_
  have e2 : (⟨832 + d.val, by omega⟩ : Fin 1024) = spread s := Fin.ext (by show 832 + d.val = 64 * (2 * (s.val / 64) + s.val / 256) + s.val % 64; omega)
  rw [← e2]
  refine congrArg ob (funext fun a => Fin.ext ?_)
  fin_cases a
  · show 0 + b.val = b.val; omega
  · show 0 + n.val = n.val; omega
  · rfl
/-- The columns of head 7. -/
theorem obR_at7 (hs : s.val = 448 + d.val) : obR ob (ix3 b n s) = ob (ix3 b n (spread s)) := by
  have hd := d.isLt
  have e := concatenate_apply_piece (t := S8x8192x512) 2 [⟨S8x8192x64, extractStridedSlice S8x8192x64 ![0, 0, 0] (extf .f32 ob bitsLt_bf16_f32) slices_S8x8192x1024_S8x8192x64_0_0_0⟩, ⟨S8x8192x64, extractStridedSlice S8x8192x64 ![0, 0, 128] (extf .f32 ob bitsLt_bf16_f32) slices_S8x8192x1024_S8x8192x64_0_0_128⟩, ⟨S8x8192x64, extractStridedSlice S8x8192x64 ![0, 0, 256] (extf .f32 ob bitsLt_bf16_f32) slices_S8x8192x1024_S8x8192x64_0_0_256⟩, ⟨S8x8192x64, extractStridedSlice S8x8192x64 ![0, 0, 384] (extf .f32 ob bitsLt_bf16_f32) slices_S8x8192x1024_S8x8192x64_0_0_384⟩, ⟨S8x8192x64, extractStridedSlice S8x8192x64 ![0, 0, 576] (extf .f32 ob bitsLt_bf16_f32) slices_S8x8192x1024_S8x8192x64_0_0_576⟩, ⟨S8x8192x64, extractStridedSlice S8x8192x64 ![0, 0, 704] (extf .f32 ob bitsLt_bf16_f32) slices_S8x8192x1024_S8x8192x64_0_0_704⟩, ⟨S8x8192x64, extractStridedSlice S8x8192x64 ![0, 0, 832] (extf .f32 ob bitsLt_bf16_f32) slices_S8x8192x1024_S8x8192x64_0_0_832⟩, ⟨S8x8192x64, extractStridedSlice S8x8192x64 ![0, 0, 960] (extf .f32 ob bitsLt_bf16_f32) slices_S8x8192x1024_S8x8192x64_0_0_960⟩] concatenates_S8x8192x64_S8x8192x64_S8x8192x64_S8x8192x64_S8x8192x64_S8x8192x64_S8x8192x64_S8x8192x64_S8x8192x512_d2
    (ix3 b n s) 7 (by exact (by decide : 7 < 8)) S8x8192x64 (extractStridedSlice S8x8192x64 ![0, 0, 960] (extf .f32 ob bitsLt_bf16_f32) slices_S8x8192x1024_S8x8192x64_0_0_960) rfl rfl 448 rfl
    (ix3 b n d) (fun a ha => by
      fin_cases a
      · rfl
      · rfl
      · exact absurd rfl ha) (by show 448 + d.val = s.val; omega)
  refine e.trans ?_
  have e2 : (⟨960 + d.val, by omega⟩ : Fin 1024) = spread s := Fin.ext (by show 960 + d.val = 64 * (2 * (s.val / 64) + s.val / 256) + s.val % 64; omega)
  rw [← e2]
  refine congrArg ob (funext fun a => Fin.ext ?_)
  fin_cases a
  · show 0 + b.val = b.val; omega
  · show 0 + n.val = n.val; omega
  · rfl
/-- The heads' results at a column. -/
theorem obR_at : obR ob (ix3 b n s) = ob (ix3 b n (spread s)) := by
  have hs := s.isLt
  have hc : s.val / 64 = 0 ∨ s.val / 64 = 1 ∨ s.val / 64 = 2 ∨ s.val / 64 = 3 ∨ s.val / 64 = 4 ∨ s.val / 64 = 5 ∨ s.val / 64 = 6 ∨ s.val / 64 = 7 := by omega
  have hd : s.val % 64 < 64 := by omega
  rcases hc with h | h | h | h | h | h | h | h
  · exact obR_at0 ob b n s ⟨s.val % 64, hd⟩ (by show s.val = 0 + s.val % 64; omega)
  · exact obR_at1 ob b n s ⟨s.val % 64, hd⟩ (by show s.val = 64 + s.val % 64; omega)
  · exact obR_at2 ob b n s ⟨s.val % 64, hd⟩ (by show s.val = 128 + s.val % 64; omega)
  · exact obR_at3 ob b n s ⟨s.val % 64, hd⟩ (by show s.val = 192 + s.val % 64; omega)
  · exact obR_at4 ob b n s ⟨s.val % 64, hd⟩ (by show s.val = 256 + s.val % 64; omega)
  · exact obR_at5 ob b n s ⟨s.val % 64, hd⟩ (by show s.val = 320 + s.val % 64; omega)
  · exact obR_at6 ob b n s ⟨s.val % 64, hd⟩ (by show s.val = 384 + s.val % 64; omega)
  · exact obR_at7 ob b n s ⟨s.val % 64, hd⟩ (by show s.val = 448 + s.val % 64; omega)

/-! ## The sum and its norm -/

variable (x : FVec Ideal S8x8192x1024 .f32) (oa : FVec Ideal S8x8192x512 .bf16) (ga gb : FVec Ideal S8x8320x1024 .f32)
  (wa wb : FVec Ideal S512x1024 .f32) (wo : FVec Ideal S1024x1024 .f32) (g : FVec Ideal S1024 .f32)

/-- The gated projections. -/
def mixR : FVec Ideal S8x8192x1024 .f32 :=
  addf (mulf (extractStridedSlice S8x8192x1024 ![0, 0, 0] ga slices_S8x8320x1024_S8x8192x1024_0_0_0) (Host.dotGeneral (F := Ideal) dot_S8x8192x512_S512x1024_S8x8192x1024_2_0_01_1_n_n none (extf .f32 oa bitsLt_bf16_f32 : FVec Ideal S8x8192x512 .f32) wa)) (mulf (extractStridedSlice S8x8192x1024 ![0, 0, 0] gb slices_S8x8320x1024_S8x8192x1024_0_0_0) (Host.dotGeneral (F := Ideal) dot_S8x8192x512_S512x1024_S8x8192x1024_2_0_01_1_n_n none (obR ob) wb))
/-- The sum. -/
def x1R : FVec Ideal S8x8192x1024 .f32 :=
  addf x (Host.dotGeneral dot_S8x8192x1024_S1024x1024_S8x8192x1024_2_0_01_1_n_n none (mixR ob oa ga gb wa wb) wo)
/-- A norm of rows. -/
def normR (z : FVec Ideal S8x8192x1024 .f32) : FVec Ideal S8x8192x1024 .bf16 :=
  truncf .bf16 (mulf (mulf z (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf z z) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))) bitsLt_bf16_f32

/-- The gated projections at an index. -/
theorem mixR_at (k : Fin 1024) : mixR ob oa ga gb wa wb (ix3 b n k) =
    mix (fun k => ga (ix3 b ⟨n.val, by omega⟩ k)) (fun k => gb (ix3 b ⟨n.val, by omega⟩ k)) (fun s => oa (ix3 b n s)) (fun s => ob (ix3 b n (spread s)))
      (fun s k => wa (ix2 s k)) (fun s k => wb (ix2 s k)) k := by
  have e : mixR ob oa ga gb wa wb (ix3 b n k) =
      ga (ix3 b ⟨n.val, by omega⟩ k) * (∑ s, oa (ix3 b n s) * wa (ix2 s k)) + gb (ix3 b ⟨n.val, by omega⟩ k) * (∑ s, obR ob (ix3 b n s) * wb (ix2 s k)) := by
    pointwise [mixR]
  rw [e]
  unfold mix
  refine congrArg (ga (ix3 b ⟨n.val, by omega⟩ k) * (∑ s, oa (ix3 b n s) * wa (ix2 s k)) + ·) (congrArg (gb (ix3 b ⟨n.val, by omega⟩ k) * ·) ?_)
  exact Finset.sum_congr rfl fun s _ => by rw [obR_at]
/-- The sum at an index. -/
theorem x1R_at (j : Fin 1024) : x1R ob x oa ga gb wa wb wo (ix3 b n j) =
    sumRow (fun k => x (ix3 b n k)) (fun k => ga (ix3 b ⟨n.val, by omega⟩ k)) (fun k => gb (ix3 b ⟨n.val, by omega⟩ k)) (fun s => oa (ix3 b n s)) (fun s => ob (ix3 b n (spread s)))
      (fun s k => wa (ix2 s k)) (fun s k => wb (ix2 s k)) (fun k j => wo (ix2 k j)) j := by
  have e : x1R ob x oa ga gb wa wb wo (ix3 b n j) = x (ix3 b n j) + ∑ k, mixR ob oa ga gb wa wb (ix3 b n k) * wo (ix2 k j) := by
    pointwise [x1R]
  rw [e]
  unfold sumRow
  refine congrArg (x (ix3 b n j) + ·) (Finset.sum_congr rfl fun k _ => by rw [mixR_at])
/-- A norm at an index. -/
theorem normR_at (z : FVec Ideal S8x8192x1024 .f32) (d : Fin 1024) : normR g z (ix3 b n d) = normRow (fun k => z (ix3 b n k)) (fun k => g (ix1 k)) d := by
  pointwise [normR]
  rfl

end Cert.PostRefIdeal.Hand

end
-- ==== Proof.PostIdeal.Value.lean ====
/- The sum and the normalised sum the post call leaves, and the reference's, as the same arrays of extended reals. -/
module

public import proofs.«01_k».proof.Proof.PostIdeal.Reads
public import proofs.«01_k».proof.Proof.PostRef.Stages

@[expose] public section

set_option maxRecDepth 16384

noncomputable section

namespace Cert.PostIdeal.Hand

open Cert.PostIdeal.Gen Cert.Post.Math
open Idealize.ShloMosaic Idealize.ShloMosaic.TcCoe

variable (m : (ℓ : Loc nD τ sig) → Buf (Elt Ideal) ℓ) (c : Dev nD)

/-- One row of the sum, from the arguments. -/
def sumAt (b : Fin 8) (n : Fin 8192) (j : Fin 1024) : EReal :=
  sumRow (fun k => m ((c.tc : Thread nD τ).loc main_arg0) (ix3 b n k)) (fun k => m ((c.tc : Thread nD τ).loc main_arg3) (ix3 b ⟨n.val, by omega⟩ k)) (fun k => m ((c.tc : Thread nD τ).loc main_arg4) (ix3 b ⟨n.val, by omega⟩ k))
    (fun s => m ((c.tc : Thread nD τ).loc main_arg1) (ix3 b n s)) (fun s => m ((c.tc : Thread nD τ).loc main_arg2) (ix3 b n (spread s)))
    (fun s k => m ((c.tc : Thread nD τ).loc main_arg5) (ix2 s k)) (fun s k => m ((c.tc : Thread nD τ).loc main_arg6) (ix2 s k)) (fun k j => m ((c.tc : Thread nD τ).loc main_arg7) (ix2 k j)) j

/-- What the call leaves in the sum. -/
def res11 : S8x8192x1024.Idx → EReal := fun y => sumAt m c (y 0) (y 1) (y 2)
/-- What the call leaves in the normalised sum. -/
def res12 : S8x8192x1024.Idx → EReal := fun y => normRow (sumAt m c (y 0) (y 1)) (fun k => m ((c.tc : Thread nD τ).loc main_arg8) (ix1 k)) (y 2)

/-- The reference's sum is the same. -/
theorem ref_eq11 : Cert.PostRefIdeal.Hand.x1R (m ((c.tc : Thread nD τ).loc main_arg2)) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = res11 m c := by
  funext y
  obtain ⟨b, n, j, rfl⟩ : ∃ (b : Fin 8) (n : Fin 8192) (j : Fin 1024), y = ix3 b n j := ⟨y 0, y 1, y 2, by funext a; fin_cases a <;> rfl⟩
  exact Cert.PostRefIdeal.Hand.x1R_at _ b n _ _ _ _ _ _ _ j
/-- The reference's normalised sum is the same. -/
theorem ref_eq12 : Cert.PostRefIdeal.Hand.normR (m ((c.tc : Thread nD τ).loc main_arg8)) (Cert.PostRefIdeal.Hand.x1R (m ((c.tc : Thread nD τ).loc main_arg2)) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) = res12 m c := by
  funext y
  obtain ⟨b, n, j, rfl⟩ : ∃ (b : Fin 8) (n : Fin 8192) (j : Fin 1024), y = ix3 b n j := ⟨y 0, y 1, y 2, by funext a; fin_cases a <;> rfl⟩
  refine (Cert.PostRefIdeal.Hand.normR_at b n _ _ j).trans ?_
  rw [ref_eq11]
  rfl

variable (t : Fin cfg0.N)

/-- The row of the sum one point computes. -/
theorem sum_blk (p : Fin 512) (n : Fin 8192) (hn : n.val = (rb t).val * 512 + p.val) (j : Fin 1024) :
    k0_pay2 (iblk m c 1 t) (iblk m c 5 t) (iblk m c 2 t) (iblk m c 6 t) (X0_3 m c t) (X0_4 m c t) (iblk m c 0 t) (iblk m c 7 t) (ix2 p j) = sumAt m c (bat t) n j := by
  have hr : (rb t).val < 16 := (rb t).isLt
  have e0 : n = ⟨(rb t).val * 512 + p.val, by omega⟩ := Fin.ext hn
  rw [e0]
  refine (pay2_row (iblk m c 0 t) (iblk m c 1 t) (iblk m c 2 t) (X0_3 m c t) (X0_4 m c t) (iblk m c 5 t) (iblk m c 6 t) (iblk m c 7 t) p
    (fun s k => m ((c.tc : Thread nD τ).loc main_arg6) (ix2 s k)) (fun s k => (wide_at m c t (spread s) k).trans (wide_spread m c k s))
    (fun r k hr => (wide_at m c t r k).trans (wide_zero m c r k hr)) j).trans ?_
  unfold sumAt
  rw [funext (x_at m c t p), funext (ga_at m c t p), funext (gb_at m c t p), funext (oa_at m c t p), funext fun s => ob_at m c t p (spread s),
    funext fun s => funext (wa_at m c t s), funext fun k => funext (wo_at m c t k)]

/-! ## The sum -/

/-- The blocks of the sum fill the array. -/
theorem covers11 : (cfg0.win 11).Covers := by
  refine Pipeline.Window.covers_of_indexMap_surj _ rfl (by decide) fun β => ?_
  have h0 : (β 0).val < 8 := (β 0).isLt
  have h1 : (β 1).val < 16 := (β 1).isLt
  have h2 : (β 2).val < 1 := (β 2).isLt
  let i : grid0.Coords := fun | 0 => ⟨(β 0).val, h0⟩ | 1 => ⟨(β 1).val, h1⟩
  refine ⟨i, fun a => ?_⟩
  have e : cc0_transform_11 i = ![(i 0).val, (i 1).val, 0] := map11 i
  refine (congrFun e a).trans ?_
  fin_cases a
  · rfl
  · rfl
  · show 0 = (β 2).val
    omega

/-- What a point leaves in its block of the sum. -/
theorem blk11 (p : Fin 512) (j : Fin 1024) (n : Fin 8192) (hn : n.val = (rb t).val * 512 + p.val) :
    (outsAt0 m c t).1 (ix3 0 p j) = res11 m c (ix3 (bat t) n j) := by
  unfold outsAt0
  dsimp only
  rw [out11_eq, pay3_at]
  exact sum_blk m c t p n hn j

/-- Where an element of the block sits in the array. -/
theorem emb11 (y : ((cfg0.win 11).xblock (cfg0.grid.coords t)).Idx) (p : Fin 512) (hp : p = y 1) (j : Fin 1024) (hj : j = y 2) (n : Fin 8192) (hn : n.val = (rb t).val * 512 + p.val) :
    ((cfg0.win 11).blk t).view.emb y = (ix3 (bat t) n j : S8x8192x1024.Idx) := by
  have hy0 : y 0 = (0 : Fin 1) := Subsingleton.elim (α := Fin 1) _ _
  have e1 : cc0_transform_11 (grid0.coords t) = _ := map11 (grid0.coords t)
  funext a; apply Fin.ext
  fin_cases a
  · show cc0_transform_11 (grid0.coords t) 0 * 1 + 1 * (y 0).val = (bat t).val
    rw [e1, hy0]; exact place_one _
  · show cc0_transform_11 (grid0.coords t) 1 * 512 + 1 * (y 1).val = n.val
    rw [e1, ← hp, hn]; exact place _ _ _
  · show cc0_transform_11 (grid0.coords t) 2 * 1024 + 1 * (y 2).val = j.val
    rw [e1, ← hj]; exact place_zero _ _

/-- An element of the block, as the block's own index. -/
theorem inj11 (y : ((cfg0.win 11).xblock (cfg0.grid.coords t)).Idx) (p : Fin 512) (hp : p = y 1) (j : Fin 1024) (hj : j = y 2) :
    (cfg0.win 11).xinj (cfg0.grid.coords t) y = (ix3 0 p j : S1x512x1024.Idx) := by
  have hy0 : y 0 = (0 : Fin 1) := Subsingleton.elim (α := Fin 1) _ _
  funext a; fin_cases a
  · exact hy0
  · exact hp.symm
  · exact hj.symm

/-- The array the call leaves. -/
theorem arr_eq11 : (dats m 0 c).arrAt 11 cfg0.N = res11 m c := by
  refine (dats m 0 c).arrAt_eq_of_covers 11 _ covers11 fun t hf y => ?_
  obtain ⟨p, hp⟩ : ∃ p : Fin 512, p = y 1 := ⟨_, rfl⟩
  obtain ⟨j, hj⟩ : ∃ j : Fin 1024, j = y 2 := ⟨_, rfl⟩
  have hr : (rb t).val < 16 := (rb t).isLt
  rw [after0_11]
  rw [inj11 t y p hp j hj, emb11 t y p hp j hj ⟨(rb t).val * 512 + p.val, by omega⟩ rfl]
  exact (cast_eq _ _).trans (blk11 m c t p j _ rfl)

/-! ## The normalised sum -/

/-- The blocks of the normalised sum fill the array. -/
theorem covers12 : (cfg0.win 12).Covers := by
  refine Pipeline.Window.covers_of_indexMap_surj _ rfl (by decide) fun β => ?_
  have h0 : (β 0).val < 8 := (β 0).isLt
  have h1 : (β 1).val < 16 := (β 1).isLt
  have h2 : (β 2).val < 1 := (β 2).isLt
  let i : grid0.Coords := fun | 0 => ⟨(β 0).val, h0⟩ | 1 => ⟨(β 1).val, h1⟩
  refine ⟨i, fun a => ?_⟩
  have e : cc0_transform_12 i = ![(i 0).val, (i 1).val, 0] := map12 i
  refine (congrFun e a).trans ?_
  fin_cases a
  · rfl
  · rfl
  · show 0 = (β 2).val
    omega

/-- What a point leaves in its block of the normalised sum. -/
theorem blk12 (p : Fin 512) (j : Fin 1024) (n : Fin 8192) (hn : n.val = (rb t).val * 512 + p.val) :
    (outsAt0 m c t).2.1 (ix3 0 p j) = res12 m c (ix3 (bat t) n j) := by
  unfold outsAt0
  dsimp only
  rw [out12_eq, pay6_at, pay4_at, g_at]
  simp only [sum_blk m c t p n hn]
  rfl

/-- Where an element of the block sits in the array. -/
theorem emb12 (y : ((cfg0.win 12).xblock (cfg0.grid.coords t)).Idx) (p : Fin 512) (hp : p = y 1) (j : Fin 1024) (hj : j = y 2) (n : Fin 8192) (hn : n.val = (rb t).val * 512 + p.val) :
    ((cfg0.win 12).blk t).view.emb y = (ix3 (bat t) n j : S8x8192x1024.Idx) := by
  have hy0 : y 0 = (0 : Fin 1) := Subsingleton.elim (α := Fin 1) _ _
  have e1 : cc0_transform_12 (grid0.coords t) = _ := map12 (grid0.coords t)
  funext a; apply Fin.ext
  fin_cases a
  · show cc0_transform_12 (grid0.coords t) 0 * 1 + 1 * (y 0).val = (bat t).val
    rw [e1, hy0]; exact place_one _
  · show cc0_transform_12 (grid0.coords t) 1 * 512 + 1 * (y 1).val = n.val
    rw [e1, ← hp, hn]; exact place _ _ _
  · show cc0_transform_12 (grid0.coords t) 2 * 1024 + 1 * (y 2).val = j.val
    rw [e1, ← hj]; exact place_zero _ _

/-- An element of the block, as the block's own index. -/
theorem inj12 (y : ((cfg0.win 12).xblock (cfg0.grid.coords t)).Idx) (p : Fin 512) (hp : p = y 1) (j : Fin 1024) (hj : j = y 2) :
    (cfg0.win 12).xinj (cfg0.grid.coords t) y = (ix3 0 p j : S1x512x1024.Idx) := by
  have hy0 : y 0 = (0 : Fin 1) := Subsingleton.elim (α := Fin 1) _ _
  funext a; fin_cases a
  · exact hy0
  · exact hp.symm
  · exact hj.symm

/-- The array the call leaves. -/
theorem arr_eq12 : (dats m 0 c).arrAt 12 cfg0.N = res12 m c := by
  refine (dats m 0 c).arrAt_eq_of_covers 12 _ covers12 fun t hf y => ?_
  obtain ⟨p, hp⟩ : ∃ p : Fin 512, p = y 1 := ⟨_, rfl⟩
  obtain ⟨j, hj⟩ : ∃ j : Fin 1024, j = y 2 := ⟨_, rfl⟩
  have hr : (rb t).val < 16 := (rb t).isLt
  rw [after0_12]
  rw [inj12 t y p hp j hj, emb12 t y p hp j hj ⟨(rb t).val * 512 + p.val, by omega⟩ rfl]
  exact (cast_eq _ _).trans (blk12 m c t p j _ rfl)

end Cert.PostIdeal.Hand

end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Flash
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Flash
public import proofs.«01_k».proof.Proof.Gen.AttnRefIdeal
public import proofs.«01_k».proof.Proof.Gen.AttnRefIdeal.Run
public import proofs.«01_k».proof.Proof.Gen.Moe
public import proofs.«01_k».proof.Proof.Gen.Moe.Skeleton
public import proofs.«01_k».proof.Proof.Gen.Moe.Launch
public import proofs.«01_k».proof.Proof.Gen.Moe.Flash
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Flash
public import proofs.«01_k».proof.Proof.Gen.MoeRefIdeal
public import proofs.«01_k».proof.Proof.Gen.MoeRefIdeal.Run
public import proofs.«01_k».proof.Proof.Gen.Pre_experts
public import proofs.«01_k».proof.Proof.Attn.Frame
public import proofs.«01_k».proof.Proof.AttnIdeal.Frame
public import proofs.«01_k».proof.Proof.AttnRef.Join
public import proofs.«01_k».proof.Proof.Moe.Frame
public import proofs.«01_k».proof.Proof.MoeIdeal.Frame
public import proofs.«01_k».proof.Proof.MoeRef.Join
public import proofs.«01_k».proof.Proof.Pre.Experts
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.ProjIdeal.Value
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.PostRefIdeal.Run
public import proofs.«01_k».proof.Proof.Gen.PostIdeal.Value
public import proofs.«01_k».proof.Proof.PostIdeal.Value
public import Idealize.ShloMosaic.Lib.Claim
public import Idealize.ShloMosaic.Adequacy
public import Idealize.ShloMosaic.Init

@[expose] public section

noncomputable section

namespace Cert.Proof

open Idealize.ShloMosaic Idealize.SL.Sem Cert.Attn

/-- The reference runs, keeps its arguments, and has no semaphores at all. -/
theorem frame_attn_ref : Cert.quiescent_AttnRefIdeal := fun m ρ _ =>
  (θ_run Cert.AttnRefIdeal.defs _ _).mono
    (fun r h => ⟨fun c => (h c).2, Idealize.ShloMosaic.sem_eq_zero_of_no_sems (by decide) r.2⟩)
    (Cert.AttnRefIdeal.Value.run (F := Ideal) m ρ)

/-- The kernel's mask constant is named, and its name stands for minus infinity. -/
theorem preserves_attn : Cert.preserves_Attn_AttnIdeal :=
  IdealRules.named_const.statement Cert.AttnIdeal.κ "mask" .f32 0xF149F2CA#32 ⊥ rfl

/-- What the precondition gives on core `c`: a real lambda, and real visible values. -/
theorem reals_of_pre (m : (ℓ : Loc Cert.AttnIdeal.nD Cert.AttnIdeal.τ Cert.AttnIdeal.sig) → Buf (Elt Ideal) ℓ)
    (hpre : Cert.Pre_AttnIdeal_finite_values (hPre_finite_values := Cert.Pre_finite_values.Hand.facts) m) (c : Dev Cert.AttnIdeal.nD) :
    (∃ r : ℝ, Cert.AttnIdeal.Hand.lamM m c = (r : EReal))
    ∧ ∀ (b : Fin 8) (j : Fin 8208) (x : Fin 512), ∃ y : ℝ,
      m ((c.tc : Thread Cert.AttnIdeal.nD Cert.AttnIdeal.τ).loc Cert.AttnIdeal.main_arg2) (ix3 b ⟨j, Cert.AttnIdeal.Hand.key_lt j⟩ x) = (y : EReal) := by
  obtain ⟨hv, ha, hb, ha', hb'⟩ := Cert.Pre_finite_values.Hand.reals _ _ _ _ _ _ _ _ (hpre c)
  exact ⟨Cert.Pre_finite_values.Hand.lamE_real _ _ _ _ ha hb ha' hb', hv⟩

/-- Where the precondition holds, kernel and reference end with equal results over the extended reals. -/
theorem algebraic_attn : Cert.algebraic_AttnIdeal_AttnRefIdeal_pre_finite_values (hPre_finite_values := Cert.Pre_finite_values.Hand.facts) := by
  intro m g m' g' hpre hagree
  refine ⟨fun c => Cert.AttnIdeal.Hand.res m c (reals_of_pre m hpre c).1.choose, ?_, ?_⟩
  · refine (θ_run Cert.AttnIdeal.defs _ _).mono (fun r h => ?_)
      (θ_run_and (Cert.AttnIdeal.Hand.run_main (F := Ideal) m g) (Cert.AttnIdeal.Hand.frame (F := Ideal) m g))
    intro c
    refine ⟨((h.1.1 c).1 8).trans ?_, h.2.1 c⟩
    exact Cert.AttnIdeal.Hand.arr_eq m c _ (reals_of_pre m hpre c).1.choose_spec (reals_of_pre m hpre c).2
  · refine (θ_run Cert.AttnRefIdeal.defs _ _).mono (fun r h c => ⟨(h c).1.trans ?_, (h c).2⟩)
      (Cert.AttnRefIdeal.Value.run (F := Ideal) m' g')
    obtain ⟨h0, h1, h2, h3, h4, h5, h6, h7⟩ := hagree c
    rw [Cert.AttnRefIdeal.Hand.res_eq, h0, h1, h2, h3, h4, h5, h6, h7]
    exact Cert.AttnIdeal.Hand.ref_eq m c _ (reals_of_pre m hpre c).1.choose_spec (reals_of_pre m hpre c).2

/-- Under the precondition every block's expert is one of the 32, for the kernel. -/
theorem ok_moe (m : (ℓ : Loc Cert.Moe.nD Cert.Moe.τ Cert.Moe.sig) → Buf (Elt Bits) ℓ)
    (hpre : Cert.Pre_Moe (hPre_experts := Cert.Pre_experts.Gen.facts) m) : Cert.Moe.Hand.Ok m :=
  fun i => Cert.Pre_experts.Hand.experts_lt _ _ _ _ _ _ _ (hpre 0) (Cert.Moe.Hand.at1056 i)

/-- Under the precondition every block's expert is one of the 32, for the ideal kernel. -/
theorem ok_moe_ideal (m : (ℓ : Loc Cert.MoeIdeal.nD Cert.MoeIdeal.τ Cert.MoeIdeal.sig) → Buf (Elt Ideal) ℓ)
    (hpre : Cert.Pre_MoeIdeal (hPre_experts := Cert.Pre_experts.Gen.facts) m) : Cert.MoeIdeal.Hand.Ok m :=
  fun i => Cert.Pre_experts.Hand.experts_lt _ _ _ _ _ _ _ (hpre 0) (Cert.MoeIdeal.Hand.at1056 i)

/-- The reference of the experts runs, keeps its arguments, and has no semaphores at all. -/
theorem frame_moe_ref : Cert.quiescent_MoeRefIdeal (hPre_experts := Cert.Pre_experts.Gen.facts) := fun m ρ _ =>
  (θ_run Cert.MoeRefIdeal.defs _ _).mono
    (fun r h => ⟨fun c => (h c).2, Idealize.ShloMosaic.sem_eq_zero_of_no_sems (by decide) r.2⟩)
    (Cert.MoeRefIdeal.Value.run (F := Ideal) m ρ)

/-- Where every block names an expert, kernel and reference of the experts end with equal results over the extended reals. -/
theorem algebraic_moe : Cert.algebraic_MoeIdeal_MoeRefIdeal (hPre_experts := Cert.Pre_experts.Gen.facts) := by
  intro m g m' g' hpre hagree
  have hok := ok_moe_ideal m hpre
  refine ⟨fun c => Cert.MoeIdeal.Hand.res m hok c, ?_, ?_⟩
  · refine (θ_run Cert.MoeIdeal.defs _ _).mono (fun r h => ?_)
      (θ_run_and (Cert.MoeIdeal.Hand.run_main (F := Ideal) m g hok) (Cert.MoeIdeal.Hand.frame (F := Ideal) m g hok))
    exact fun c => ⟨((h.1.1 c).1 (5 : Fin 6)).trans (Cert.MoeIdeal.Hand.arr_eq m hok c), h.2.1 c⟩
  · refine (θ_run Cert.MoeRefIdeal.defs _ _).mono (fun r h c => ⟨(h c).1.trans ?_, (h c).2⟩)
      (Cert.MoeRefIdeal.Value.run (F := Ideal) m' g')
    obtain ⟨h0, h1, h2, h3, h4, h5, h6⟩ := hagree c
    rw [Cert.MoeRefIdeal.Hand.res_eq, h0, h1, h2, h3, h4, h5, h6]
    exact Cert.MoeIdeal.Hand.ref_eq m hok c

/-- The reference of the projections runs, keeps its arguments, and has no semaphores at all. -/
theorem frame_proj_ref : Cert.quiescent_ProjRefIdeal := fun m ρ _ =>
  (θ_run Cert.ProjRefIdeal.defs _ _).mono
    (fun r h => ⟨fun c => (h c).2.2.2.2, Idealize.ShloMosaic.sem_eq_zero_of_no_sems (by decide) r.2⟩)
    (Cert.ProjRefIdeal.Value.run (F := Ideal) m ρ)

/-- Kernel and reference of the projections end with equal results over the extended reals, from any arguments. -/
theorem algebraic_proj : Cert.algebraic_ProjIdeal_ProjRefIdeal := by
  intro m g m' g' _ hagree
  refine ⟨fun c => Cert.ProjIdeal.Hand.res7 m c, fun c => Cert.ProjIdeal.Hand.res12 m c, fun c => Cert.ProjIdeal.Hand.res17 m c,
    fun c => Cert.ProjIdeal.Hand.res18 m c, ?_, ?_⟩
  · refine (θ_run Cert.ProjIdeal.defs _ _).mono (fun r h c => ?_) (Cert.ProjIdeal.Value.run_blocks (F := Ideal) m g)
    obtain ⟨-, -, -, h7, -, -, -, -, h12, -, -, -, -, h17, h18, hargs⟩ := h c
    exact ⟨h7.trans (Cert.ProjIdeal.Hand.arr_eq7 m c), h12.trans (Cert.ProjIdeal.Hand.arr_eq12 m c),
      h17.trans (Cert.ProjIdeal.Hand.arr_eq17 m c), h18.trans (Cert.ProjIdeal.Hand.arr_eq18 m c), hargs⟩
  · refine (θ_run Cert.ProjRefIdeal.defs _ _).mono (fun r h c => ?_) (Cert.ProjRefIdeal.Value.run (F := Ideal) m' g')
    obtain ⟨h7, h12, h17, h18, hargs⟩ := h c
    obtain ⟨h0, h1, h2, h3⟩ := hagree c
    rw [h0, h2, h3] at h7 h12 h17 h18
    exact ⟨h7.trans (Cert.ProjIdeal.Hand.ref_eq7 m c), h12.trans (Cert.ProjIdeal.Hand.ref_eq12 m c),
      h17.trans (Cert.ProjIdeal.Hand.ref_eq17 m c), h18.trans (Cert.ProjIdeal.Hand.ref_eq18 m c), hargs⟩

/-- The reference of the output projections runs, keeps its arguments, and has no semaphores at all. -/
theorem frame_post_ref : Cert.quiescent_PostRefIdeal := fun m ρ _ =>
  (θ_run Cert.PostRefIdeal.defs _ _).mono
    (fun r h => ⟨fun c => (h c).2.2, Idealize.ShloMosaic.sem_eq_zero_of_no_sems (by decide) r.2⟩)
    (Cert.PostRefIdeal.Value.run (F := Ideal) m ρ)

/-- Kernel and reference of the output projections end with equal results over the extended reals, from any arguments. -/
theorem algebraic_post : Cert.algebraic_PostIdeal_PostRefIdeal := by
  intro m g m' g' _ hagree
  refine ⟨fun c => Cert.PostIdeal.Hand.res11 m c, fun c => Cert.PostIdeal.Hand.res12 m c, ?_, ?_⟩
  · refine (θ_run Cert.PostIdeal.defs _ _).mono (fun r h c => ?_) (Cert.PostIdeal.Value.run_blocks (F := Ideal) m g)
    obtain ⟨h11, h12, -, hargs⟩ := h c
    exact ⟨h11.trans (Cert.PostIdeal.Hand.arr_eq11 m c), h12.trans (Cert.PostIdeal.Hand.arr_eq12 m c), hargs⟩
  · refine (θ_run Cert.PostRefIdeal.defs _ _).mono (fun r h c => ?_) (Cert.PostRefIdeal.Value.run (F := Ideal) m' g')
    obtain ⟨h11, h12, hargs⟩ := h c
    obtain ⟨h0, h1, h2, h3, h4, h5, h6, h7, h8, -, -⟩ := hagree c
    unfold Cert.PostRefIdeal.Value.res_main_v33 at h12
    rw [h0, h1, h2, h3, h4, h5, h6, h7] at h11 h12
    rw [h8] at h12
    exact ⟨h11.trans (Cert.PostIdeal.Hand.ref_eq11 m c), h12.trans (Cert.PostIdeal.Hand.ref_eq12 m c), hargs⟩

/-- Every claim made about the projections, the differential attention, the output projections and the experts. -/
theorem claim : Cert.Claim :=
  ⟨Cert.Attn.Gen.facts, Cert.AttnIdeal.Gen.facts, Cert.AttnRefIdeal.Gen.facts,
    Cert.Moe.Gen.facts, Cert.MoeIdeal.Gen.facts, Cert.MoeRefIdeal.Gen.facts,
    Cert.Proj.Gen.facts, Cert.ProjIdeal.Gen.facts, Cert.ProjRefIdeal.Gen.facts,
    Cert.Post.Gen.facts, Cert.PostIdeal.Gen.facts, Cert.PostRefIdeal.Gen.facts,
    Cert.Pre_finite_values.Hand.facts, Cert.Pre_experts.Gen.facts,
    fun m ρ _ => Cert.Attn.Hand.frame m ρ,
    fun m ρ _ => Cert.AttnIdeal.Hand.frame m ρ,
    fun m ρ _ => Cert.AttnIdeal.Hand.frame m ρ,
    frame_attn_ref, fun m ρ _ => frame_attn_ref m ρ trivial,
    fun m ρ h => Cert.Moe.Hand.frame m ρ (ok_moe m h),
    fun m ρ h => Cert.MoeIdeal.Hand.frame m ρ (ok_moe_ideal m h),
    frame_moe_ref,
    fun m ρ _ => Cert.Proj.Gen.frame m ρ,
    fun m ρ _ => Cert.ProjIdeal.Gen.frame m ρ,
    frame_proj_ref,
    fun m ρ _ => Cert.Post.Gen.frame m ρ,
    fun m ρ _ => Cert.PostIdeal.Gen.frame m ρ,
    frame_post_ref, preserves_attn, algebraic_attn, trivial, algebraic_moe, trivial, algebraic_proj, trivial, algebraic_post⟩

end Cert.Proof

end
